-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Gmoe [hPre_tables : Cert.Pre_tables.Facts] (m : (ℓ : Loc Cert.Gmoe.nD Cert.Gmoe.τ Cert.Gmoe.sig) → Buf (Elt Bits) ℓ) : Prop :=
  ∀ c : Dev Cert.Gmoe.nD,
    (Cert.Pre_tables.fn (F := Bits) (m ((c.tc : Thread Cert.Gmoe.nD Cert.Gmoe.τ).loc Cert.Gmoe.main_arg0)) (m ((c.tc : Thread Cert.Gmoe.nD Cert.Gmoe.τ).loc Cert.Gmoe.main_arg1)) (m ((c.tc : Thread Cert.Gmoe.nD Cert.Gmoe.τ).loc Cert.Gmoe.main_arg2)) (m ((c.tc : Thread Cert.Gmoe.nD Cert.Gmoe.τ).loc Cert.Gmoe.main_arg3)) (m ((c.tc : Thread Cert.Gmoe.nD Cert.Gmoe.τ).loc Cert.Gmoe.main_arg4)) (m ((c.tc : Thread Cert.Gmoe.nD Cert.Gmoe.τ).loc Cert.Gmoe.main_arg5)) (m ((c.tc : Thread Cert.Gmoe.nD Cert.Gmoe.τ).loc Cert.Gmoe.main_arg6))).1 = (fun _ => 1#1)
    ∧ (Cert.Pre_tables.fn (F := Bits) (m ((c.tc : Thread Cert.Gmoe.nD Cert.Gmoe.τ).loc Cert.Gmoe.main_arg0)) (m ((c.tc : Thread Cert.Gmoe.nD Cert.Gmoe.τ).loc Cert.Gmoe.main_arg1)) (m ((c.tc : Thread Cert.Gmoe.nD Cert.Gmoe.τ).loc Cert.Gmoe.main_arg2)) (m ((c.tc : Thread Cert.Gmoe.nD Cert.Gmoe.τ).loc Cert.Gmoe.main_arg3)) (m ((c.tc : Thread Cert.Gmoe.nD Cert.Gmoe.τ).loc Cert.Gmoe.main_arg4)) (m ((c.tc : Thread Cert.Gmoe.nD Cert.Gmoe.τ).loc Cert.Gmoe.main_arg5)) (m ((c.tc : Thread Cert.Gmoe.nD Cert.Gmoe.τ).loc Cert.Gmoe.main_arg6))).2 = (fun _ => 1#1)

def Pre_GmoeIdeal [hPre_tables : Cert.Pre_tables.Facts] (m : (ℓ : Loc Cert.GmoeIdeal.nD Cert.GmoeIdeal.τ Cert.GmoeIdeal.sig) → Buf (Elt Ideal) ℓ) : Prop :=
  ∀ c : Dev Cert.GmoeIdeal.nD,
    (Cert.Pre_tables.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).1 = (fun _ => 1#1)
    ∧ (Cert.Pre_tables.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2 = (fun _ => 1#1)

def Pre_GmoeIdeal_routed [hPre_routed : Cert.Pre_routed.Facts] (m : (ℓ : Loc Cert.GmoeIdeal.nD Cert.GmoeIdeal.τ Cert.GmoeIdeal.sig) → Buf (Elt Ideal) ℓ) : Prop :=
  ∀ c : Dev Cert.GmoeIdeal.nD,
    (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.2.2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.2.2.2.2.1 = (fun _ => 1#1)
    ∧ (Cert.Pre_routed.fn (F := Ideal) (m ((c.tc : Thread Cert.GmoeIdeal.nD Cert.GmoeIdeal.τ).loc Cert.GmoeIdeal.main_arg0)) (m ((c.tc : Thread Cert.GmoeIdeal.nD Cert.GmoeIdeal.τ).loc Cert.GmoeIdeal.main_arg1)) (m ((c.tc : Thread Cert.GmoeIdeal.nD Cert.GmoeIdeal.τ).loc Cert.GmoeIdeal.main_arg2)) (m ((c.tc : Thread Cert.GmoeIdeal.nD Cert.GmoeIdeal.τ).loc Cert.GmoeIdeal.main_arg3)) (m ((c.tc : Thread Cert.GmoeIdeal.nD Cert.GmoeIdeal.τ).loc Cert.GmoeIdeal.main_arg4)) (m ((c.tc : Thread Cert.GmoeIdeal.nD Cert.GmoeIdeal.τ).loc Cert.GmoeIdeal.main_arg5)) (m ((c.tc : Thread Cert.GmoeIdeal.nD Cert.GmoeIdeal.τ).loc Cert.GmoeIdeal.main_arg6))).2.2.2.2.2.2.2.2 = (fun _ => 1#1)

def Pre_GmoeRefIdeal (m : (ℓ : Loc Cert.GmoeRefIdeal.nD Cert.GmoeRefIdeal.τ Cert.GmoeRefIdeal.sig) → Buf (Elt Ideal) ℓ) : Prop :=
  True

def Pre_GmoeRefIdeal_routed [hPre_routed : Cert.Pre_routed.Facts] (m : (ℓ : Loc Cert.GmoeRefIdeal.nD Cert.GmoeRefIdeal.τ Cert.GmoeRefIdeal.sig) → Buf (Elt Ideal) ℓ) : Prop :=
  ∀ c : Dev Cert.GmoeRefIdeal.nD,
    (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.2.2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.2.2.2.2.1 = (fun _ => 1#1)
    ∧ (Cert.Pre_routed.fn (F := Ideal) (m ((c.tc : Thread Cert.GmoeRefIdeal.nD Cert.GmoeRefIdeal.τ).loc Cert.GmoeRefIdeal.main_arg0)) (m ((c.tc : Thread Cert.GmoeRefIdeal.nD Cert.GmoeRefIdeal.τ).loc Cert.GmoeRefIdeal.main_arg1)) (m ((c.tc : Thread Cert.GmoeRefIdeal.nD Cert.GmoeRefIdeal.τ).loc Cert.GmoeRefIdeal.main_arg2)) (m ((c.tc : Thread Cert.GmoeRefIdeal.nD Cert.GmoeRefIdeal.τ).loc Cert.GmoeRefIdeal.main_arg3)) (m ((c.tc : Thread Cert.GmoeRefIdeal.nD Cert.GmoeRefIdeal.τ).loc Cert.GmoeRefIdeal.main_arg4)) (m ((c.tc : Thread Cert.GmoeRefIdeal.nD Cert.GmoeRefIdeal.τ).loc Cert.GmoeRefIdeal.main_arg5)) (m ((c.tc : Thread Cert.GmoeRefIdeal.nD Cert.GmoeRefIdeal.τ).loc Cert.GmoeRefIdeal.main_arg6))).2.2.2.2.2.2.2.2 = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_experts [hPre_finite_experts : Cert.Pre_finite_experts.Facts] (m : (ℓ : Loc Cert.MoeIdeal.nD Cert.MoeIdeal.τ Cert.MoeIdeal.sig) → Buf (Elt Ideal) ℓ) : Prop :=
  ∀ c : Dev Cert.MoeIdeal.nD,
    (Cert.Pre_finite_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).1 = (fun _ => 1#1)
    ∧ (Cert.Pre_finite_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.1 = (fun _ => 1#1)
    ∧ (Cert.Pre_finite_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.2.1 = (fun _ => 1#1)
    ∧ (Cert.Pre_finite_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.2.2.1 = (fun _ => 1#1)
    ∧ (Cert.Pre_finite_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_experts [hPre_finite_experts : Cert.Pre_finite_experts.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).1 = (fun _ => 1#1)
    ∧ (Cert.Pre_finite_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.1 = (fun _ => 1#1)
    ∧ (Cert.Pre_finite_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.2.1 = (fun _ => 1#1)
    ∧ (Cert.Pre_finite_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.2.2.1 = (fun _ => 1#1)
    ∧ (Cert.Pre_finite_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.2.2.2 = (fun _ => 1#1)

def Pre_Sswa (m : (ℓ : Loc Cert.Sswa.nD Cert.Sswa.τ Cert.Sswa.sig) → Buf (Elt Bits) ℓ) : Prop :=
  True

def Pre_SswaIdeal (m : (ℓ : Loc Cert.SswaIdeal.nD Cert.SswaIdeal.τ Cert.SswaIdeal.sig) → Buf (Elt Ideal) ℓ) : Prop :=
  True

def Pre_SswaRefIdeal (m : (ℓ : Loc Cert.SswaRefIdeal.nD Cert.SswaRefIdeal.τ Cert.SswaRefIdeal.sig) → Buf (Elt Ideal) ℓ) : Prop :=
  True

def Pre_Sssm (m : (ℓ : Loc Cert.Sssm.nD Cert.Sssm.τ Cert.Sssm.sig) → Buf (Elt Bits) ℓ) : Prop :=
  True

def Pre_SssmIdeal (m : (ℓ : Loc Cert.SssmIdeal.nD Cert.SssmIdeal.τ Cert.SssmIdeal.sig) → Buf (Elt Ideal) ℓ) : Prop :=
  True

def Pre_SssmRefIdeal (m : (ℓ : Loc Cert.SssmRefIdeal.nD Cert.SssmRefIdeal.τ Cert.SssmRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Gmoe [hGmoe : Cert.Gmoe.Facts] [hPre_tables : Cert.Pre_tables.Facts] : Prop :=
  ∀ (m : (ℓ : Loc Cert.Gmoe.nD Cert.Gmoe.τ Cert.Gmoe.sig) → Buf (Elt Bits) ℓ) (g : Dev Cert.Gmoe.nD → PrngReg), Pre_Gmoe m →
    θ_run (Cert.Gmoe.defs (F := Bits)) (onTc (τ := Cert.Gmoe.τ) (Cert.Gmoe.main (F := Bits))) ⟨m, fun _ => 0, g⟩ (fun r => (∀ c : Dev Cert.Gmoe.nD,
      r.2.mem ((c.tc : Thread Cert.Gmoe.nD Cert.Gmoe.τ).loc Cert.Gmoe.main_arg0) = m ((c.tc : Thread Cert.Gmoe.nD Cert.Gmoe.τ).loc Cert.Gmoe.main_arg0)
      ∧ r.2.mem ((c.tc : Thread Cert.Gmoe.nD Cert.Gmoe.τ).loc Cert.Gmoe.main_arg1) = m ((c.tc : Thread Cert.Gmoe.nD Cert.Gmoe.τ).loc Cert.Gmoe.main_arg1)
      ∧ r.2.mem ((c.tc : Thread Cert.Gmoe.nD Cert.Gmoe.τ).loc Cert.Gmoe.main_arg2) = m ((c.tc : Thread Cert.Gmoe.nD Cert.Gmoe.τ).loc Cert.Gmoe.main_arg2)
      ∧ r.2.mem ((c.tc : Thread Cert.Gmoe.nD Cert.Gmoe.τ).loc Cert.Gmoe.main_arg3) = m ((c.tc : Thread Cert.Gmoe.nD Cert.Gmoe.τ).loc Cert.Gmoe.main_arg3)
      ∧ r.2.mem ((c.tc : Thread Cert.Gmoe.nD Cert.Gmoe.τ).loc Cert.Gmoe.main_arg4) = m ((c.tc : Thread Cert.Gmoe.nD Cert.Gmoe.τ).loc Cert.Gmoe.main_arg4)
      ∧ r.2.mem ((c.tc : Thread Cert.Gmoe.nD Cert.Gmoe.τ).loc Cert.Gmoe.main_arg5) = m ((c.tc : Thread Cert.Gmoe.nD Cert.Gmoe.τ).loc Cert.Gmoe.main_arg5)
      ∧ r.2.mem ((c.tc : Thread Cert.Gmoe.nD Cert.Gmoe.τ).loc Cert.Gmoe.main_arg6) = m ((c.tc : Thread Cert.Gmoe.nD Cert.Gmoe.τ).loc Cert.Gmoe.main_arg6))
      ∧ r.2.sem = fun _ => 0)

def quiescent_GmoeIdeal [hGmoeIdeal : Cert.GmoeIdeal.Facts] [hPre_tables : Cert.Pre_tables.Facts] : Prop :=
  ∀ (m : (ℓ : Loc Cert.GmoeIdeal.nD Cert.GmoeIdeal.τ Cert.GmoeIdeal.sig) → Buf (Elt Ideal) ℓ) (g : Dev Cert.GmoeIdeal.nD → PrngReg), Pre_GmoeIdeal m →
    θ_run (Cert.GmoeIdeal.defs (F := Ideal)) (onTc (τ := Cert.GmoeIdeal.τ) (Cert.GmoeIdeal.main (F := Ideal))) ⟨m, fun _ => 0, g⟩ (fun r => (∀ c : Dev Cert.GmoeIdeal.nD,
      r.2.mem ((c.tc : Thread Cert.GmoeIdeal.nD Cert.GmoeIdeal.τ).loc Cert.GmoeIdeal.main_arg0) = m ((c.tc : Thread Cert.GmoeIdeal.nD Cert.GmoeIdeal.τ).loc Cert.GmoeIdeal.main_arg0)
      ∧ r.2.mem ((c.tc : Thread Cert.GmoeIdeal.nD Cert.GmoeIdeal.τ).loc Cert.GmoeIdeal.main_arg1) = m ((c.tc : Thread Cert.GmoeIdeal.nD Cert.GmoeIdeal.τ).loc Cert.GmoeIdeal.main_arg1)
      ∧ r.2.mem ((c.tc : Thread Cert.GmoeIdeal.nD Cert.GmoeIdeal.τ).loc Cert.GmoeIdeal.main_arg2) = m ((c.tc : Thread Cert.GmoeIdeal.nD Cert.GmoeIdeal.τ).loc Cert.GmoeIdeal.main_arg2)
      ∧ r.2.mem ((c.tc : Thread Cert.GmoeIdeal.nD Cert.GmoeIdeal.τ).loc Cert.GmoeIdeal.main_arg3) = m ((c.tc : Thread Cert.GmoeIdeal.nD Cert.GmoeIdeal.τ).loc Cert.GmoeIdeal.main_arg3)
      ∧ r.2.mem ((c.tc : Thread Cert.GmoeIdeal.nD Cert.GmoeIdeal.τ).loc Cert.GmoeIdeal.main_arg4) = m ((c.tc : Thread Cert.GmoeIdeal.nD Cert.GmoeIdeal.τ).loc Cert.GmoeIdeal.main_arg4)
      ∧ r.2.mem ((c.tc : Thread Cert.GmoeIdeal.nD Cert.GmoeIdeal.τ).loc Cert.GmoeIdeal.main_arg5) = m ((c.tc : Thread Cert.GmoeIdeal.nD Cert.GmoeIdeal.τ).loc Cert.GmoeIdeal.main_arg5)
      ∧ r.2.mem ((c.tc : Thread Cert.GmoeIdeal.nD Cert.GmoeIdeal.τ).loc Cert.GmoeIdeal.main_arg6) = m ((c.tc : Thread Cert.GmoeIdeal.nD Cert.GmoeIdeal.τ).loc Cert.GmoeIdeal.main_arg6))
      ∧ r.2.sem = fun _ => 0)

def quiescent_GmoeIdeal_pre_routed [hGmoeIdeal : Cert.GmoeIdeal.Facts] [hPre_routed : Cert.Pre_routed.Facts] : Prop :=
  ∀ (m : (ℓ : Loc Cert.GmoeIdeal.nD Cert.GmoeIdeal.τ Cert.GmoeIdeal.sig) → Buf (Elt Ideal) ℓ) (g : Dev Cert.GmoeIdeal.nD → PrngReg), Pre_GmoeIdeal_routed m →
    θ_run (Cert.GmoeIdeal.defs (F := Ideal)) (onTc (τ := Cert.GmoeIdeal.τ) (Cert.GmoeIdeal.main (F := Ideal))) ⟨m, fun _ => 0, g⟩ (fun r => (∀ c : Dev Cert.GmoeIdeal.nD,
      r.2.mem ((c.tc : Thread Cert.GmoeIdeal.nD Cert.GmoeIdeal.τ).loc Cert.GmoeIdeal.main_arg0) = m ((c.tc : Thread Cert.GmoeIdeal.nD Cert.GmoeIdeal.τ).loc Cert.GmoeIdeal.main_arg0)
      ∧ r.2.mem ((c.tc : Thread Cert.GmoeIdeal.nD Cert.GmoeIdeal.τ).loc Cert.GmoeIdeal.main_arg1) = m ((c.tc : Thread Cert.GmoeIdeal.nD Cert.GmoeIdeal.τ).loc Cert.GmoeIdeal.main_arg1)
      ∧ r.2.mem ((c.tc : Thread Cert.GmoeIdeal.nD Cert.GmoeIdeal.τ).loc Cert.GmoeIdeal.main_arg2) = m ((c.tc : Thread Cert.GmoeIdeal.nD Cert.GmoeIdeal.τ).loc Cert.GmoeIdeal.main_arg2)
      ∧ r.2.mem ((c.tc : Thread Cert.GmoeIdeal.nD Cert.GmoeIdeal.τ).loc Cert.GmoeIdeal.main_arg3) = m ((c.tc : Thread Cert.GmoeIdeal.nD Cert.GmoeIdeal.τ).loc Cert.GmoeIdeal.main_arg3)
      ∧ r.2.mem ((c.tc : Thread Cert.GmoeIdeal.nD Cert.GmoeIdeal.τ).loc Cert.GmoeIdeal.main_arg4) = m ((c.tc : Thread Cert.GmoeIdeal.nD Cert.GmoeIdeal.τ).loc Cert.GmoeIdeal.main_arg4)
      ∧ r.2.mem ((c.tc : Thread Cert.GmoeIdeal.nD Cert.GmoeIdeal.τ).loc Cert.GmoeIdeal.main_arg5) = m ((c.tc : Thread Cert.GmoeIdeal.nD Cert.GmoeIdeal.τ).loc Cert.GmoeIdeal.main_arg5)
      ∧ r.2.mem ((c.tc : Thread Cert.GmoeIdeal.nD Cert.GmoeIdeal.τ).loc Cert.GmoeIdeal.main_arg6) = m ((c.tc : Thread Cert.GmoeIdeal.nD Cert.GmoeIdeal.τ).loc Cert.GmoeIdeal.main_arg6))
      ∧ r.2.sem = fun _ => 0)

def quiescent_GmoeRefIdeal [hGmoeRefIdeal : Cert.GmoeRefIdeal.Facts] : Prop :=
  ∀ (m : (ℓ : Loc Cert.GmoeRefIdeal.nD Cert.GmoeRefIdeal.τ Cert.GmoeRefIdeal.sig) → Buf (Elt Ideal) ℓ) (g : Dev Cert.GmoeRefIdeal.nD → PrngReg), Pre_GmoeRefIdeal m →
    θ_run (Cert.GmoeRefIdeal.defs (F := Ideal)) (onTc (τ := Cert.GmoeRefIdeal.τ) (Cert.GmoeRefIdeal.main (F := Ideal))) ⟨m, fun _ => 0, g⟩ (fun r => (∀ c : Dev Cert.GmoeRefIdeal.nD,
      r.2.mem ((c.tc : Thread Cert.GmoeRefIdeal.nD Cert.GmoeRefIdeal.τ).loc Cert.GmoeRefIdeal.main_arg0) = m ((c.tc : Thread Cert.GmoeRefIdeal.nD Cert.GmoeRefIdeal.τ).loc Cert.GmoeRefIdeal.main_arg0)
      ∧ r.2.mem ((c.tc : Thread Cert.GmoeRefIdeal.nD Cert.GmoeRefIdeal.τ).loc Cert.GmoeRefIdeal.main_arg1) = m ((c.tc : Thread Cert.GmoeRefIdeal.nD Cert.GmoeRefIdeal.τ).loc Cert.GmoeRefIdeal.main_arg1)
      ∧ r.2.mem ((c.tc : Thread Cert.GmoeRefIdeal.nD Cert.GmoeRefIdeal.τ).loc Cert.GmoeRefIdeal.main_arg2) = m ((c.tc : Thread Cert.GmoeRefIdeal.nD Cert.GmoeRefIdeal.τ).loc Cert.GmoeRefIdeal.main_arg2)
      ∧ r.2.mem ((c.tc : Thread Cert.GmoeRefIdeal.nD Cert.GmoeRefIdeal.τ).loc Cert.GmoeRefIdeal.main_arg3) = m ((c.tc : Thread Cert.GmoeRefIdeal.nD Cert.GmoeRefIdeal.τ).loc Cert.GmoeRefIdeal.main_arg3)
      ∧ r.2.mem ((c.tc : Thread Cert.GmoeRefIdeal.nD Cert.GmoeRefIdeal.τ).loc Cert.GmoeRefIdeal.main_arg4) = m ((c.tc : Thread Cert.GmoeRefIdeal.nD Cert.GmoeRefIdeal.τ).loc Cert.GmoeRefIdeal.main_arg4)
      ∧ r.2.mem ((c.tc : Thread Cert.GmoeRefIdeal.nD Cert.GmoeRefIdeal.τ).loc Cert.GmoeRefIdeal.main_arg5) = m ((c.tc : Thread Cert.GmoeRefIdeal.nD Cert.GmoeRefIdeal.τ).loc Cert.GmoeRefIdeal.main_arg5)
      ∧ r.2.mem ((c.tc : Thread Cert.GmoeRefIdeal.nD Cert.GmoeRefIdeal.τ).loc Cert.GmoeRefIdeal.main_arg6) = m ((c.tc : Thread Cert.GmoeRefIdeal.nD Cert.GmoeRefIdeal.τ).loc Cert.GmoeRefIdeal.main_arg6))
      ∧ r.2.sem = fun _ => 0)

def quiescent_GmoeRefIdeal_pre_routed [hGmoeRefIdeal : Cert.GmoeRefIdeal.Facts] [hPre_routed : Cert.Pre_routed.Facts] : Prop :=
  ∀ (m : (ℓ : Loc Cert.GmoeRefIdeal.nD Cert.GmoeRefIdeal.τ Cert.GmoeRefIdeal.sig) → Buf (Elt Ideal) ℓ) (g : Dev Cert.GmoeRefIdeal.nD → PrngReg), Pre_GmoeRefIdeal_routed m →
    θ_run (Cert.GmoeRefIdeal.defs (F := Ideal)) (onTc (τ := Cert.GmoeRefIdeal.τ) (Cert.GmoeRefIdeal.main (F := Ideal))) ⟨m, fun _ => 0, g⟩ (fun r => (∀ c : Dev Cert.GmoeRefIdeal.nD,
      r.2.mem ((c.tc : Thread Cert.GmoeRefIdeal.nD Cert.GmoeRefIdeal.τ).loc Cert.GmoeRefIdeal.main_arg0) = m ((c.tc : Thread Cert.GmoeRefIdeal.nD Cert.GmoeRefIdeal.τ).loc Cert.GmoeRefIdeal.main_arg0)
      ∧ r.2.mem ((c.tc : Thread Cert.GmoeRefIdeal.nD Cert.GmoeRefIdeal.τ).loc Cert.GmoeRefIdeal.main_arg1) = m ((c.tc : Thread Cert.GmoeRefIdeal.nD Cert.GmoeRefIdeal.τ).loc Cert.GmoeRefIdeal.main_arg1)
      ∧ r.2.mem ((c.tc : Thread Cert.GmoeRefIdeal.nD Cert.GmoeRefIdeal.τ).loc Cert.GmoeRefIdeal.main_arg2) = m ((c.tc : Thread Cert.GmoeRefIdeal.nD Cert.GmoeRefIdeal.τ).loc Cert.GmoeRefIdeal.main_arg2)
      ∧ r.2.mem ((c.tc : Thread Cert.GmoeRefIdeal.nD Cert.GmoeRefIdeal.τ).loc Cert.GmoeRefIdeal.main_arg3) = m ((c.tc : Thread Cert.GmoeRefIdeal.nD Cert.GmoeRefIdeal.τ).loc Cert.GmoeRefIdeal.main_arg3)
      ∧ r.2.mem ((c.tc : Thread Cert.GmoeRefIdeal.nD Cert.GmoeRefIdeal.τ).loc Cert.GmoeRefIdeal.main_arg4) = m ((c.tc : Thread Cert.GmoeRefIdeal.nD Cert.GmoeRefIdeal.τ).loc Cert.GmoeRefIdeal.main_arg4)
      ∧ r.2.mem ((c.tc : Thread Cert.GmoeRefIdeal.nD Cert.GmoeRefIdeal.τ).loc Cert.GmoeRefIdeal.main_arg5) = m ((c.tc : Thread Cert.GmoeRefIdeal.nD Cert.GmoeRefIdeal.τ).loc Cert.GmoeRefIdeal.main_arg5)
      ∧ r.2.mem ((c.tc : Thread Cert.GmoeRefIdeal.nD Cert.GmoeRefIdeal.τ).loc Cert.GmoeRefIdeal.main_arg6) = m ((c.tc : Thread Cert.GmoeRefIdeal.nD Cert.GmoeRefIdeal.τ).loc Cert.GmoeRefIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12)
      ∧ r.2.mem ((c.tc : Thread Cert.Back.nD Cert.Back.τ).loc Cert.Back.main_arg13) = m ((c.tc : Thread Cert.Back.nD Cert.Back.τ).loc Cert.Back.main_arg13))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12)
      ∧ r.2.mem ((c.tc : Thread Cert.BackRefIdeal.nD Cert.BackRefIdeal.τ).loc Cert.BackRefIdeal.main_arg13) = m ((c.tc : Thread Cert.BackRefIdeal.nD Cert.BackRefIdeal.τ).loc Cert.BackRefIdeal.main_arg13))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_finite_experts [hMoeIdeal : Cert.MoeIdeal.Facts] [hPre_finite_experts : Cert.Pre_finite_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_experts m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_finite_experts [hMoeRefIdeal : Cert.MoeRefIdeal.Facts] [hPre_finite_experts : Cert.Pre_finite_experts.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_experts m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Sswa [hSswa : Cert.Sswa.Facts] : Prop :=
  ∀ (m : (ℓ : Loc Cert.Sswa.nD Cert.Sswa.τ Cert.Sswa.sig) → Buf (Elt Bits) ℓ) (g : Dev Cert.Sswa.nD → PrngReg), Pre_Sswa m →
    θ_run (Cert.Sswa.defs (F := Bits)) (onTc (τ := Cert.Sswa.τ) (Cert.Sswa.main (F := Bits))) ⟨m, fun _ => 0, g⟩ (fun r => (∀ c : Dev Cert.Sswa.nD,
      r.2.mem ((c.tc : Thread Cert.Sswa.nD Cert.Sswa.τ).loc Cert.Sswa.main_arg0) = m ((c.tc : Thread Cert.Sswa.nD Cert.Sswa.τ).loc Cert.Sswa.main_arg0)
      ∧ r.2.mem ((c.tc : Thread Cert.Sswa.nD Cert.Sswa.τ).loc Cert.Sswa.main_arg1) = m ((c.tc : Thread Cert.Sswa.nD Cert.Sswa.τ).loc Cert.Sswa.main_arg1)
      ∧ r.2.mem ((c.tc : Thread Cert.Sswa.nD Cert.Sswa.τ).loc Cert.Sswa.main_arg2) = m ((c.tc : Thread Cert.Sswa.nD Cert.Sswa.τ).loc Cert.Sswa.main_arg2)
      ∧ r.2.mem ((c.tc : Thread Cert.Sswa.nD Cert.Sswa.τ).loc Cert.Sswa.main_arg3) = m ((c.tc : Thread Cert.Sswa.nD Cert.Sswa.τ).loc Cert.Sswa.main_arg3)
      ∧ r.2.mem ((c.tc : Thread Cert.Sswa.nD Cert.Sswa.τ).loc Cert.Sswa.main_arg4) = m ((c.tc : Thread Cert.Sswa.nD Cert.Sswa.τ).loc Cert.Sswa.main_arg4)
      ∧ r.2.mem ((c.tc : Thread Cert.Sswa.nD Cert.Sswa.τ).loc Cert.Sswa.main_arg5) = m ((c.tc : Thread Cert.Sswa.nD Cert.Sswa.τ).loc Cert.Sswa.main_arg5))
      ∧ r.2.sem = fun _ => 0)

def quiescent_SswaIdeal [hSswaIdeal : Cert.SswaIdeal.Facts] : Prop :=
  ∀ (m : (ℓ : Loc Cert.SswaIdeal.nD Cert.SswaIdeal.τ Cert.SswaIdeal.sig) → Buf (Elt Ideal) ℓ) (g : Dev Cert.SswaIdeal.nD → PrngReg), Pre_SswaIdeal m →
    θ_run (Cert.SswaIdeal.defs (F := Ideal)) (onTc (τ := Cert.SswaIdeal.τ) (Cert.SswaIdeal.main (F := Ideal))) ⟨m, fun _ => 0, g⟩ (fun r => (∀ c : Dev Cert.SswaIdeal.nD,
      r.2.mem ((c.tc : Thread Cert.SswaIdeal.nD Cert.SswaIdeal.τ).loc Cert.SswaIdeal.main_arg0) = m ((c.tc : Thread Cert.SswaIdeal.nD Cert.SswaIdeal.τ).loc Cert.SswaIdeal.main_arg0)
      ∧ r.2.mem ((c.tc : Thread Cert.SswaIdeal.nD Cert.SswaIdeal.τ).loc Cert.SswaIdeal.main_arg1) = m ((c.tc : Thread Cert.SswaIdeal.nD Cert.SswaIdeal.τ).loc Cert.SswaIdeal.main_arg1)
      ∧ r.2.mem ((c.tc : Thread Cert.SswaIdeal.nD Cert.SswaIdeal.τ).loc Cert.SswaIdeal.main_arg2) = m ((c.tc : Thread Cert.SswaIdeal.nD Cert.SswaIdeal.τ).loc Cert.SswaIdeal.main_arg2)
      ∧ r.2.mem ((c.tc : Thread Cert.SswaIdeal.nD Cert.SswaIdeal.τ).loc Cert.SswaIdeal.main_arg3) = m ((c.tc : Thread Cert.SswaIdeal.nD Cert.SswaIdeal.τ).loc Cert.SswaIdeal.main_arg3)
      ∧ r.2.mem ((c.tc : Thread Cert.SswaIdeal.nD Cert.SswaIdeal.τ).loc Cert.SswaIdeal.main_arg4) = m ((c.tc : Thread Cert.SswaIdeal.nD Cert.SswaIdeal.τ).loc Cert.SswaIdeal.main_arg4)
      ∧ r.2.mem ((c.tc : Thread Cert.SswaIdeal.nD Cert.SswaIdeal.τ).loc Cert.SswaIdeal.main_arg5) = m ((c.tc : Thread Cert.SswaIdeal.nD Cert.SswaIdeal.τ).loc Cert.SswaIdeal.main_arg5))
      ∧ r.2.sem = fun _ => 0)

def quiescent_SswaRefIdeal [hSswaRefIdeal : Cert.SswaRefIdeal.Facts] : Prop :=
  ∀ (m : (ℓ : Loc Cert.SswaRefIdeal.nD Cert.SswaRefIdeal.τ Cert.SswaRefIdeal.sig) → Buf (Elt Ideal) ℓ) (g : Dev Cert.SswaRefIdeal.nD → PrngReg), Pre_SswaRefIdeal m →
    θ_run (Cert.SswaRefIdeal.defs (F := Ideal)) (onTc (τ := Cert.SswaRefIdeal.τ) (Cert.SswaRefIdeal.main (F := Ideal))) ⟨m, fun _ => 0, g⟩ (fun r => (∀ c : Dev Cert.SswaRefIdeal.nD,
      r.2.mem ((c.tc : Thread Cert.SswaRefIdeal.nD Cert.SswaRefIdeal.τ).loc Cert.SswaRefIdeal.main_arg0) = m ((c.tc : Thread Cert.SswaRefIdeal.nD Cert.SswaRefIdeal.τ).loc Cert.SswaRefIdeal.main_arg0)
      ∧ r.2.mem ((c.tc : Thread Cert.SswaRefIdeal.nD Cert.SswaRefIdeal.τ).loc Cert.SswaRefIdeal.main_arg1) = m ((c.tc : Thread Cert.SswaRefIdeal.nD Cert.SswaRefIdeal.τ).loc Cert.SswaRefIdeal.main_arg1)
      ∧ r.2.mem ((c.tc : Thread Cert.SswaRefIdeal.nD Cert.SswaRefIdeal.τ).loc Cert.SswaRefIdeal.main_arg2) = m ((c.tc : Thread Cert.SswaRefIdeal.nD Cert.SswaRefIdeal.τ).loc Cert.SswaRefIdeal.main_arg2)
      ∧ r.2.mem ((c.tc : Thread Cert.SswaRefIdeal.nD Cert.SswaRefIdeal.τ).loc Cert.SswaRefIdeal.main_arg3) = m ((c.tc : Thread Cert.SswaRefIdeal.nD Cert.SswaRefIdeal.τ).loc Cert.SswaRefIdeal.main_arg3)
      ∧ r.2.mem ((c.tc : Thread Cert.SswaRefIdeal.nD Cert.SswaRefIdeal.τ).loc Cert.SswaRefIdeal.main_arg4) = m ((c.tc : Thread Cert.SswaRefIdeal.nD Cert.SswaRefIdeal.τ).loc Cert.SswaRefIdeal.main_arg4)
      ∧ r.2.mem ((c.tc : Thread Cert.SswaRefIdeal.nD Cert.SswaRefIdeal.τ).loc Cert.SswaRefIdeal.main_arg5) = m ((c.tc : Thread Cert.SswaRefIdeal.nD Cert.SswaRefIdeal.τ).loc Cert.SswaRefIdeal.main_arg5))
      ∧ r.2.sem = fun _ => 0)

def quiescent_Sssm [hSssm : Cert.Sssm.Facts] : Prop :=
  ∀ (m : (ℓ : Loc Cert.Sssm.nD Cert.Sssm.τ Cert.Sssm.sig) → Buf (Elt Bits) ℓ) (g : Dev Cert.Sssm.nD → PrngReg), Pre_Sssm m →
    θ_run (Cert.Sssm.defs (F := Bits)) (onTc (τ := Cert.Sssm.τ) (Cert.Sssm.main (F := Bits))) ⟨m, fun _ => 0, g⟩ (fun r => (∀ c : Dev Cert.Sssm.nD,
      r.2.mem ((c.tc : Thread Cert.Sssm.nD Cert.Sssm.τ).loc Cert.Sssm.main_arg0) = m ((c.tc : Thread Cert.Sssm.nD Cert.Sssm.τ).loc Cert.Sssm.main_arg0)
      ∧ r.2.mem ((c.tc : Thread Cert.Sssm.nD Cert.Sssm.τ).loc Cert.Sssm.main_arg1) = m ((c.tc : Thread Cert.Sssm.nD Cert.Sssm.τ).loc Cert.Sssm.main_arg1)
      ∧ r.2.mem ((c.tc : Thread Cert.Sssm.nD Cert.Sssm.τ).loc Cert.Sssm.main_arg2) = m ((c.tc : Thread Cert.Sssm.nD Cert.Sssm.τ).loc Cert.Sssm.main_arg2)
      ∧ r.2.mem ((c.tc : Thread Cert.Sssm.nD Cert.Sssm.τ).loc Cert.Sssm.main_arg3) = m ((c.tc : Thread Cert.Sssm.nD Cert.Sssm.τ).loc Cert.Sssm.main_arg3))
      ∧ r.2.sem = fun _ => 0)

def quiescent_SssmIdeal [hSssmIdeal : Cert.SssmIdeal.Facts] : Prop :=
  ∀ (m : (ℓ : Loc Cert.SssmIdeal.nD Cert.SssmIdeal.τ Cert.SssmIdeal.sig) → Buf (Elt Ideal) ℓ) (g : Dev Cert.SssmIdeal.nD → PrngReg), Pre_SssmIdeal m →
    θ_run (Cert.SssmIdeal.defs (F := Ideal)) (onTc (τ := Cert.SssmIdeal.τ) (Cert.SssmIdeal.main (F := Ideal))) ⟨m, fun _ => 0, g⟩ (fun r => (∀ c : Dev Cert.SssmIdeal.nD,
      r.2.mem ((c.tc : Thread Cert.SssmIdeal.nD Cert.SssmIdeal.τ).loc Cert.SssmIdeal.main_arg0) = m ((c.tc : Thread Cert.SssmIdeal.nD Cert.SssmIdeal.τ).loc Cert.SssmIdeal.main_arg0)
      ∧ r.2.mem ((c.tc : Thread Cert.SssmIdeal.nD Cert.SssmIdeal.τ).loc Cert.SssmIdeal.main_arg1) = m ((c.tc : Thread Cert.SssmIdeal.nD Cert.SssmIdeal.τ).loc Cert.SssmIdeal.main_arg1)
      ∧ r.2.mem ((c.tc : Thread Cert.SssmIdeal.nD Cert.SssmIdeal.τ).loc Cert.SssmIdeal.main_arg2) = m ((c.tc : Thread Cert.SssmIdeal.nD Cert.SssmIdeal.τ).loc Cert.SssmIdeal.main_arg2)
      ∧ r.2.mem ((c.tc : Thread Cert.SssmIdeal.nD Cert.SssmIdeal.τ).loc Cert.SssmIdeal.main_arg3) = m ((c.tc : Thread Cert.SssmIdeal.nD Cert.SssmIdeal.τ).loc Cert.SssmIdeal.main_arg3))
      ∧ r.2.sem = fun _ => 0)

def quiescent_SssmRefIdeal [hSssmRefIdeal : Cert.SssmRefIdeal.Facts] : Prop :=
  ∀ (m : (ℓ : Loc Cert.SssmRefIdeal.nD Cert.SssmRefIdeal.τ Cert.SssmRefIdeal.sig) → Buf (Elt Ideal) ℓ) (g : Dev Cert.SssmRefIdeal.nD → PrngReg), Pre_SssmRefIdeal m →
    θ_run (Cert.SssmRefIdeal.defs (F := Ideal)) (onTc (τ := Cert.SssmRefIdeal.τ) (Cert.SssmRefIdeal.main (F := Ideal))) ⟨m, fun _ => 0, g⟩ (fun r => (∀ c : Dev Cert.SssmRefIdeal.nD,
      r.2.mem ((c.tc : Thread Cert.SssmRefIdeal.nD Cert.SssmRefIdeal.τ).loc Cert.SssmRefIdeal.main_arg0) = m ((c.tc : Thread Cert.SssmRefIdeal.nD Cert.SssmRefIdeal.τ).loc Cert.SssmRefIdeal.main_arg0)
      ∧ r.2.mem ((c.tc : Thread Cert.SssmRefIdeal.nD Cert.SssmRefIdeal.τ).loc Cert.SssmRefIdeal.main_arg1) = m ((c.tc : Thread Cert.SssmRefIdeal.nD Cert.SssmRefIdeal.τ).loc Cert.SssmRefIdeal.main_arg1)
      ∧ r.2.mem ((c.tc : Thread Cert.SssmRefIdeal.nD Cert.SssmRefIdeal.τ).loc Cert.SssmRefIdeal.main_arg2) = m ((c.tc : Thread Cert.SssmRefIdeal.nD Cert.SssmRefIdeal.τ).loc Cert.SssmRefIdeal.main_arg2)
      ∧ r.2.mem ((c.tc : Thread Cert.SssmRefIdeal.nD Cert.SssmRefIdeal.τ).loc Cert.SssmRefIdeal.main_arg3) = m ((c.tc : Thread Cert.SssmRefIdeal.nD Cert.SssmRefIdeal.τ).loc Cert.SssmRefIdeal.main_arg3))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v36) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v33) = v0 c
          ∧ r.2.mem ((c.tc : Thread Cert.MemKvRefIdeal.nD Cert.MemKvRefIdeal.τ).loc Cert.MemKvRefIdeal.main_v36) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Gmoe_GmoeIdeal : Prop :=
  True

def algebraic_GmoeIdeal_GmoeRefIdeal_pre_routed [hGmoeIdeal : Cert.GmoeIdeal.Facts] [hGmoeRefIdeal : Cert.GmoeRefIdeal.Facts] [hPre_routed : Cert.Pre_routed.Facts] : Prop :=
  ∀ (m : (ℓ : Loc Cert.GmoeIdeal.nD Cert.GmoeIdeal.τ Cert.GmoeIdeal.sig) → Buf (Elt Ideal) ℓ) (g : Dev Cert.GmoeIdeal.nD → PrngReg)
    (m' : (ℓ : Loc Cert.GmoeRefIdeal.nD Cert.GmoeRefIdeal.τ Cert.GmoeRefIdeal.sig) → Buf (Elt Ideal) ℓ) (g' : Dev Cert.GmoeRefIdeal.nD → PrngReg), Pre_GmoeIdeal_routed m →
    (∀ c : Dev Cert.GmoeIdeal.nD,
      m' ((c.tc : Thread Cert.GmoeRefIdeal.nD Cert.GmoeRefIdeal.τ).loc Cert.GmoeRefIdeal.main_arg0) = m ((c.tc : Thread Cert.GmoeIdeal.nD Cert.GmoeIdeal.τ).loc Cert.GmoeIdeal.main_arg0)
      ∧ m' ((c.tc : Thread Cert.GmoeRefIdeal.nD Cert.GmoeRefIdeal.τ).loc Cert.GmoeRefIdeal.main_arg1) = m ((c.tc : Thread Cert.GmoeIdeal.nD Cert.GmoeIdeal.τ).loc Cert.GmoeIdeal.main_arg1)
      ∧ m' ((c.tc : Thread Cert.GmoeRefIdeal.nD Cert.GmoeRefIdeal.τ).loc Cert.GmoeRefIdeal.main_arg2) = m ((c.tc : Thread Cert.GmoeIdeal.nD Cert.GmoeIdeal.τ).loc Cert.GmoeIdeal.main_arg2)
      ∧ m' ((c.tc : Thread Cert.GmoeRefIdeal.nD Cert.GmoeRefIdeal.τ).loc Cert.GmoeRefIdeal.main_arg3) = m ((c.tc : Thread Cert.GmoeIdeal.nD Cert.GmoeIdeal.τ).loc Cert.GmoeIdeal.main_arg3)
      ∧ m' ((c.tc : Thread Cert.GmoeRefIdeal.nD Cert.GmoeRefIdeal.τ).loc Cert.GmoeRefIdeal.main_arg4) = m ((c.tc : Thread Cert.GmoeIdeal.nD Cert.GmoeIdeal.τ).loc Cert.GmoeIdeal.main_arg4)
      ∧ m' ((c.tc : Thread Cert.GmoeRefIdeal.nD Cert.GmoeRefIdeal.τ).loc Cert.GmoeRefIdeal.main_arg5) = m ((c.tc : Thread Cert.GmoeIdeal.nD Cert.GmoeIdeal.τ).loc Cert.GmoeIdeal.main_arg5)
      ∧ m' ((c.tc : Thread Cert.GmoeRefIdeal.nD Cert.GmoeRefIdeal.τ).loc Cert.GmoeRefIdeal.main_arg6) = m ((c.tc : Thread Cert.GmoeIdeal.nD Cert.GmoeIdeal.τ).loc Cert.GmoeIdeal.main_arg6)) →
    ∃ (v0 : (c : Dev Cert.GmoeIdeal.nD) → Buf (Elt Ideal) ((c.tc : Thread Cert.GmoeIdeal.nD Cert.GmoeIdeal.τ).loc Cert.GmoeIdeal.main_v0)),
      θ_run (Cert.GmoeIdeal.defs (F := Ideal)) (onTc (τ := Cert.GmoeIdeal.τ) (Cert.GmoeIdeal.main (F := Ideal))) ⟨m, fun _ => 0, g⟩ (fun r => ∀ c : Dev Cert.GmoeIdeal.nD,
          r.2.mem ((c.tc : Thread Cert.GmoeIdeal.nD Cert.GmoeIdeal.τ).loc Cert.GmoeIdeal.main_v0) = v0 c
          ∧ r.2.mem ((c.tc : Thread Cert.GmoeIdeal.nD Cert.GmoeIdeal.τ).loc Cert.GmoeIdeal.main_arg0) = m ((c.tc : Thread Cert.GmoeIdeal.nD Cert.GmoeIdeal.τ).loc Cert.GmoeIdeal.main_arg0)
          ∧ r.2.mem ((c.tc : Thread Cert.GmoeIdeal.nD Cert.GmoeIdeal.τ).loc Cert.GmoeIdeal.main_arg1) = m ((c.tc : Thread Cert.GmoeIdeal.nD Cert.GmoeIdeal.τ).loc Cert.GmoeIdeal.main_arg1)
          ∧ r.2.mem ((c.tc : Thread Cert.GmoeIdeal.nD Cert.GmoeIdeal.τ).loc Cert.GmoeIdeal.main_arg2) = m ((c.tc : Thread Cert.GmoeIdeal.nD Cert.GmoeIdeal.τ).loc Cert.GmoeIdeal.main_arg2)
          ∧ r.2.mem ((c.tc : Thread Cert.GmoeIdeal.nD Cert.GmoeIdeal.τ).loc Cert.GmoeIdeal.main_arg3) = m ((c.tc : Thread Cert.GmoeIdeal.nD Cert.GmoeIdeal.τ).loc Cert.GmoeIdeal.main_arg3)
          ∧ r.2.mem ((c.tc : Thread Cert.GmoeIdeal.nD Cert.GmoeIdeal.τ).loc Cert.GmoeIdeal.main_arg4) = m ((c.tc : Thread Cert.GmoeIdeal.nD Cert.GmoeIdeal.τ).loc Cert.GmoeIdeal.main_arg4)
          ∧ r.2.mem ((c.tc : Thread Cert.GmoeIdeal.nD Cert.GmoeIdeal.τ).loc Cert.GmoeIdeal.main_arg5) = m ((c.tc : Thread Cert.GmoeIdeal.nD Cert.GmoeIdeal.τ).loc Cert.GmoeIdeal.main_arg5)
          ∧ r.2.mem ((c.tc : Thread Cert.GmoeIdeal.nD Cert.GmoeIdeal.τ).loc Cert.GmoeIdeal.main_arg6) = m ((c.tc : Thread Cert.GmoeIdeal.nD Cert.GmoeIdeal.τ).loc Cert.GmoeIdeal.main_arg6))
      ∧ θ_run (Cert.GmoeRefIdeal.defs (F := Ideal)) (onTc (τ := Cert.GmoeRefIdeal.τ) (Cert.GmoeRefIdeal.main (F := Ideal))) ⟨m', fun _ => 0, g'⟩ (fun r => ∀ c : Dev Cert.GmoeRefIdeal.nD,
          r.2.mem ((c.tc : Thread Cert.GmoeRefIdeal.nD Cert.GmoeRefIdeal.τ).loc Cert.GmoeRefIdeal.main_v11) = v0 c
          ∧ r.2.mem ((c.tc : Thread Cert.GmoeRefIdeal.nD Cert.GmoeRefIdeal.τ).loc Cert.GmoeRefIdeal.main_arg0) = m' ((c.tc : Thread Cert.GmoeRefIdeal.nD Cert.GmoeRefIdeal.τ).loc Cert.GmoeRefIdeal.main_arg0)
          ∧ r.2.mem ((c.tc : Thread Cert.GmoeRefIdeal.nD Cert.GmoeRefIdeal.τ).loc Cert.GmoeRefIdeal.main_arg1) = m' ((c.tc : Thread Cert.GmoeRefIdeal.nD Cert.GmoeRefIdeal.τ).loc Cert.GmoeRefIdeal.main_arg1)
          ∧ r.2.mem ((c.tc : Thread Cert.GmoeRefIdeal.nD Cert.GmoeRefIdeal.τ).loc Cert.GmoeRefIdeal.main_arg2) = m' ((c.tc : Thread Cert.GmoeRefIdeal.nD Cert.GmoeRefIdeal.τ).loc Cert.GmoeRefIdeal.main_arg2)
          ∧ r.2.mem ((c.tc : Thread Cert.GmoeRefIdeal.nD Cert.GmoeRefIdeal.τ).loc Cert.GmoeRefIdeal.main_arg3) = m' ((c.tc : Thread Cert.GmoeRefIdeal.nD Cert.GmoeRefIdeal.τ).loc Cert.GmoeRefIdeal.main_arg3)
          ∧ r.2.mem ((c.tc : Thread Cert.GmoeRefIdeal.nD Cert.GmoeRefIdeal.τ).loc Cert.GmoeRefIdeal.main_arg4) = m' ((c.tc : Thread Cert.GmoeRefIdeal.nD Cert.GmoeRefIdeal.τ).loc Cert.GmoeRefIdeal.main_arg4)
          ∧ r.2.mem ((c.tc : Thread Cert.GmoeRefIdeal.nD Cert.GmoeRefIdeal.τ).loc Cert.GmoeRefIdeal.main_arg5) = m' ((c.tc : Thread Cert.GmoeRefIdeal.nD Cert.GmoeRefIdeal.τ).loc Cert.GmoeRefIdeal.main_arg5)
          ∧ r.2.mem ((c.tc : Thread Cert.GmoeRefIdeal.nD Cert.GmoeRefIdeal.τ).loc Cert.GmoeRefIdeal.main_arg6) = m' ((c.tc : Thread Cert.GmoeRefIdeal.nD Cert.GmoeRefIdeal.τ).loc Cert.GmoeRefIdeal.main_arg6))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)) →
    ∃ (v0 : (c : Dev Cert.FrontIdeal.nD) → Buf (Elt Ideal) ((c.tc : Thread Cert.FrontIdeal.nD Cert.FrontIdeal.τ).loc Cert.FrontIdeal.main_v16_0)) (v1 : (c : Dev Cert.FrontIdeal.nD) → Buf (Elt Ideal) ((c.tc : Thread Cert.FrontIdeal.nD Cert.FrontIdeal.τ).loc Cert.FrontIdeal.main_v16_1)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v16_0) = v0 c
          ∧ r.2.mem ((c.tc : Thread Cert.FrontIdeal.nD Cert.FrontIdeal.τ).loc Cert.FrontIdeal.main_v16_1) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v26) = v0 c
          ∧ r.2.mem ((c.tc : Thread Cert.FrontRefIdeal.nD Cert.FrontRefIdeal.τ).loc Cert.FrontRefIdeal.main_v28) = v1 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
      ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)) →
    ∃ (v0 : (c : Dev Cert.BackIdeal.nD) → Buf (Elt Ideal) ((c.tc : Thread Cert.BackIdeal.nD Cert.BackIdeal.τ).loc Cert.BackIdeal.main_v20_0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v20_0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
          ∧ r.2.mem ((c.tc : Thread Cert.BackIdeal.nD Cert.BackIdeal.τ).loc Cert.BackIdeal.main_arg13) = m ((c.tc : Thread Cert.BackIdeal.nD Cert.BackIdeal.τ).loc Cert.BackIdeal.main_arg13))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v32) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12)
          ∧ r.2.mem ((c.tc : Thread Cert.BackRefIdeal.nD Cert.BackRefIdeal.τ).loc Cert.BackRefIdeal.main_arg13) = m' ((c.tc : Thread Cert.BackRefIdeal.nD Cert.BackRefIdeal.τ).loc Cert.BackRefIdeal.main_arg13))

def preserves_Moe_MoeIdeal : Prop :=
  True

def algebraic_MoeIdeal_MoeRefIdeal_pre_finite_experts [hMoeIdeal : Cert.MoeIdeal.Facts] [hMoeRefIdeal : Cert.MoeRefIdeal.Facts] [hPre_finite_experts : Cert.Pre_finite_experts.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_experts m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v10) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Sswa_SswaIdeal : Prop :=
  True

def algebraic_SswaIdeal_SswaRefIdeal [hSswaIdeal : Cert.SswaIdeal.Facts] [hSswaRefIdeal : Cert.SswaRefIdeal.Facts] : Prop :=
  ∀ (m : (ℓ : Loc Cert.SswaIdeal.nD Cert.SswaIdeal.τ Cert.SswaIdeal.sig) → Buf (Elt Ideal) ℓ) (g : Dev Cert.SswaIdeal.nD → PrngReg)
    (m' : (ℓ : Loc Cert.SswaRefIdeal.nD Cert.SswaRefIdeal.τ Cert.SswaRefIdeal.sig) → Buf (Elt Ideal) ℓ) (g' : Dev Cert.SswaRefIdeal.nD → PrngReg), Pre_SswaIdeal m →
    (∀ c : Dev Cert.SswaIdeal.nD,
      m' ((c.tc : Thread Cert.SswaRefIdeal.nD Cert.SswaRefIdeal.τ).loc Cert.SswaRefIdeal.main_arg0) = m ((c.tc : Thread Cert.SswaIdeal.nD Cert.SswaIdeal.τ).loc Cert.SswaIdeal.main_arg0)
      ∧ m' ((c.tc : Thread Cert.SswaRefIdeal.nD Cert.SswaRefIdeal.τ).loc Cert.SswaRefIdeal.main_arg1) = m ((c.tc : Thread Cert.SswaIdeal.nD Cert.SswaIdeal.τ).loc Cert.SswaIdeal.main_arg1)
      ∧ m' ((c.tc : Thread Cert.SswaRefIdeal.nD Cert.SswaRefIdeal.τ).loc Cert.SswaRefIdeal.main_arg2) = m ((c.tc : Thread Cert.SswaIdeal.nD Cert.SswaIdeal.τ).loc Cert.SswaIdeal.main_arg2)
      ∧ m' ((c.tc : Thread Cert.SswaRefIdeal.nD Cert.SswaRefIdeal.τ).loc Cert.SswaRefIdeal.main_arg3) = m ((c.tc : Thread Cert.SswaIdeal.nD Cert.SswaIdeal.τ).loc Cert.SswaIdeal.main_arg3)
      ∧ m' ((c.tc : Thread Cert.SswaRefIdeal.nD Cert.SswaRefIdeal.τ).loc Cert.SswaRefIdeal.main_arg4) = m ((c.tc : Thread Cert.SswaIdeal.nD Cert.SswaIdeal.τ).loc Cert.SswaIdeal.main_arg4)
      ∧ m' ((c.tc : Thread Cert.SswaRefIdeal.nD Cert.SswaRefIdeal.τ).loc Cert.SswaRefIdeal.main_arg5) = m ((c.tc : Thread Cert.SswaIdeal.nD Cert.SswaIdeal.τ).loc Cert.SswaIdeal.main_arg5)) →
    ∃ (v0 : (c : Dev Cert.SswaIdeal.nD) → Buf (Elt Ideal) ((c.tc : Thread Cert.SswaIdeal.nD Cert.SswaIdeal.τ).loc Cert.SswaIdeal.main_v0_0)) (v1 : (c : Dev Cert.SswaIdeal.nD) → Buf (Elt Ideal) ((c.tc : Thread Cert.SswaIdeal.nD Cert.SswaIdeal.τ).loc Cert.SswaIdeal.main_v0_1)) (v2 : (c : Dev Cert.SswaIdeal.nD) → Buf (Elt Ideal) ((c.tc : Thread Cert.SswaIdeal.nD Cert.SswaIdeal.τ).loc Cert.SswaIdeal.main_v0_2)),
      θ_run (Cert.SswaIdeal.defs (F := Ideal)) (onTc (τ := Cert.SswaIdeal.τ) (Cert.SswaIdeal.main (F := Ideal))) ⟨m, fun _ => 0, g⟩ (fun r => ∀ c : Dev Cert.SswaIdeal.nD,
          r.2.mem ((c.tc : Thread Cert.SswaIdeal.nD Cert.SswaIdeal.τ).loc Cert.SswaIdeal.main_v0_0) = v0 c
          ∧ r.2.mem ((c.tc : Thread Cert.SswaIdeal.nD Cert.SswaIdeal.τ).loc Cert.SswaIdeal.main_v0_1) = v1 c
          ∧ r.2.mem ((c.tc : Thread Cert.SswaIdeal.nD Cert.SswaIdeal.τ).loc Cert.SswaIdeal.main_v0_2) = v2 c
          ∧ r.2.mem ((c.tc : Thread Cert.SswaIdeal.nD Cert.SswaIdeal.τ).loc Cert.SswaIdeal.main_arg0) = m ((c.tc : Thread Cert.SswaIdeal.nD Cert.SswaIdeal.τ).loc Cert.SswaIdeal.main_arg0)
          ∧ r.2.mem ((c.tc : Thread Cert.SswaIdeal.nD Cert.SswaIdeal.τ).loc Cert.SswaIdeal.main_arg1) = m ((c.tc : Thread Cert.SswaIdeal.nD Cert.SswaIdeal.τ).loc Cert.SswaIdeal.main_arg1)
          ∧ r.2.mem ((c.tc : Thread Cert.SswaIdeal.nD Cert.SswaIdeal.τ).loc Cert.SswaIdeal.main_arg2) = m ((c.tc : Thread Cert.SswaIdeal.nD Cert.SswaIdeal.τ).loc Cert.SswaIdeal.main_arg2)
          ∧ r.2.mem ((c.tc : Thread Cert.SswaIdeal.nD Cert.SswaIdeal.τ).loc Cert.SswaIdeal.main_arg3) = m ((c.tc : Thread Cert.SswaIdeal.nD Cert.SswaIdeal.τ).loc Cert.SswaIdeal.main_arg3)
          ∧ r.2.mem ((c.tc : Thread Cert.SswaIdeal.nD Cert.SswaIdeal.τ).loc Cert.SswaIdeal.main_arg4) = m ((c.tc : Thread Cert.SswaIdeal.nD Cert.SswaIdeal.τ).loc Cert.SswaIdeal.main_arg4)
          ∧ r.2.mem ((c.tc : Thread Cert.SswaIdeal.nD Cert.SswaIdeal.τ).loc Cert.SswaIdeal.main_arg5) = m ((c.tc : Thread Cert.SswaIdeal.nD Cert.SswaIdeal.τ).loc Cert.SswaIdeal.main_arg5))
      ∧ θ_run (Cert.SswaRefIdeal.defs (F := Ideal)) (onTc (τ := Cert.SswaRefIdeal.τ) (Cert.SswaRefIdeal.main (F := Ideal))) ⟨m', fun _ => 0, g'⟩ (fun r => ∀ c : Dev Cert.SswaRefIdeal.nD,
          r.2.mem ((c.tc : Thread Cert.SswaRefIdeal.nD Cert.SswaRefIdeal.τ).loc Cert.SswaRefIdeal.main_v29) = v0 c
          ∧ r.2.mem ((c.tc : Thread Cert.SswaRefIdeal.nD Cert.SswaRefIdeal.τ).loc Cert.SswaRefIdeal.main_v4) = v1 c
          ∧ r.2.mem ((c.tc : Thread Cert.SswaRefIdeal.nD Cert.SswaRefIdeal.τ).loc Cert.SswaRefIdeal.main_v9) = v2 c
          ∧ r.2.mem ((c.tc : Thread Cert.SswaRefIdeal.nD Cert.SswaRefIdeal.τ).loc Cert.SswaRefIdeal.main_arg0) = m' ((c.tc : Thread Cert.SswaRefIdeal.nD Cert.SswaRefIdeal.τ).loc Cert.SswaRefIdeal.main_arg0)
          ∧ r.2.mem ((c.tc : Thread Cert.SswaRefIdeal.nD Cert.SswaRefIdeal.τ).loc Cert.SswaRefIdeal.main_arg1) = m' ((c.tc : Thread Cert.SswaRefIdeal.nD Cert.SswaRefIdeal.τ).loc Cert.SswaRefIdeal.main_arg1)
          ∧ r.2.mem ((c.tc : Thread Cert.SswaRefIdeal.nD Cert.SswaRefIdeal.τ).loc Cert.SswaRefIdeal.main_arg2) = m' ((c.tc : Thread Cert.SswaRefIdeal.nD Cert.SswaRefIdeal.τ).loc Cert.SswaRefIdeal.main_arg2)
          ∧ r.2.mem ((c.tc : Thread Cert.SswaRefIdeal.nD Cert.SswaRefIdeal.τ).loc Cert.SswaRefIdeal.main_arg3) = m' ((c.tc : Thread Cert.SswaRefIdeal.nD Cert.SswaRefIdeal.τ).loc Cert.SswaRefIdeal.main_arg3)
          ∧ r.2.mem ((c.tc : Thread Cert.SswaRefIdeal.nD Cert.SswaRefIdeal.τ).loc Cert.SswaRefIdeal.main_arg4) = m' ((c.tc : Thread Cert.SswaRefIdeal.nD Cert.SswaRefIdeal.τ).loc Cert.SswaRefIdeal.main_arg4)
          ∧ r.2.mem ((c.tc : Thread Cert.SswaRefIdeal.nD Cert.SswaRefIdeal.τ).loc Cert.SswaRefIdeal.main_arg5) = m' ((c.tc : Thread Cert.SswaRefIdeal.nD Cert.SswaRefIdeal.τ).loc Cert.SswaRefIdeal.main_arg5))

def preserves_Sssm_SssmIdeal : Prop :=
  True

def algebraic_SssmIdeal_SssmRefIdeal [hSssmIdeal : Cert.SssmIdeal.Facts] [hSssmRefIdeal : Cert.SssmRefIdeal.Facts] : Prop :=
  ∀ (m : (ℓ : Loc Cert.SssmIdeal.nD Cert.SssmIdeal.τ Cert.SssmIdeal.sig) → Buf (Elt Ideal) ℓ) (g : Dev Cert.SssmIdeal.nD → PrngReg)
    (m' : (ℓ : Loc Cert.SssmRefIdeal.nD Cert.SssmRefIdeal.τ Cert.SssmRefIdeal.sig) → Buf (Elt Ideal) ℓ) (g' : Dev Cert.SssmRefIdeal.nD → PrngReg), Pre_SssmIdeal m →
    (∀ c : Dev Cert.SssmIdeal.nD,
      m' ((c.tc : Thread Cert.SssmRefIdeal.nD Cert.SssmRefIdeal.τ).loc Cert.SssmRefIdeal.main_arg0) = m ((c.tc : Thread Cert.SssmIdeal.nD Cert.SssmIdeal.τ).loc Cert.SssmIdeal.main_arg0)
      ∧ m' ((c.tc : Thread Cert.SssmRefIdeal.nD Cert.SssmRefIdeal.τ).loc Cert.SssmRefIdeal.main_arg1) = m ((c.tc : Thread Cert.SssmIdeal.nD Cert.SssmIdeal.τ).loc Cert.SssmIdeal.main_arg1)
      ∧ m' ((c.tc : Thread Cert.SssmRefIdeal.nD Cert.SssmRefIdeal.τ).loc Cert.SssmRefIdeal.main_arg2) = m ((c.tc : Thread Cert.SssmIdeal.nD Cert.SssmIdeal.τ).loc Cert.SssmIdeal.main_arg2)
      ∧ m' ((c.tc : Thread Cert.SssmRefIdeal.nD Cert.SssmRefIdeal.τ).loc Cert.SssmRefIdeal.main_arg3) = m ((c.tc : Thread Cert.SssmIdeal.nD Cert.SssmIdeal.τ).loc Cert.SssmIdeal.main_arg3)) →
    ∃ (v0 : (c : Dev Cert.SssmIdeal.nD) → Buf (Elt Ideal) ((c.tc : Thread Cert.SssmIdeal.nD Cert.SssmIdeal.τ).loc Cert.SssmIdeal.main_v0_0)),
      θ_run (Cert.SssmIdeal.defs (F := Ideal)) (onTc (τ := Cert.SssmIdeal.τ) (Cert.SssmIdeal.main (F := Ideal))) ⟨m, fun _ => 0, g⟩ (fun r => ∀ c : Dev Cert.SssmIdeal.nD,
          r.2.mem ((c.tc : Thread Cert.SssmIdeal.nD Cert.SssmIdeal.τ).loc Cert.SssmIdeal.main_v0_0) = v0 c
          ∧ r.2.mem ((c.tc : Thread Cert.SssmIdeal.nD Cert.SssmIdeal.τ).loc Cert.SssmIdeal.main_arg0) = m ((c.tc : Thread Cert.SssmIdeal.nD Cert.SssmIdeal.τ).loc Cert.SssmIdeal.main_arg0)
          ∧ r.2.mem ((c.tc : Thread Cert.SssmIdeal.nD Cert.SssmIdeal.τ).loc Cert.SssmIdeal.main_arg1) = m ((c.tc : Thread Cert.SssmIdeal.nD Cert.SssmIdeal.τ).loc Cert.SssmIdeal.main_arg1)
          ∧ r.2.mem ((c.tc : Thread Cert.SssmIdeal.nD Cert.SssmIdeal.τ).loc Cert.SssmIdeal.main_arg2) = m ((c.tc : Thread Cert.SssmIdeal.nD Cert.SssmIdeal.τ).loc Cert.SssmIdeal.main_arg2)
          ∧ r.2.mem ((c.tc : Thread Cert.SssmIdeal.nD Cert.SssmIdeal.τ).loc Cert.SssmIdeal.main_arg3) = m ((c.tc : Thread Cert.SssmIdeal.nD Cert.SssmIdeal.τ).loc Cert.SssmIdeal.main_arg3))
      ∧ θ_run (Cert.SssmRefIdeal.defs (F := Ideal)) (onTc (τ := Cert.SssmRefIdeal.τ) (Cert.SssmRefIdeal.main (F := Ideal))) ⟨m', fun _ => 0, g'⟩ (fun r => ∀ c : Dev Cert.SssmRefIdeal.nD,
          r.2.mem ((c.tc : Thread Cert.SssmRefIdeal.nD Cert.SssmRefIdeal.τ).loc Cert.SssmRefIdeal.main_v13) = v0 c
          ∧ r.2.mem ((c.tc : Thread Cert.SssmRefIdeal.nD Cert.SssmRefIdeal.τ).loc Cert.SssmRefIdeal.main_arg0) = m' ((c.tc : Thread Cert.SssmRefIdeal.nD Cert.SssmRefIdeal.τ).loc Cert.SssmRefIdeal.main_arg0)
          ∧ r.2.mem ((c.tc : Thread Cert.SssmRefIdeal.nD Cert.SssmRefIdeal.τ).loc Cert.SssmRefIdeal.main_arg1) = m' ((c.tc : Thread Cert.SssmRefIdeal.nD Cert.SssmRefIdeal.τ).loc Cert.SssmRefIdeal.main_arg1)
          ∧ r.2.mem ((c.tc : Thread Cert.SssmRefIdeal.nD Cert.SssmRefIdeal.τ).loc Cert.SssmRefIdeal.main_arg2) = m' ((c.tc : Thread Cert.SssmRefIdeal.nD Cert.SssmRefIdeal.τ).loc Cert.SssmRefIdeal.main_arg2)
          ∧ r.2.mem ((c.tc : Thread Cert.SssmRefIdeal.nD Cert.SssmRefIdeal.τ).loc Cert.SssmRefIdeal.main_arg3) = m' ((c.tc : Thread Cert.SssmRefIdeal.nD Cert.SssmRefIdeal.τ).loc Cert.SssmRefIdeal.main_arg3))

def Claim : Prop :=
  ∃ (hAttn : Cert.Attn.Facts) (hAttnIdeal : Cert.AttnIdeal.Facts) (hAttnRefIdeal : Cert.AttnRefIdeal.Facts) (hMemKv : Cert.MemKv.Facts) (hMemKvIdeal : Cert.MemKvIdeal.Facts) (hMemKvRefIdeal : Cert.MemKvRefIdeal.Facts) (hGmoe : Cert.Gmoe.Facts) (hGmoeIdeal : Cert.GmoeIdeal.Facts) (hGmoeRefIdeal : Cert.GmoeRefIdeal.Facts) (hFront : Cert.Front.Facts) (hFrontIdeal : Cert.FrontIdeal.Facts) (hFrontRefIdeal : Cert.FrontRefIdeal.Facts) (hBack : Cert.Back.Facts) (hBackIdeal : Cert.BackIdeal.Facts) (hBackRefIdeal : Cert.BackRefIdeal.Facts) (hMoe : Cert.Moe.Facts) (hMoeIdeal : Cert.MoeIdeal.Facts) (hMoeRefIdeal : Cert.MoeRefIdeal.Facts) (hSswa : Cert.Sswa.Facts) (hSswaIdeal : Cert.SswaIdeal.Facts) (hSswaRefIdeal : Cert.SswaRefIdeal.Facts) (hSssm : Cert.Sssm.Facts) (hSssmIdeal : Cert.SssmIdeal.Facts) (hSssmRefIdeal : Cert.SssmRefIdeal.Facts) (hPre_finite_scores : Cert.Pre_finite_scores.Facts) (hPre_tables : Cert.Pre_tables.Facts) (hPre_routed : Cert.Pre_routed.Facts) (hPre_finite_experts : Cert.Pre_finite_experts.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Gmoe (hGmoe := hGmoe) (hPre_tables := hPre_tables)
    ∧ quiescent_GmoeIdeal (hGmoeIdeal := hGmoeIdeal) (hPre_tables := hPre_tables)
    ∧ quiescent_GmoeIdeal_pre_routed (hGmoeIdeal := hGmoeIdeal) (hPre_routed := hPre_routed)
    ∧ quiescent_GmoeRefIdeal (hGmoeRefIdeal := hGmoeRefIdeal)
    ∧ quiescent_GmoeRefIdeal_pre_routed (hGmoeRefIdeal := hGmoeRefIdeal) (hPre_routed := hPre_routed)
    ∧ quiescent_Front (hFront := hFront)
    ∧ quiescent_FrontIdeal (hFrontIdeal := hFrontIdeal)
    ∧ quiescent_FrontRefIdeal (hFrontRefIdeal := hFrontRefIdeal)
    ∧ quiescent_Back (hBack := hBack)
    ∧ quiescent_BackIdeal (hBackIdeal := hBackIdeal)
    ∧ quiescent_BackRefIdeal (hBackRefIdeal := hBackRefIdeal)
    ∧ quiescent_Moe (hMoe := hMoe)
    ∧ quiescent_MoeIdeal (hMoeIdeal := hMoeIdeal)
    ∧ quiescent_MoeIdeal_pre_finite_experts (hMoeIdeal := hMoeIdeal) (hPre_finite_experts := hPre_finite_experts)
    ∧ quiescent_MoeRefIdeal (hMoeRefIdeal := hMoeRefIdeal)
    ∧ quiescent_MoeRefIdeal_pre_finite_experts (hMoeRefIdeal := hMoeRefIdeal) (hPre_finite_experts := hPre_finite_experts)
    ∧ quiescent_Sswa (hSswa := hSswa)
    ∧ quiescent_SswaIdeal (hSswaIdeal := hSswaIdeal)
    ∧ quiescent_SswaRefIdeal (hSswaRefIdeal := hSswaRefIdeal)
    ∧ quiescent_Sssm (hSssm := hSssm)
    ∧ quiescent_SssmIdeal (hSssmIdeal := hSssmIdeal)
    ∧ quiescent_SssmRefIdeal (hSssmRefIdeal := hSssmRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_MemKv_MemKvIdeal
    ∧ algebraic_MemKvIdeal_MemKvRefIdeal (hMemKvIdeal := hMemKvIdeal) (hMemKvRefIdeal := hMemKvRefIdeal)
    ∧ preserves_Gmoe_GmoeIdeal
    ∧ algebraic_GmoeIdeal_GmoeRefIdeal_pre_routed (hGmoeIdeal := hGmoeIdeal) (hGmoeRefIdeal := hGmoeRefIdeal) (hPre_routed := hPre_routed)
    ∧ preserves_Front_FrontIdeal
    ∧ algebraic_FrontIdeal_FrontRefIdeal (hFrontIdeal := hFrontIdeal) (hFrontRefIdeal := hFrontRefIdeal)
    ∧ preserves_Back_BackIdeal
    ∧ algebraic_BackIdeal_BackRefIdeal (hBackIdeal := hBackIdeal) (hBackRefIdeal := hBackRefIdeal)
    ∧ preserves_Moe_MoeIdeal
    ∧ algebraic_MoeIdeal_MoeRefIdeal_pre_finite_experts (hMoeIdeal := hMoeIdeal) (hMoeRefIdeal := hMoeRefIdeal) (hPre_finite_experts := hPre_finite_experts)
    ∧ preserves_Sswa_SswaIdeal
    ∧ algebraic_SswaIdeal_SswaRefIdeal (hSswaIdeal := hSswaIdeal) (hSswaRefIdeal := hSswaRefIdeal)
    ∧ preserves_Sssm_SssmIdeal
    ∧ algebraic_SssmIdeal_SssmRefIdeal (hSssmIdeal := hSssmIdeal) (hSssmRefIdeal := hSssmRefIdeal)
-- ==== Pre_finite_experts.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S_ : Shape := ⟨0, ![]⟩
abbrev S128x32 : Shape := ⟨2, ![128, 32]⟩

class Facts : Prop where
  bitsLt_bf16_f32 : FTy.bits .bf16 < FTy.bits .f32
  bcast_S_S128x1024 : S_.BroadcastsInDim S128x1024 (![] : Fin 0 → Fin S128x1024.rank)
  slices_S128x128_S128x32_0_4 : S128x128.Slices ![0, 4] S128x32
  bcast_S_S128x32 : S_.BroadcastsInDim S128x32 (![] : Fin 0 → Fin S128x32.rank)
  bcast_S_S32x1024x256 : S_.BroadcastsInDim S32x1024x256 (![] : Fin 0 → Fin S32x1024x256.rank)
  bcast_S_S32x256x1024 : S_.BroadcastsInDim S32x256x1024 (![] : Fin 0 → Fin S32x256x1024.rank)

variable [Facts]

def fn_part1 {F : FTy → Type} [FloatOps F] (main_v3 : IVec S128x1024 1) (main_v7 : IVec S128x32 1) (main_v11 : IVec S32x1024x256 1) (main_v15 : IVec S32x1024x256 1) (main_v17 : FVec F S32x256x1024 .f32) (main_v18 : FVec F S32x256x1024 .f32) : IVec S128x1024 1 × IVec S128x32 1 × IVec S32x1024x256 1 × IVec S32x1024x256 1 × IVec S32x256x1024 1 :=
  let main_v19 : IVec S32x256x1024 1 := cmpf .olt main_v17 main_v18
  (main_v3, main_v7, main_v11, main_v15, main_v19)

def fn {F : FTy → Type} [FloatOps F] (main_arg0 : FVec F S128x1024 .f32) (main_arg1 : FVec F S128x1024 .bf16) (main_arg2 : FVec F S128x128 .f32) (main_arg3 : FVec F S32x1024x256 .bf16) (main_arg4 : FVec F S32x1024x256 .bf16) (main_arg5 : FVec F S32x256x1024 .bf16) : IVec S128x1024 1 × IVec S128x32 1 × IVec S32x1024x256 1 × IVec S32x1024x256 1 × IVec S32x256x1024 1 :=
  let main_v0 : FVec F S128x1024 .f32 := (extf .f32 · bitsLt_bf16_f32) main_arg1
  let main_v1 : FVec F S128x1024 .f32 := Host.absf main_v0
  let main_cst : FVec F S_ .f32 := constant S_ .f32 0x7F800000#32
  let main_v2 : FVec F S128x1024 .f32 := broadcastInDim S128x1024 ![] bcast_S_S128x1024 main_cst
  let main_v3 : IVec S128x1024 1 := cmpf .olt main_v1 main_v2
  let main_v4 : FVec F S128x32 .f32 := (extractStridedSlice S128x32 ![0, 4] · slices_S128x128_S128x32_0_4) main_arg2
  let main_v5 : FVec F S128x32 .f32 := Host.absf main_v4
  let main_cst_0 : FVec F S_ .f32 := constant S_ .f32 0x7F800000#32
  let main_v6 : FVec F S128x32 .f32 := broadcastInDim S128x32 ![] bcast_S_S128x32 main_cst_0
  let main_v7 : IVec S128x32 1 := cmpf .olt main_v5 main_v6
  let main_v8 : FVec F S32x1024x256 .f32 := (extf .f32 · bitsLt_bf16_f32) main_arg3
  let main_v9 : FVec F S32x1024x256 .f32 := Host.absf main_v8
  let main_cst_1 : FVec F S_ .f32 := constant S_ .f32 0x7F800000#32
  let main_v10 : FVec F S32x1024x256 .f32 := broadcastInDim S32x1024x256 ![] bcast_S_S32x1024x256 main_cst_1
  let main_v11 : IVec S32x1024x256 1 := cmpf .olt main_v9 main_v10
  let main_v12 : FVec F S32x1024x256 .f32 := (extf .f32 · bitsLt_bf16_f32) main_arg4
  let main_v13 : FVec F S32x1024x256 .f32 := Host.absf main_v12
  let main_cst_2 : FVec F S_ .f32 := constant S_ .f32 0x7F800000#32
  let main_v14 : FVec F S32x1024x256 .f32 := broadcastInDim S32x1024x256 ![] bcast_S_S32x1024x256 main_cst_2
  let main_v15 : IVec S32x1024x256 1 := cmpf .olt main_v13 main_v14
  let main_v16 : FVec F S32x256x1024 .f32 := (extf .f32 · bitsLt_bf16_f32) main_arg5
  let main_v17 : FVec F S32x256x1024 .f32 := Host.absf main_v16
  let main_cst_3 : FVec F S_ .f32 := constant S_ .f32 0x7F800000#32
  let main_v18 : FVec F S32x256x1024 .f32 := broadcastInDim S32x256x1024 ![] bcast_S_S32x256x1024 main_cst_3
  fn_part1 (F := F) main_v3 main_v7 main_v11 main_v15 main_v17 main_v18
-- ==== Pre_finite_scores.lean ====
abbrev S16384x10752 : Shape := ⟨2, ![16384, 10752]⟩
abbrev S2048x1024 : Shape := ⟨2, ![2048, 1024]⟩
abbrev S1x256 : Shape := ⟨2, ![1, 256]⟩
abbrev S16384x1024 : Shape := ⟨2, ![16384, 1024]⟩
abbrev S_ : Shape := ⟨0, ![]⟩

class Facts : Prop where
  slices_S16384x10752_S16384x1024_0_9216 : S16384x10752.Slices ![0, 9216] S16384x1024
  bitsLt_bf16_f32 : FTy.bits .bf16 < FTy.bits .f32
  bcast_S_S16384x1024 : S_.BroadcastsInDim S16384x1024 (![] : Fin 0 → Fin S16384x1024.rank)
  bcast_S_S2048x1024 : S_.BroadcastsInDim S2048x1024 (![] : Fin 0 → Fin S2048x1024.rank)
  bcast_S_S1x256 : S_.BroadcastsInDim S1x256 (![] : Fin 0 → Fin S1x256.rank)

variable [Facts]

def fn {F : FTy → Type} [FloatOps F] (main_arg0 : FVec F S16384x10752 .bf16) (main_arg1 : FVec F S2048x1024 .f32) (main_arg2 : FVec F S2048x1024 .f32) (main_arg3 : FVec F S1x256 .f32) : IVec S16384x1024 1 × IVec S2048x1024 1 × IVec S1x256 1 :=
  let main_v0 : FVec F S16384x1024 .bf16 := (extractStridedSlice S16384x1024 ![0, 9216] · slices_S16384x10752_S16384x1024_0_9216) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S1x256 .f32 := Host.absf main_arg3
  let main_cst_1 : FVec F S_ .f32 := constant S_ .f32 0x7F800000#32
  let main_v9 : FVec F S1x256 .f32 := broadcastInDim S1x256 ![] bcast_S_S1x256 main_cst_1
  let main_v10 : IVec S1x256 1 := cmpf .olt main_v8 main_v9
  (main_v4, main_v7, main_v10)
-- ==== Pre_routed.lean ====
abbrev S196 : Shape := ⟨1, ![196]⟩
abbrev S1 : Shape := ⟨1, ![1]⟩
abbrev S37632x1152 : Shape := ⟨2, ![37632, 1152]⟩
abbrev S32x1024x256 : Shape := ⟨3, ![32, 1024, 256]⟩
abbrev S32x256x1024 : Shape := ⟨3, ![32, 256, 1024]⟩
abbrev S_ : Shape := ⟨0, ![]⟩
abbrev S32 : Shape := ⟨1, ![32]⟩
abbrev S196x1 : Shape := ⟨2, ![196, 1]⟩
abbrev S1x32 : Shape := ⟨2, ![1, 32]⟩
abbrev S196x32 : Shape := ⟨2, ![196, 32]⟩
abbrev S37632x32 : Shape := ⟨2, ![37632, 32]⟩
abbrev S196x1x32 : Shape := ⟨3, ![196, 1, 32]⟩
abbrev S196x192x32 : Shape := ⟨3, ![196, 192, 32]⟩
abbrev S37632x1024 : Shape := ⟨2, ![37632, 1024]⟩

class Facts : Prop where
  shapeCasts_S1_S_ : S1.ShapeCasts S_
  bcast_S_S196 : S_.BroadcastsInDim S196 (![] : Fin 0 → Fin S196.rank)
  bcast_S196_S196x1_0 : S196.BroadcastsInDim S196x1 (![0] : Fin 1 → Fin S196x1.rank)
  bcast_S32_S1x32_1 : S32.BroadcastsInDim S1x32 (![1] : Fin 1 → Fin S1x32.rank)
  bcast_S1x32_S196x32_0_1 : S1x32.BroadcastsInDim S196x32 (![0, 1] : Fin 2 → Fin S196x32.rank)
  bcast_S196x1_S196x32_0_1 : S196x1.BroadcastsInDim S196x32 (![0, 1] : Fin 2 → Fin S196x32.rank)
  slices_S37632x1152_S37632x32_0_1028 : S37632x1152.Slices ![0, 1028] S37632x32
  bcast_S196x32_S196x1x32_0_2 : S196x32.BroadcastsInDim S196x1x32 (![0, 2] : Fin 2 → Fin S196x1x32.rank)
  shapeCasts_S37632x32_S196x192x32 : S37632x32.ShapeCasts S196x192x32
  bcast_S_S196x192x32 : S_.BroadcastsInDim S196x192x32 (![] : Fin 0 → Fin S196x192x32.rank)
  bcast_S196x1x32_S196x192x32_0_1_2 : S196x1x32.BroadcastsInDim S196x192x32 (![0, 1, 2] : Fin 3 → Fin S196x192x32.rank)
  slices_S37632x1152_S37632x1024_0_0 : S37632x1152.Slices ![0, 0] S37632x1024
  bcast_S_S37632x1024 : S_.BroadcastsInDim S37632x1024 (![] : Fin 0 → Fin S37632x1024.rank)
  bcast_S_S37632x32 : S_.BroadcastsInDim S37632x32 (![] : Fin 0 → Fin S37632x32.rank)
  bitsLt_bf16_f32 : FTy.bits .bf16 < FTy.bits .f32
  bcast_S_S32x1024x256 : S_.BroadcastsInDim S32x1024x256 (![] : Fin 0 → Fin S32x1024x256.rank)
  bcast_S_S32x256x1024 : S_.BroadcastsInDim S32x256x1024 (![] : Fin 0 → Fin S32x256x1024.rank)

variable [Facts]

def fn_part2 {F : FTy → Type} [FloatOps F] (main_arg4 : FVec F S32x1024x256 .bf16) (main_arg5 : FVec F S32x1024x256 .bf16) (main_arg6 : FVec F S32x256x1024 .bf16) (main_v19 : FVec F S37632x32 .f32) (main_v24 : IVec S196 1) (main_v29 : IVec S196 1) (main_v32 : IVec S196 1) (main_v38 : IVec S196x192x32 1) (main_v40 : FVec F S37632x1024 .f32) (main_v41 : FVec F S37632x1024 .f32) : IVec S196 1 × IVec S196 1 × IVec S196 1 × IVec S196x192x32 1 × IVec S37632x1024 1 × IVec S37632x32 1 × IVec S32x1024x256 1 × IVec S32x1024x256 1 × IVec S32x256x1024 1 :=
  let main_v42 : IVec S37632x1024 1 := cmpf .olt main_v40 main_v41
  let main_v43 : FVec F S37632x32 .f32 := Host.absf main_v19
  let main_cst_4 : FVec F S_ .f32 := constant S_ .f32 0x7F800000#32
  let main_v44 : FVec F S37632x32 .f32 := broadcastInDim S37632x32 ![] bcast_S_S37632x32 main_cst_4
  let main_v45 : IVec S37632x32 1 := cmpf .olt main_v43 main_v44
  let main_v46 : FVec F S32x1024x256 .f32 := (extf .f32 · bitsLt_bf16_f32) main_arg4
  let main_v47 : FVec F S32x1024x256 .f32 := Host.absf main_v46
  let main_cst_5 : FVec F S_ .f32 := constant S_ .f32 0x7F800000#32
  let main_v48 : FVec F S32x1024x256 .f32 := broadcastInDim S32x1024x256 ![] bcast_S_S32x1024x256 main_cst_5
  let main_v49 : IVec S32x1024x256 1 := cmpf .olt main_v47 main_v48
  let main_v50 : FVec F S32x1024x256 .f32 := (extf .f32 · bitsLt_bf16_f32) main_arg5
  let main_v51 : FVec F S32x1024x256 .f32 := Host.absf main_v50
  let main_cst_6 : FVec F S_ .f32 := constant S_ .f32 0x7F800000#32
  let main_v52 : FVec F S32x1024x256 .f32 := broadcastInDim S32x1024x256 ![] bcast_S_S32x1024x256 main_cst_6
  let main_v53 : IVec S32x1024x256 1 := cmpf .olt main_v51 main_v52
  let main_v54 : FVec F S32x256x1024 .f32 := (extf .f32 · bitsLt_bf16_f32) main_arg6
  let main_v55 : FVec F S32x256x1024 .f32 := Host.absf main_v54
  let main_cst_7 : FVec F S_ .f32 := constant S_ .f32 0x7F800000#32
  let main_v56 : FVec F S32x256x1024 .f32 := broadcastInDim S32x256x1024 ![] bcast_S_S32x256x1024 main_cst_7
  let main_v57 : IVec S32x256x1024 1 := cmpf .olt main_v55 main_v56
  (main_v24, main_v29, main_v32, main_v38, main_v42, main_v45, main_v49, main_v53, main_v57)

def fn_part1 {F : FTy → Type} [FloatOps F] (main_arg0 : IVec S196 32) (main_arg1 : IVec S196 32) (main_arg3 : FVec F S37632x1152 .f32) (main_arg4 : FVec F S32x1024x256 .bf16) (main_arg5 : FVec F S32x1024x256 .bf16) (main_arg6 : FVec F S32x256x1024 .bf16) (main_v3 : IVec S196 1) (main_v18 : IVec S196x32 1) (main_v19 : FVec F S37632x32 .f32) (main_v21 : IVec S196 1) (main_c_0 : IVec S_ 32) : IVec S196 1 × IVec S196 1 × IVec S196 1 × IVec S196x192x32 1 × IVec S37632x1024 1 × IVec S37632x32 1 × IVec S32x1024x256 1 × IVec S32x1024x256 1 × IVec S32x256x1024 1 :=
  let main_v22 : IVec S196 32 := broadcastInDim S196 ![] bcast_S_S196 main_c_0
  let main_v23 : IVec S196 1 := cmpi .slt main_arg0 main_v22
  let main_v24 : IVec S196 1 := andi main_v21 main_v23
  let main_c_1 : IVec S_ 32 := constantI S_ 32 0#32
  let main_v25 : IVec S196 32 := broadcastInDim S196 ![] bcast_S_S196 main_c_1
  let main_v26 : IVec S196 1 := cmpi .sge main_arg1 main_v25
  let main_c_2 : IVec S_ 32 := constantI S_ 32 32#32
  let main_v27 : IVec S196 32 := broadcastInDim S196 ![] bcast_S_S196 main_c_2
  let main_v28 : IVec S196 1 := cmpi .slt main_arg1 main_v27
  let main_v29 : IVec S196 1 := andi main_v26 main_v28
  let main_v30 : IVec S196 1 := cmpi .ne main_arg0 main_arg1
  let main_v31 : IVec S196 1 := noti main_v3
  let main_v32 : IVec S196 1 := ori main_v30 main_v31
  let main_v33 : IVec S196x1x32 1 := broadcastInDim S196x1x32 ![0, 2] bcast_S196x32_S196x1x32_0_2 main_v18
  let main_v34 : FVec F S196x192x32 .f32 := shapeCast S196x192x32 main_v19 shapeCasts_S37632x32_S196x192x32
  let main_cst : FVec F S_ .f32 := constant S_ .f32 0x00000000#32
  let main_v35 : FVec F S196x192x32 .f32 := broadcastInDim S196x192x32 ![] bcast_S_S196x192x32 main_cst
  let main_v36 : IVec S196x192x32 1 := cmpf .oeq main_v34 main_v35
  let main_v37 : IVec S196x192x32 1 := broadcastInDim S196x192x32 ![0, 1, 2] bcast_S196x1x32_S196x192x32_0_1_2 main_v33
  let main_v38 : IVec S196x192x32 1 := ori main_v37 main_v36
  let main_v39 : FVec F S37632x1024 .f32 := (extractStridedSlice S37632x1024 ![0, 0] · slices_S37632x1152_S37632x1024_0_0) main_arg3
  let main_v40 : FVec F S37632x1024 .f32 := Host.absf main_v39
  let main_cst_3 : FVec F S_ .f32 := constant S_ .f32 0x7F800000#32
  let main_v41 : FVec F S37632x1024 .f32 := broadcastInDim S37632x1024 ![] bcast_S_S37632x1024 main_cst_3
  fn_part2 (F := F) main_arg4 main_arg5 main_arg6 main_v19 main_v24 main_v29 main_v32 main_v38 main_v40 main_v41

def fn {F : FTy → Type} [FloatOps F] (main_arg0 : IVec S196 32) (main_arg1 : IVec S196 32) (main_arg2 : IVec S1 32) (main_arg3 : FVec F S37632x1152 .f32) (main_arg4 : FVec F S32x1024x256 .bf16) (main_arg5 : FVec F S32x1024x256 .bf16) (main_arg6 : FVec F S32x256x1024 .bf16) : IVec S196 1 × IVec S196 1 × IVec S196 1 × IVec S196x192x32 1 × IVec S37632x1024 1 × IVec S37632x32 1 × IVec S32x1024x256 1 × IVec S32x1024x256 1 × IVec S32x256x1024 1 :=
  let main_v0 : IVec S196 32 := iotaInDim S196 32 0
  let main_v1 : IVec S_ 32 := shapeCast S_ main_arg2 shapeCasts_S1_S_
  let main_v2 : IVec S196 32 := broadcastInDim S196 ![] bcast_S_S196 main_v1
  let main_v3 : IVec S196 1 := cmpi .slt main_v0 main_v2
  let main_v4 : IVec S32 32 := iotaInDim S32 32 0
  let main_v5 : IVec S196x1 32 := broadcastInDim S196x1 ![0] bcast_S196_S196x1_0 main_arg0
  let main_v6 : IVec S1x32 32 := broadcastInDim S1x32 ![1] bcast_S32_S1x32_1 main_v4
  let main_v7 : IVec S196x32 32 := broadcastInDim S196x32 ![0, 1] bcast_S1x32_S196x32_0_1 main_v6
  let main_v8 : IVec S196x32 32 := broadcastInDim S196x32 ![0, 1] bcast_S196x1_S196x32_0_1 main_v5
  let main_v9 : IVec S196x32 1 := cmpi .eq main_v7 main_v8
  let main_v10 : IVec S196x1 32 := broadcastInDim S196x1 ![0] bcast_S196_S196x1_0 main_arg1
  let main_v11 : IVec S1x32 32 := broadcastInDim S1x32 ![1] bcast_S32_S1x32_1 main_v4
  let main_v12 : IVec S196x32 32 := broadcastInDim S196x32 ![0, 1] bcast_S1x32_S196x32_0_1 main_v11
  let main_v13 : IVec S196x32 32 := broadcastInDim S196x32 ![0, 1] bcast_S196x1_S196x32_0_1 main_v10
  let main_v14 : IVec S196x32 1 := cmpi .eq main_v12 main_v13
  let main_v15 : IVec S196x32 1 := ori main_v9 main_v14
  let main_v16 : IVec S196x1 1 := broadcastInDim S196x1 ![0] bcast_S196_S196x1_0 main_v3
  let main_v17 : IVec S196x32 1 := broadcastInDim S196x32 ![0, 1] bcast_S196x1_S196x32_0_1 main_v16
  let main_v18 : IVec S196x32 1 := andi main_v15 main_v17
  let main_v19 : FVec F S37632x32 .f32 := (extractStridedSlice S37632x32 ![0, 1028] · slices_S37632x1152_S37632x32_0_1028) main_arg3
  let main_c : IVec S_ 32 := constantI S_ 32 0#32
  let main_v20 : IVec S196 32 := broadcastInDim S196 ![] bcast_S_S196 main_c
  let main_v21 : IVec S196 1 := cmpi .sge main_arg0 main_v20
  let main_c_0 : IVec S_ 32 := constantI S_ 32 32#32
  fn_part1 (F := F) main_arg0 main_arg1 main_arg3 main_arg4 main_arg5 main_arg6 main_v3 main_v18 main_v19 main_v21 main_c_0
-- ==== Pre_tables.lean ====
abbrev S196 : Shape := ⟨1, ![196]⟩
abbrev S1 : Shape := ⟨1, ![1]⟩
abbrev S37632x1152 : Shape := ⟨2, ![37632, 1152]⟩
abbrev S32x1024x256 : Shape := ⟨3, ![32, 1024, 256]⟩
abbrev S32x256x1024 : Shape := ⟨3, ![32, 256, 1024]⟩
abbrev S_ : Shape := ⟨0, ![]⟩

class Facts : Prop where
  bcast_S_S196 : S_.BroadcastsInDim S196 (![] : Fin 0 → Fin S196.rank)

variable [Facts]

def fn {F : FTy → Type} [FloatOps F] (main_arg0 : IVec S196 32) (main_arg1 : IVec S196 32) (main_arg2 : IVec S1 32) (main_arg3 : FVec F S37632x1152 .f32) (main_arg4 : FVec F S32x1024x256 .bf16) (main_arg5 : FVec F S32x1024x256 .bf16) (main_arg6 : FVec F S32x256x1024 .bf16) : IVec S196 1 × IVec S196 1 :=
  let main_c : IVec S_ 32 := constantI S_ 32 0#32
  let main_v0 : IVec S196 32 := broadcastInDim S196 ![] bcast_S_S196 main_c
  let main_v1 : IVec S196 1 := cmpi .sge main_arg0 main_v0
  let main_c_0 : IVec S_ 32 := constantI S_ 32 32#32
  let main_v2 : IVec S196 32 := broadcastInDim S196 ![] bcast_S_S196 main_c_0
  let main_v3 : IVec S196 1 := cmpi .slt main_arg0 main_v2
  let main_v4 : IVec S196 1 := andi main_v1 main_v3
  let main_c_1 : IVec S_ 32 := constantI S_ 32 0#32
  let main_v5 : IVec S196 32 := broadcastInDim S196 ![] bcast_S_S196 main_c_1
  let main_v6 : IVec S196 1 := cmpi .sge main_arg1 main_v5
  let main_c_2 : IVec S_ 32 := constantI S_ 32 32#32
  let main_v7 : IVec S196 32 := broadcastInDim S196 ![] bcast_S_S196 main_c_2
  let main_v8 : IVec S196 1 := cmpi .slt main_arg1 main_v7
  let main_v9 : IVec S196 1 := andi main_v6 main_v8
  (main_v4, main_v9)
-- ==== Attn.lean ====
abbrev S16384x10752 : Shape := ⟨2, ![16384, 10752]⟩
abbrev S2048x1024 : Shape := ⟨2, ![2048, 1024]⟩
abbrev S1x256 : Shape := ⟨2, ![1, 256]⟩
abbrev S16384x1024 : Shape := ⟨2, ![16384, 1024]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x10752, .bf16⟩
  | .hbm, ⟨1, _⟩ => ⟨S2048x1024, .f32⟩
  | .hbm, ⟨2, _⟩ => ⟨S2048x1024, .f32⟩
  | .hbm, ⟨3, _⟩ => ⟨S1x256, .f32⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S16384x10752 : Shape := ⟨2, ![16384, 10752]⟩
abbrev S2048x1024 : Shape := ⟨2, ![2048, 1024]⟩
abbrev S1x256 : Shape := ⟨2, ![1, 256]⟩
abbrev S16384x1024 : Shape := ⟨2, ![16384, 1024]⟩
abbrev S8x2048x4x256 : Shape := ⟨4, ![8, 2048, 4, 256]⟩
abbrev S256 : Shape := ⟨1, ![256]⟩
abbrev S_ : Shape := ⟨0, ![]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x10752, .bf16⟩
  | .hbm, ⟨1, _⟩ => ⟨S2048x1024, .f32⟩
  | .hbm, ⟨2, _⟩ => ⟨S2048x1024, .f32⟩
  | .hbm, ⟨3, _⟩ => ⟨S1x256, .f32⟩
  | .hbm, ⟨4, _⟩ => ⟨S16384x1024, .bf16⟩
  | .hbm, ⟨5, _⟩ => ⟨S16384x1024, .f32⟩
  | .hbm, ⟨6, _⟩ => ⟨S8x2048x4x256, .f32⟩
  | .hbm, ⟨7, _⟩ => ⟨S256, .f32⟩
  | .hbm, ⟨8, _⟩ => ⟨S8x2048x4x256, .f32⟩
  | .hbm, ⟨9, _⟩ => ⟨S_, .f32⟩
  | .hbm, ⟨10, _⟩ => ⟨S8x2048x4, .f32⟩
  | .hbm, ⟨11, _⟩ => ⟨S8x2048x4x1, .f32⟩
  | .hbm, ⟨12, _⟩ => ⟨S_, .f32⟩
  | .hbm, ⟨13, _⟩ => ⟨S8x2048x4x1, .f32⟩
  | .hbm, ⟨14, _⟩ => ⟨S8x2048x4x1, .f32⟩
  | .hbm, ⟨15, _⟩ => ⟨S_, .f32⟩
  | .hbm, ⟨16, _⟩ => ⟨S8x2048x4x1, .f32⟩
  | .hbm, ⟨17, _⟩ => ⟨S8x2048x4x1, .f32⟩
  | .hbm, ⟨18, _⟩ => ⟨S8x2048x4x1, .f32⟩
  | .hbm, ⟨19, _⟩ => ⟨S8x2048x4x256, .f32⟩
  | .hbm, ⟨20, _⟩ => ⟨S8x2048x4x256, .f32⟩
  | .hbm, ⟨21, _⟩ => ⟨S1x1x1x256, .f32⟩
  | .hbm, ⟨22, _⟩ => ⟨S8x2048x4x256, .f32⟩
  | .hbm, ⟨23, _⟩ => ⟨S8x2048x4x256, .f32⟩
  | .hbm, ⟨24, _⟩ => ⟨S8x256x4x256, .f32⟩
  | .hbm, ⟨25, _⟩ => ⟨S8x256x4x256, .f32⟩
  | .hbm, ⟨26, _⟩ => ⟨S8x4x2048x256, .f32⟩
  | .hbm, ⟨27, _⟩ => ⟨S_, .f32⟩
  | .hbm, ⟨28, _⟩ => ⟨S8x4x2048x256, .f32⟩
  | .hbm, ⟨29, _⟩ => ⟨S8x4x2048x256, .f32⟩
  | .hbm, ⟨30, _⟩ => ⟨S_, .f32⟩
  | .hbm, ⟨31, _⟩ => ⟨S8x4x2048, .f32⟩
  | .hbm, ⟨32, _⟩ => ⟨S_, .f32⟩
  | .hbm, ⟨33, _⟩ => ⟨S8x4x2048, .f32⟩
  | .hbm, ⟨34, _⟩ => ⟨S8x4x2048, .f32⟩
  | .hbm, ⟨35, _⟩ => ⟨S8x4x2048x1, .f32⟩
  | .hbm, ⟨36, _⟩ => ⟨S8x4x2048x256, .f32⟩
  | .hbm, ⟨37, _⟩ => ⟨S8x4x2048x256, .f32⟩
  | .hbm, ⟨38, _⟩ => ⟨S8x4x2048x256, .f32⟩
  | .hbm, ⟨39, _⟩ => ⟨S_, .f32⟩
  | .hbm, ⟨40, _⟩ => ⟨S8x4x2048, .f32⟩
  | .hbm, ⟨41, _⟩ => ⟨S8x4x2048x1, .f32⟩
  | .hbm, ⟨42, _⟩ => ⟨S8x4x2048x256, .f32⟩
  | .hbm, ⟨43, _⟩ => ⟨S8x4x2048x256, .f32⟩
  | .hbm, ⟨44, _⟩ => ⟨S8x4x256x2048, .f32⟩
  | .hbm, ⟨45, _⟩ => ⟨S8x2048x4x256, .f32⟩
  | .hbm, ⟨46, _⟩ => ⟨S16384x1024, .f32⟩
  | .hbm, ⟨47, _⟩ => ⟨S16384x1024, .bf16⟩
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x2048 : Shape := ⟨3, ![1, 1024, 2048]⟩
abbrev S1x256 : Shape := ⟨2, ![1, 256]⟩
abbrev S2048x1024 : Shape := ⟨2, ![2048, 1024]⟩
abbrev S1024 : Shape := ⟨1, ![1024]⟩
abbrev S1024x2048 : Shape := ⟨2, ![1024, 2048]⟩
abbrev S256 : Shape := ⟨1, ![256]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1x256, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S1024x2048, .f32⟩
  | .hbm, ⟨8, _⟩ => ⟨S1024x2048, .bf16⟩
  | .hbm, ⟨9, _⟩ => ⟨S256, .f32⟩
  | .hbm, ⟨10, _⟩ => ⟨S1x256, .f32⟩
  | .hbm, ⟨11, _⟩ => ⟨S2048x1024, .f32⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1x1024 : Shape := ⟨2, ![1, 1024]⟩
abbrev S1x1024x2048 : Shape := ⟨3, ![1, 1024, 2048]⟩
abbrev S1x256 : Shape := ⟨2, ![1, 256]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S256 : Shape := ⟨1, ![256]⟩
abbrev S8x256x4 : Shape := ⟨3, ![8, 256, 4]⟩
abbrev S8x256x4x1 : Shape := ⟨4, ![8, 256, 4, 1]⟩
abbrev S1x1x1x256 : Shape := ⟨4, ![1, 1, 1, 256]⟩
abbrev S2048x1024 : Shape := ⟨2, ![2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1x256, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x2048, .f32⟩
  | .hbm, ⟨22, _⟩ => ⟨S8x256x2048, .f32⟩
  | .hbm, ⟨23, _⟩ => ⟨S8x256x2x4x256, .f32⟩
  | .hbm, ⟨24, _⟩ => ⟨S8x256x1x4x256, .f32⟩
  | .hbm, ⟨25, _⟩ => ⟨S8x256x4x256, .f32⟩
  | .hbm, ⟨26, _⟩ => ⟨S256, .f32⟩
  | .hbm, ⟨27, _⟩ => ⟨S8x256x4x256, .f32⟩
  | .hbm, ⟨28, _⟩ => ⟨S_, .f32⟩
  | .hbm, ⟨29, _⟩ => ⟨S8x256x4, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S_, .f32⟩
  | .hbm, ⟨35, _⟩ => ⟨S8x256x4x1, .f32⟩
  | .hbm, ⟨36, _⟩ => ⟨S8x256x4x1, .f32⟩
  | .hbm, ⟨37, _⟩ => ⟨S8x256x4x1, .f32⟩
  | .hbm, ⟨38, _⟩ => ⟨S8x256x4x256, .f32⟩
  | .hbm, ⟨39, _⟩ => ⟨S8x256x4x256, .f32⟩
  | .hbm, ⟨40, _⟩ => ⟨S1x1x1x256, .f32⟩
  | .hbm, ⟨41, _⟩ => ⟨S8x256x4x256, .f32⟩
  | .hbm, ⟨42, _⟩ => ⟨S8x256x4x256, .f32⟩
  | .hbm, ⟨43, _⟩ => ⟨S2048x1024, .f32⟩
  | .hbm, ⟨44, _⟩ => ⟨S8x256x1x4x256, .f32⟩
  | .hbm, ⟨45, _⟩ => ⟨S8x256x4x256, .f32⟩
  | .hbm, ⟨46, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Gmoe.lean ====
abbrev S196 : Shape := ⟨1, ![196]⟩
abbrev S1 : Shape := ⟨1, ![1]⟩
abbrev S37632x1152 : Shape := ⟨2, ![37632, 1152]⟩
abbrev S32x1024x256 : Shape := ⟨3, ![32, 1024, 256]⟩
abbrev S32x256x1024 : Shape := ⟨3, ![32, 256, 1024]⟩
abbrev S37632x1024 : Shape := ⟨2, ![37632, 1024]⟩
abbrev S192x1152 : Shape := ⟨2, ![192, 1152]⟩
abbrev S1x1024x256 : Shape := ⟨3, ![1, 1024, 256]⟩
abbrev S1x256x1024 : Shape := ⟨3, ![1, 256, 1024]⟩
abbrev S192x1024 : Shape := ⟨2, ![192, 1024]⟩
abbrev S192x128 : Shape := ⟨2, ![192, 128]⟩
abbrev S192 : Shape := ⟨1, ![192]⟩
abbrev S192x1 : Shape := ⟨2, ![192, 1]⟩
abbrev S1024x256 : Shape := ⟨2, ![1024, 256]⟩
abbrev S192x256 : Shape := ⟨2, ![192, 256]⟩
abbrev S256x1024 : Shape := ⟨2, ![256, 1024]⟩

abbrev nBuf : Space → Nat
  | .hbm => 5
  | .vmem => 16
  | .smem => 3
  | _ => 0

abbrev bufTy : (tb : Table) → Fin (tcTables nBuf tb) → BufTy
  | .hbm, ⟨0, _⟩ => ⟨S37632x1152, .f32⟩
  | .hbm, ⟨1, _⟩ => ⟨S32x1024x256, .bf16⟩
  | .hbm, ⟨2, _⟩ => ⟨S32x1024x256, .bf16⟩
  | .hbm, ⟨3, _⟩ => ⟨S32x256x1024, .bf16⟩
  | .hbm, ⟨4, _⟩ => ⟨S37632x1024, .f32⟩
  | .local _ .vmem, ⟨0, _⟩ => ⟨S192x1152, .f32⟩
  | .local _ .vmem, ⟨1, _⟩ => ⟨S192x1152, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S192x1024, .f32⟩
  | .local _ .vmem, ⟨15, _⟩ => ⟨S192x1024, .f32⟩
  | .local _ .smem, ⟨0, _⟩ => ⟨S196, .i32⟩
  | .local _ .smem, ⟨1, _⟩ => ⟨S196, .i32⟩
  | .local _ .smem, ⟨2, _⟩ => ⟨S1, .i32⟩
  | _, _ => ⟨S37632x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![196], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let v1 : BitVec 1 := Scalar.cmpi .slt arg0 v0
  let c0_i32 : BitVec 32 := 0#32
  let v2 : BitVec 32 := Scalar.select v1 arg0 c0_i32
  let c0_i32_0 : BitVec 32 := 0#32
  let c0_i32_1 : BitVec 32 := 0#32
  ![v2.toNat, c0_i32_0.toNat]

def cc0_transform_1 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S196.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S196) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmoeRefIdeal.lean ====
abbrev S196 : Shape := ⟨1, ![196]⟩
abbrev S1 : Shape := ⟨1, ![1]⟩
abbrev S37632x1152 : Shape := ⟨2, ![37632, 1152]⟩
abbrev S32x1024x256 : Shape := ⟨3, ![32, 1024, 256]⟩
abbrev S32x256x1024 : Shape := ⟨3, ![32, 256, 1024]⟩
abbrev S37632x1024 : Shape := ⟨2, ![37632, 1024]⟩
abbrev S37632x32 : Shape := ⟨2, ![37632, 32]⟩
abbrev S32x256x37632 : Shape := ⟨3, ![32, 256, 37632]⟩
abbrev S32x37632x256 : Shape := ⟨3, ![32, 37632, 256]⟩
abbrev S_ : Shape := ⟨0, ![]⟩
abbrev S32x37632x1024 : Shape := ⟨3, ![32, 37632, 1024]⟩

abbrev nBuf : Space → Nat
  | .hbm => 27
  | .vmem => 0
  | .smem => 0
  | _ => 0

abbrev bufTy : (tb : Table) → Fin (tcTables nBuf tb) → BufTy
  | .hbm, ⟨0, _⟩ => ⟨S196, .i32⟩
  | .hbm, ⟨1, _⟩ => ⟨S196, .i32⟩
  | .hbm, ⟨2, _⟩ => ⟨S1, .i32⟩
  | .hbm, ⟨3, _⟩ => ⟨S37632x1152, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S37632x1024, .f32⟩
  | .hbm, ⟨8, _⟩ => ⟨S37632x1024, .bf16⟩
  | .hbm, ⟨9, _⟩ => ⟨S37632x32, .f32⟩
  | .hbm, ⟨10, _⟩ => ⟨S32x256x37632, .f32⟩
  | .hbm, ⟨11, _⟩ => ⟨S32x37632x256, .f32⟩
  | .hbm, ⟨12, _⟩ => ⟨S32x256x37632, .f32⟩
  | .hbm, ⟨13, _⟩ => ⟨S32x37632x256, .f32⟩
  | .hbm, ⟨14, _⟩ => ⟨S32x37632x256, .f32⟩
  | .hbm, ⟨15, _⟩ => ⟨S32x37632x256, .f32⟩
  | .hbm, ⟨16, _⟩ => ⟨S_, .f32⟩
  | .hbm, ⟨17, _⟩ => ⟨S32x37632x256, .f32⟩
  | .hbm, ⟨18, _⟩ => ⟨S32x37632x256, .f32⟩
  | .hbm, ⟨19, _⟩ => ⟨S_, .f32⟩
  | .hbm, ⟨20, _⟩ => ⟨S32x37632x256, .f32⟩
  | .hbm, ⟨21, _⟩ => ⟨S32x37632x256, .f32⟩
  | .hbm, ⟨22, _⟩ => ⟨S32x37632x256, .f32⟩
  | .hbm, ⟨23, _⟩ => ⟨S32x37632x256, .f32⟩
  | .hbm, ⟨24, _⟩ => ⟨S32x37632x256, .bf16⟩
  | .hbm, ⟨25, _⟩ => ⟨S32x37632x1024, .f32⟩
  | .hbm, ⟨26, _⟩ => ⟨S37632x1024, .f32⟩
  | _, _ => ⟨S196, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== Front.lean ====
abbrev S8x2048x1024 : Shape := ⟨3, ![8, 2048, 1024]⟩
abbrev S1x1024 : Shape := ⟨2, ![1, 1024]⟩
abbrev S1x1024x10784 : Shape := ⟨3, ![1, 1024, 10784]⟩
abbrev S1024x10784 : Shape := ⟨2, ![1024, 10784]⟩
abbrev S1024x3072 : Shape := ⟨2, ![1024, 3072]⟩
abbrev S1024x2048 : Shape := ⟨2, ![1024, 2048]⟩
abbrev S1024x1024 : Shape := ⟨2, ![1024, 1024]⟩
abbrev S1024x256 : Shape := ⟨2, ![1024, 256]⟩
abbrev S1024x10752 : Shape := ⟨2, ![1024, 10752]⟩
abbrev S1024x32 : Shape := ⟨2, ![1024, 32]⟩
abbrev S_ : Shape := ⟨0, ![]⟩
abbrev S1024x128 : Shape := ⟨2, ![1024, 128]⟩
abbrev S16384x1024 : Shape := ⟨2, ![16384, 1024]⟩
abbrev S1024 : Shape := ⟨1, ![1024]⟩
abbrev S16384x10752 : Shape := ⟨2, ![16384, 10752]⟩
abbrev S16384x128 : Shape := ⟨2, ![16384, 128]⟩
abbrev S1024x3584 : Shape := ⟨2, ![1024, 3584]⟩
abbrev S1024x1 : Shape := ⟨2, ![1024, 1]⟩

abbrev nBuf : Space → Nat
  | .hbm => 23
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x10784, .f32⟩
  | .hbm, ⟨3, _⟩ => ⟨S1024x10784, .f32⟩
  | .hbm, ⟨4, _⟩ => ⟨S1024x3072, .f32⟩
  | .hbm, ⟨5, _⟩ => ⟨S1024x3072, .f32⟩
  | .hbm, ⟨6, _⟩ => ⟨S1024x2048, .f32⟩
  | .hbm, ⟨7, _⟩ => ⟨S1024x1024, .f32⟩
  | .hbm, ⟨8, _⟩ => ⟨S1024x1024, .f32⟩
  | .hbm, ⟨9, _⟩ => ⟨S1024x256, .f32⟩
  | .hbm, ⟨10, _⟩ => ⟨S1024x256, .f32⟩
  | .hbm, ⟨11, _⟩ => ⟨S1024x10752, .f32⟩
  | .hbm, ⟨12, _⟩ => ⟨S1024x10752, .bf16⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S16384x1024, .f32⟩
  | .hbm, ⟨19, _⟩ => ⟨S1024, .f32⟩
  | .hbm, ⟨20, _⟩ => ⟨S1x1024, .f32⟩
  | .hbm, ⟨21, _⟩ => ⟨S16384x10752, .bf16⟩
  | .hbm, ⟨22, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S1024x128, .bf16⟩
  | .local _ .vmem, ⟨6, _⟩ => ⟨S1024x3584, .bf16⟩
  | .local _ .vmem, ⟨7, _⟩ => ⟨S1024x3584, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FrontRefIdeal.lean ====
abbrev S8x2048x1024 : Shape := ⟨3, ![8, 2048, 1024]⟩
abbrev S1x1024 : Shape := ⟨2, ![1, 1024]⟩
abbrev S1x1024x10784 : Shape := ⟨3, ![1, 1024, 10784]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x10784 : Shape := ⟨2, ![1024, 10784]⟩
abbrev S8x2048x10784 : Shape := ⟨3, ![8, 2048, 10784]⟩
abbrev S8x2048x3072 : Shape := ⟨3, ![8, 2048, 3072]⟩
abbrev S8x2048x2048 : Shape := ⟨3, ![8, 2048, 2048]⟩
abbrev S8x2048x32 : Shape := ⟨3, ![8, 2048, 32]⟩
abbrev S8x2048x256 : Shape := ⟨3, ![8, 2048, 256]⟩
abbrev S8x2048x10752 : Shape := ⟨3, ![8, 2048, 10752]⟩
abbrev S16384x10752 : Shape := ⟨2, ![16384, 10752]⟩
abbrev S8x2048x128 : Shape := ⟨3, ![8, 2048, 128]⟩
abbrev S16384x128 : Shape := ⟨2, ![16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x10784, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x10784, .f32⟩
  | .hbm, ⟨21, _⟩ => ⟨S8x2048x10784, .f32⟩
  | .hbm, ⟨22, _⟩ => ⟨S8x2048x3072, .f32⟩
  | .hbm, ⟨23, _⟩ => ⟨S8x2048x2048, .f32⟩
  | .hbm, ⟨24, _⟩ => ⟨S8x2048x3072, .f32⟩
  | .hbm, ⟨25, _⟩ => ⟨S8x2048x32, .f32⟩
  | .hbm, ⟨26, _⟩ => ⟨S8x2048x1024, .f32⟩
  | .hbm, ⟨27, _⟩ => ⟨S8x2048x256, .f32⟩
  | .hbm, ⟨28, _⟩ => ⟨S8x2048x256, .f32⟩
  | .hbm, ⟨29, _⟩ => ⟨S8x2048x1024, .f32⟩
  | .hbm, ⟨30, _⟩ => ⟨S8x2048x10752, .f32⟩
  | .hbm, ⟨31, _⟩ => ⟨S16384x10752, .f32⟩
  | .hbm, ⟨32, _⟩ => ⟨S16384x10752, .bf16⟩
  | .hbm, ⟨33, _⟩ => ⟨S_, .i32⟩
  | .hbm, ⟨34, _⟩ => ⟨S_, .f32⟩
  | .hbm, ⟨35, _⟩ => ⟨S8x2048x128, .f32⟩
  | .hbm, ⟨36, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Back.lean ====
abbrev S8x2048x1024 : Shape := ⟨3, ![8, 2048, 1024]⟩
abbrev S16384x10752 : Shape := ⟨2, ![16384, 10752]⟩
abbrev S16384x2048 : Shape := ⟨2, ![16384, 2048]⟩
abbrev S16384x1024 : Shape := ⟨2, ![16384, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S2048x1024 : Shape := ⟨2, ![2048, 1024]⟩
abbrev S1024x1024 : Shape := ⟨2, ![1024, 1024]⟩
abbrev S1024 : Shape := ⟨1, ![1024]⟩
abbrev S16384x1152 : Shape := ⟨2, ![16384, 1152]⟩
abbrev S16384x128 : Shape := ⟨2, ![16384, 128]⟩
abbrev S512x1024 : Shape := ⟨2, ![512, 1024]⟩
abbrev S512x3072 : Shape := ⟨2, ![512, 3072]⟩
abbrev S512x2048 : Shape := ⟨2, ![512, 2048]⟩
abbrev S512x1152 : Shape := ⟨2, ![512, 1152]⟩
abbrev S512x128 : Shape := ⟨2, ![512, 128]⟩
abbrev S512 : Shape := ⟨1, ![512]⟩
abbrev S512x1 : Shape := ⟨2, ![512, 1]⟩

abbrev nBuf : Space → Nat
  | .hbm => 41
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S16384x10752, .bf16⟩
  | .hbm, ⟨2, _⟩ => ⟨S16384x2048, .bf16⟩
  | .hbm, ⟨3, _⟩ => ⟨S16384x1024, .bf16⟩
  | .hbm, ⟨4, _⟩ => ⟨S16384x1024, .bf16⟩
  | .hbm, ⟨5, _⟩ => ⟨S1x2048x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S1024x4, .f32⟩
  | .hbm, ⟨15, _⟩ => ⟨S1024x32, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S4, .f32⟩
  | .hbm, ⟨21, _⟩ => ⟨S32, .f32⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S16384x1024, .f32⟩
  | .hbm, ⟨28, _⟩ => ⟨S2048x1024, .f32⟩
  | .hbm, ⟨29, _⟩ => ⟨S2048x1024, .bf16⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1152, .f32⟩
  | .hbm, ⟨40, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1152, .f32⟩
  | .local _ .vmem, ⟨20, _⟩ => ⟨S512x1152, .f32⟩
  | .local _ .vmem, ⟨21, _⟩ => ⟨S512x128, .f32⟩
  | .local _ .vmem, ⟨22, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== BackRefIdeal.lean ====
abbrev S8x2048x1024 : Shape := ⟨3, ![8, 2048, 1024]⟩
abbrev S16384x10752 : Shape := ⟨2, ![16384, 10752]⟩
abbrev S16384x2048 : Shape := ⟨2, ![16384, 2048]⟩
abbrev S16384x1024 : Shape := ⟨2, ![16384, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩
abbrev S2048x1024 : Shape := ⟨2, ![2048, 1024]⟩
abbrev S1024x1024 : Shape := ⟨2, ![1024, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x10752, .bf16⟩
  | .hbm, ⟨2, _⟩ => ⟨S16384x2048, .bf16⟩
  | .hbm, ⟨3, _⟩ => ⟨S16384x1024, .bf16⟩
  | .hbm, ⟨4, _⟩ => ⟨S16384x1024, .bf16⟩
  | .hbm, ⟨5, _⟩ => ⟨S1x2048x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S16384x3072, .bf16⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S_, .f32⟩
  | .hbm, ⟨19, _⟩ => ⟨S16384x3072, .f32⟩
  | .hbm, ⟨20, _⟩ => ⟨S16384x3072, .f32⟩
  | .hbm, ⟨21, _⟩ => ⟨S_, .f32⟩
  | .hbm, ⟨22, _⟩ => ⟨S16384x3072, .f32⟩
  | .hbm, ⟨23, _⟩ => ⟨S16384x3072, .f32⟩
  | .hbm, ⟨24, _⟩ => ⟨S16384x3x1024, .f32⟩
  | .hbm, ⟨25, _⟩ => ⟨S16384x1x1024, .f32⟩
  | .hbm, ⟨26, _⟩ => ⟨S16384x1024, .f32⟩
  | .hbm, ⟨27, _⟩ => ⟨S16384x2048, .f32⟩
  | .hbm, ⟨28, _⟩ => ⟨S2048x1024, .f32⟩
  | .hbm, ⟨29, _⟩ => ⟨S16384x1024, .f32⟩
  | .hbm, ⟨30, _⟩ => ⟨S16384x1024, .f32⟩
  | .hbm, ⟨31, _⟩ => ⟨S16384x1x1024, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x1024, .f32⟩
  | .hbm, ⟨47, _⟩ => ⟨S16384x1024, .f32⟩
  | .hbm, ⟨48, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Moe.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S1x1024x256 : Shape := ⟨3, ![1, 1024, 256]⟩
abbrev S1x256x1024 : Shape := ⟨3, ![1, 256, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x128, .f32⟩
  | .hbm, ⟨3, _⟩ => ⟨S32x1024x256, .bf16⟩
  | .hbm, ⟨4, _⟩ => ⟨S32x1024x256, .bf16⟩
  | .hbm, ⟨5, _⟩ => ⟨S32x256x1024, .bf16⟩
  | .hbm, ⟨6, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x128, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MoeRefIdeal.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S32x256x128 : Shape := ⟨3, ![32, 256, 128]⟩
abbrev S32x128x256 : Shape := ⟨3, ![32, 128, 256]⟩
abbrev S_ : Shape := ⟨0, ![]⟩
abbrev S32x128x1024 : Shape := ⟨3, ![32, 128, 1024]⟩
abbrev S128x32 : Shape := ⟨2, ![128, 32]⟩

abbrev nBuf : Space → Nat
  | .hbm => 25
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x128, .f32⟩
  | .hbm, ⟨3, _⟩ => ⟨S32x1024x256, .bf16⟩
  | .hbm, ⟨4, _⟩ => ⟨S32x1024x256, .bf16⟩
  | .hbm, ⟨5, _⟩ => ⟨S32x256x1024, .bf16⟩
  | .hbm, ⟨6, _⟩ => ⟨S32x256x128, .f32⟩
  | .hbm, ⟨7, _⟩ => ⟨S32x128x256, .f32⟩
  | .hbm, ⟨8, _⟩ => ⟨S32x256x128, .f32⟩
  | .hbm, ⟨9, _⟩ => ⟨S32x128x256, .f32⟩
  | .hbm, ⟨10, _⟩ => ⟨S32x128x256, .f32⟩
  | .hbm, ⟨11, _⟩ => ⟨S32x128x256, .f32⟩
  | .hbm, ⟨12, _⟩ => ⟨S_, .f32⟩
  | .hbm, ⟨13, _⟩ => ⟨S32x128x256, .f32⟩
  | .hbm, ⟨14, _⟩ => ⟨S32x128x256, .f32⟩
  | .hbm, ⟨15, _⟩ => ⟨S_, .f32⟩
  | .hbm, ⟨16, _⟩ => ⟨S32x128x256, .f32⟩
  | .hbm, ⟨17, _⟩ => ⟨S32x128x256, .f32⟩
  | .hbm, ⟨18, _⟩ => ⟨S32x128x256, .f32⟩
  | .hbm, ⟨19, _⟩ => ⟨S32x128x256, .f32⟩
  | .hbm, ⟨20, _⟩ => ⟨S32x128x256, .bf16⟩
  | .hbm, ⟨21, _⟩ => ⟨S32x128x1024, .f32⟩
  | .hbm, ⟨22, _⟩ => ⟨S128x32, .f32⟩
  | .hbm, ⟨23, _⟩ => ⟨S128x1024, .f32⟩
  | .hbm, ⟨24, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Sswa.lean ====
abbrev S128x4x8x64 : Shape := ⟨4, ![128, 4, 8, 64]⟩
abbrev S16x256x8 : Shape := ⟨3, ![16, 256, 8]⟩
abbrev S1x128x4x64x128 : Shape := ⟨5, ![1, 128, 4, 64, 128]⟩
abbrev S32x1 : Shape := ⟨2, ![32, 1]⟩
abbrev S128x4x64x128 : Shape := ⟨4, ![128, 4, 64, 128]⟩
abbrev S8x4x8x64 : Shape := ⟨4, ![8, 4, 8, 64]⟩
abbrev S1x256x8 : Shape := ⟨3, ![1, 256, 8]⟩
abbrev S1x8x4x64x128 : Shape := ⟨5, ![1, 8, 4, 64, 128]⟩
abbrev S8x4x64x128 : Shape := ⟨4, ![8, 4, 64, 128]⟩
abbrev S256x128 : Shape := ⟨2, ![256, 128]⟩
abbrev S64x128 : Shape := ⟨2, ![64, 128]⟩
abbrev S1x64x1 : Shape := ⟨3, ![1, 64, 1]⟩
abbrev S64x1 : Shape := ⟨2, ![64, 1]⟩
abbrev S1x1x1x64x128 : Shape := ⟨5, ![1, 1, 1, 64, 128]⟩
abbrev S1x1x64x128 : Shape := ⟨4, ![1, 1, 64, 128]⟩
abbrev S1x1x8x64 : Shape := ⟨4, ![1, 1, 8, 64]⟩
abbrev S8x64 : Shape := ⟨2, ![8, 64]⟩
abbrev S8x128 : Shape := ⟨2, ![8, 128]⟩
abbrev S256x1 : Shape := ⟨2, ![256, 1]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S128x4x8x64, .f32⟩
  | .hbm, ⟨1, _⟩ => ⟨S16x256x8, .f32⟩
  | .hbm, ⟨2, _⟩ => ⟨S16x256x8, .f32⟩
  | .hbm, ⟨3, _⟩ => ⟨S1x128x4x64x128, .f32⟩
  | .hbm, ⟨4, _⟩ => ⟨S1x128x4x64x128, .f32⟩
  | .hbm, ⟨5, _⟩ => ⟨S32x1, .f32⟩
  | .hbm, ⟨6, _⟩ => ⟨S128x4x8x64, .f32⟩
  | .hbm, ⟨7, _⟩ => ⟨S128x4x64x128, .f32⟩
  | .hbm, ⟨8, _⟩ => ⟨S128x4x64x128, .f32⟩
  | .local _ .vmem, ⟨0, _⟩ => ⟨S8x4x8x64, .f32⟩
  | .local _ .vmem, ⟨1, _⟩ => ⟨S8x4x8x64, .f32⟩
  | .local _ .vmem, ⟨2, _⟩ => ⟨S1x256x8, .f32⟩
  | .local _ .vmem, ⟨3, _⟩ => ⟨S1x256x8, .f32⟩
  | .local _ .vmem, ⟨4, _⟩ => ⟨S1x256x8, .f32⟩
  | .local _ .vmem, ⟨5, _⟩ => ⟨S1x256x8, .f32⟩
  | .local _ .vmem, ⟨6, _⟩ => ⟨S1x8x4x64x128, .f32⟩
  | .local _ .vmem, ⟨7, _⟩ => ⟨S1x8x4x64x128, .f32⟩
  | .local _ .vmem, ⟨8, _⟩ => ⟨S1x8x4x64x128, .f32⟩
  | .local _ .vmem, ⟨9, _⟩ => ⟨S1x8x4x64x128, .f32⟩
  | .local _ .vmem, ⟨10, _⟩ => ⟨S32x1, .f32⟩
  | .local _ .vmem, ⟨11, _⟩ => ⟨S8x4x8x64, .f32⟩
  | .local _ .vmem, ⟨12, _⟩ => ⟨S8x4x8x64, .f32⟩
  | .local _ .vmem, ⟨13, _⟩ => ⟨S8x4x64x128, .f32⟩
  | .local _ .vmem, ⟨14, _⟩ => ⟨S8x4x64x128, .f32⟩
  | .local _ .vmem, ⟨15, _⟩ => ⟨S8x4x64x128, .f32⟩
  | .local _ .vmem, ⟨16, _⟩ => ⟨S8x4x64x128, .f32⟩
  | .local _ .vmem, ⟨17, _⟩ => ⟨S256x128, .f32⟩
  | _, _ => ⟨S128x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SswaRefIdeal.lean ====
abbrev S128x4x8x64 : Shape := ⟨4, ![128, 4, 8, 64]⟩
abbrev S16x256x8 : Shape := ⟨3, ![16, 256, 8]⟩
abbrev S1x128x4x64x128 : Shape := ⟨5, ![1, 128, 4, 64, 128]⟩
abbrev S32x1 : Shape := ⟨2, ![32, 1]⟩
abbrev S128x4x64x128 : Shape := ⟨4, ![128, 4, 64, 128]⟩
abbrev S128x4x64x127 : Shape := ⟨4, ![128, 4, 64, 127]⟩
abbrev S16x8x256 : Shape := ⟨3, ![16, 8, 256]⟩
abbrev S128x4x64x1 : Shape := ⟨4, ![128, 4, 64, 1]⟩
abbrev S128x4x8x128 : Shape := ⟨4, ![128, 4, 8, 128]⟩
abbrev S_ : Shape := ⟨0, ![]⟩
abbrev S1x4x8x1 : Shape := ⟨4, ![1, 4, 8, 1]⟩
abbrev S128x4x8 : Shape := ⟨3, ![128, 4, 8]⟩
abbrev S128x4x8x1 : Shape := ⟨4, ![128, 4, 8, 1]⟩

abbrev nBuf : Space → Nat
  | .hbm => 39
  | .vmem => 0
  | .smem => 0
  | _ => 0

abbrev bufTy : (tb : Table) → Fin (tcTables nBuf tb) → BufTy
  | .hbm, ⟨0, _⟩ => ⟨S128x4x8x64, .f32⟩
  | .hbm, ⟨1, _⟩ => ⟨S16x256x8, .f32⟩
  | .hbm, ⟨2, _⟩ => ⟨S16x256x8, .f32⟩
  | .hbm, ⟨3, _⟩ => ⟨S1x128x4x64x128, .f32⟩
  | .hbm, ⟨4, _⟩ => ⟨S1x128x4x64x128, .f32⟩
  | .hbm, ⟨5, _⟩ => ⟨S32x1, .f32⟩
  | .hbm, ⟨6, _⟩ => ⟨S128x4x64x128, .f32⟩
  | .hbm, ⟨7, _⟩ => ⟨S128x4x64x127, .f32⟩
  | .hbm, ⟨8, _⟩ => ⟨S16x8x256, .f32⟩
  | .hbm, ⟨9, _⟩ => ⟨S128x4x64x1, .f32⟩
  | .hbm, ⟨10, _⟩ => ⟨S128x4x64x128, .f32⟩
  | .hbm, ⟨11, _⟩ => ⟨S128x4x64x128, .f32⟩
  | .hbm, ⟨12, _⟩ => ⟨S128x4x64x127, .f32⟩
  | .hbm, ⟨13, _⟩ => ⟨S16x8x256, .f32⟩
  | .hbm, ⟨14, _⟩ => ⟨S128x4x64x1, .f32⟩
  | .hbm, ⟨15, _⟩ => ⟨S128x4x64x128, .f32⟩
  | .hbm, ⟨16, _⟩ => ⟨S128x4x8x128, .f32⟩
  | .hbm, ⟨17, _⟩ => ⟨S_, .f32⟩
  | .hbm, ⟨18, _⟩ => ⟨S128x4x8x128, .f32⟩
  | .hbm, ⟨19, _⟩ => ⟨S128x4x8x128, .f32⟩
  | .hbm, ⟨20, _⟩ => ⟨S1x4x8x1, .f32⟩
  | .hbm, ⟨21, _⟩ => ⟨S_, .f32⟩
  | .hbm, ⟨22, _⟩ => ⟨S128x4x8, .f32⟩
  | .hbm, ⟨23, _⟩ => ⟨S128x4x8x1, .f32⟩
  | .hbm, ⟨24, _⟩ => ⟨S128x4x8x1, .f32⟩
  | .hbm, ⟨25, _⟩ => ⟨S128x4x8x1, .f32⟩
  | .hbm, ⟨26, _⟩ => ⟨S128x4x8x128, .f32⟩
  | .hbm, ⟨27, _⟩ => ⟨S128x4x8x128, .f32⟩
  | .hbm, ⟨28, _⟩ => ⟨S128x4x8x128, .f32⟩
  | .hbm, ⟨29, _⟩ => ⟨S_, .f32⟩
  | .hbm, ⟨30, _⟩ => ⟨S128x4x8, .f32⟩
  | .hbm, ⟨31, _⟩ => ⟨S128x4x8x1, .f32⟩
  | .hbm, ⟨32, _⟩ => ⟨S128x4x8x1, .f32⟩
  | .hbm, ⟨33, _⟩ => ⟨S128x4x8x1, .f32⟩
  | .hbm, ⟨34, _⟩ => ⟨S128x4x8x1, .f32⟩
  | .hbm, ⟨35, _⟩ => ⟨S128x4x8x1, .f32⟩
  | .hbm, ⟨36, _⟩ => ⟨S128x4x8x128, .f32⟩
  | .hbm, ⟨37, _⟩ => ⟨S128x4x8x128, .f32⟩
  | .hbm, ⟨38, _⟩ => ⟨S128x4x8x64, .f32⟩
  | _, _ => ⟨S128x4x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Sssm.lean ====
abbrev S128x2048x128 : Shape := ⟨3, ![128, 2048, 128]⟩
abbrev S2048x128 : Shape := ⟨2, ![2048, 128]⟩
abbrev S128x1024 : Shape := ⟨2, ![128, 1024]⟩
abbrev S8x2048x128 : Shape := ⟨3, ![8, 2048, 128]⟩
abbrev S8x1024 : Shape := ⟨2, ![8, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x512x128 : Shape := ⟨3, ![1, 512, 128]⟩
abbrev S128x128 : Shape := ⟨2, ![128, 128]⟩

abbrev nBuf : Space → Nat
  | .hbm => 6
  | .vmem => 9
  | .smem => 0
  | _ => 0

abbrev bufTy : (tb : Table) → Fin (tcTables nBuf tb) → BufTy
  | .hbm, ⟨0, _⟩ => ⟨S128x2048x128, .f32⟩
  | .hbm, ⟨1, _⟩ => ⟨S2048x128, .f32⟩
  | .hbm, ⟨2, _⟩ => ⟨S2048x128, .f32⟩
  | .hbm, ⟨3, _⟩ => ⟨S128x1024, .f32⟩
  | .hbm, ⟨4, _⟩ => ⟨S128x2048x128, .f32⟩
  | .hbm, ⟨5, _⟩ => ⟨S2048x128, .f32⟩
  | .local _ .vmem, ⟨0, _⟩ => ⟨S8x2048x128, .f32⟩
  | .local _ .vmem, ⟨1, _⟩ => ⟨S8x2048x128, .f32⟩
  | .local _ .vmem, ⟨2, _⟩ => ⟨S2048x128, .f32⟩
  | .local _ .vmem, ⟨3, _⟩ => ⟨S2048x128, .f32⟩
  | .local _ .vmem, ⟨4, _⟩ => ⟨S8x1024, .f32⟩
  | .local _ .vmem, ⟨5, _⟩ => ⟨S8x1024, .f32⟩
  | .local _ .vmem, ⟨6, _⟩ => ⟨S8x2048x128, .f32⟩
  | .local _ .vmem, ⟨7, _⟩ => ⟨S8x2048x128, .f32⟩
  | .local _ .vmem, ⟨8, _⟩ => ⟨S2048x128, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SssmRefIdeal.lean ====
abbrev S128x2048x128 : Shape := ⟨3, ![128, 2048, 128]⟩
abbrev S2048x128 : Shape := ⟨2, ![2048, 128]⟩
abbrev S128x1024 : Shape := ⟨2, ![128, 1024]⟩
abbrev S128x4x512x128 : Shape := ⟨4, ![128, 4, 512, 128]⟩
abbrev S128x2048 : Shape := ⟨2, ![128, 2048]⟩
abbrev S128x4x512x1 : Shape := ⟨4, ![128, 4, 512, 1]⟩
abbrev S128x512 : Shape := ⟨2, ![128, 512]⟩
abbrev S128x4x1x128 : Shape := ⟨4, ![128, 4, 1, 128]⟩

abbrev nBuf : Space → Nat
  | .hbm => 18
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S2048x128, .f32⟩
  | .hbm, ⟨2, _⟩ => ⟨S2048x128, .f32⟩
  | .hbm, ⟨3, _⟩ => ⟨S128x1024, .f32⟩
  | .hbm, ⟨4, _⟩ => ⟨S128x4x512x128, .f32⟩
  | .hbm, ⟨5, _⟩ => ⟨S128x2048, .f32⟩
  | .hbm, ⟨6, _⟩ => ⟨S128x4x512x1, .f32⟩
  | .hbm, ⟨7, _⟩ => ⟨S128x2048, .f32⟩
  | .hbm, ⟨8, _⟩ => ⟨S128x4x512x1, .f32⟩
  | .hbm, ⟨9, _⟩ => ⟨S128x512, .f32⟩
  | .hbm, ⟨10, _⟩ => ⟨S128x4x1x128, .f32⟩
  | .hbm, ⟨11, _⟩ => ⟨S128x4x512x128, .f32⟩
  | .hbm, ⟨12, _⟩ => ⟨S128x4x512x128, .f32⟩
  | .hbm, ⟨13, _⟩ => ⟨S128x4x512x128, .f32⟩
  | .hbm, ⟨14, _⟩ => ⟨S128x4x512x128, .f32⟩
  | .hbm, ⟨15, _⟩ => ⟨S128x4x512x128, .f32⟩
  | .hbm, ⟨16, _⟩ => ⟨S128x4x512x128, .f32⟩
  | .hbm, ⟨17, _⟩ => ⟨S128x2048x128, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.V.MemKv.lean ====
module

public import proofs.«01_k».proof.Proof.Gen.MemKvIdeal.Value
public import proofs.«01_k».proof.Proof.Gen.MemKvRefIdeal.Run
public import proofs.«01_k».proof.Defs
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open Idealize.ShloMosaic.Pipeline (Dat)

namespace Cert.MemKvRefIdeal.Stage
open Cert.MemKvRefIdeal Cert.MemKvRefIdeal.Gen

/-- The memory rows after their RMS normalization, scaled by the gain. -/
def normed (X : FVec Ideal S8x256x1024 .f32) (G : FVec Ideal S1x1024 .f32) : FVec Ideal S8x256x1024 .f32 :=
  mulf (mulf X (broadcastInDim S8x256x1024 ![0, 1, 2] bcast_S8x256x1_S8x256x1024_0_1_2
      (Host.rsqrt (addf (Host.divf (broadcastInDim S8x256x1 ![0, 1] bcast_S8x256_S8x256x1_0_1
          (Host.reduceAdd (mulf X X) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 (shapeCast _ G shapeCasts_S1x1024_S1024)))

/-- Keys and values of the memory rows, before the keys' normalization, split as (row, key or value, head, lane). -/
def kv (X : FVec Ideal S8x256x1024 .f32) (G : FVec Ideal S1x1024 .f32) (W : FVec Ideal S1x1024x2048 .f32) :
    FVec Ideal S8x256x2x4x256 .f32 :=
  shapeCast _ (Host.dotGeneral (φ₁ := .f32) (φ₂ := .f32) dot_S8x256x1024_S1024x2048_S8x256x2048_2_0_01_1_n_n none (normed X G)
    (shapeCast S1024x2048 W shapeCasts_S1x1024x2048_S1024x2048) : FVec Ideal S8x256x2048 .f32) shapeCasts_S8x256x2048_S8x256x2x4x256

/-- The keys before their normalization. -/
def keys (T : FVec Ideal S8x256x2x4x256 .f32) : FVec Ideal S8x256x4x256 .f32 :=
  shapeCast _ (extractStridedSlice S8x256x1x4x256 ![0, 0, 0, 0, 0] T slices_S8x256x2x4x256_S8x256x1x4x256_0_0_0_0_0)
    shapeCasts_S8x256x1x4x256_S8x256x4x256

/-- The first result: every head's key row normalized and scaled by its gain. -/
def outK (k : FVec Ideal S8x256x4x256 .f32) (H : FVec Ideal S1x256 .f32) : FVec Ideal S2048x1024 .f32 :=
  shapeCast _ (mulf (mulf k (broadcastInDim S8x256x4x256 ![0, 1, 2, 3] bcast_S8x256x4x1_S8x256x4x256_0_1_2_3
      (Host.rsqrt (addf (Host.divf (broadcastInDim S8x256x4x1 ![0, 1, 2] bcast_S8x256x4_S8x256x4x1_0_1_2
          (Host.reduceAdd (mulf k k) (constant S_ .f32 0x00000000#32) reducesTo_S8x256x4x256_S8x256x4_d3 h_S_))
        (broadcastInDim S8x256x4x1 ![] bcast_S_S8x256x4x1 (constant S_ .f32 0x43800000#32)))
        (broadcastInDim S8x256x4x1 ![] bcast_S_S8x256x4x1 (constant S_ .f32 0x358637BD#32))))))
    (broadcastInDim S8x256x4x256 ![0, 1, 2, 3] bcast_S1x1x1x256_S8x256x4x256_0_1_2_3
      (broadcastInDim S1x1x1x256 ![3] bcast_S256_S1x1x1x256_3 (shapeCast _ H shapeCasts_S1x256_S256))))
    shapeCasts_S8x256x4x256_S2048x1024

/-- The second result: the values. -/
def outV (T : FVec Ideal S8x256x2x4x256 .f32) : FVec Ideal S2048x1024 .f32 :=
  shapeCast _ (shapeCast S8x256x4x256 (extractStridedSlice S8x256x1x4x256 ![0, 0, 1, 0, 0] T
    slices_S8x256x2x4x256_S8x256x1x4x256_0_0_1_0_0) shapeCasts_S8x256x1x4x256_S8x256x4x256) shapeCasts_S8x256x4x256_S2048x1024

/-- What the reference computes: its two results, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = outK (keys (kv (m ((c.tc : Thread nD τ).loc main_arg0))
          (m ((c.tc : Thread nD τ).loc main_arg1)) (m ((c.tc : Thread nD τ).loc main_arg2)))) (m ((c.tc : Thread nD τ).loc main_arg3))
      ∧ r.2.mem ((c.tc : Thread nD τ).loc main_v36) = outV (kv (m ((c.tc : Thread nD τ).loc main_arg0))
          (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

/-- The reference terminates, its arguments unchanged and every counter at zero. -/
theorem frame : Cert.quiescent_MemKvRefIdeal := fun m ρ _ =>
  (θ_run (defs (F := Ideal)) _ _).mono (fun r h => And.intro (fun c => (h c).2.2) (sem_eq_zero_of_no_sems (by decide) r.2))
    (run_staged m ρ)

end Cert.MemKvRefIdeal.Stage

namespace Cert.MemKvIdeal.Value
open Cert.MemKvIdeal Cert.MemKvIdeal.Gen
open Cert.MemKvRefIdeal.Stage (normed kv keys outK outV)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The products of one point's rows are the reference's keys and values of those rows. -/
theorem core (c : Dev nD) (t : Fin cfg0.N) (i : Fin 512) (e : Fin 2048) (b : Fin 8) (r : Fin 256) (s : Fin 2)
    (h : Fin 4) (l : Fin 256) (h0 : b.val * 256 + r.val = t.val * 512 + i.val) (h1 : s.val * 1024 + h.val * 256 + l.val = e.val) :
    k0_pay3 (F := Ideal) (View.ld (iblk m c 0 t) r0_0) (View.ld (iblk m c 1 t) r0_1) (View.ld (iblk m c 2 t) r0_2) (ix2 i e)
      = kv (m ((c.tc : Thread nD τ).loc main_arg0)) (m ((c.tc : Thread nD τ).loc main_arg1)) (m ((c.tc : Thread nD τ).loc main_arg2)) (ix5 b r s h l) := by
  pointwise [k0_pay3, kv, normed]
  blk_point [iblk, V, idx t]

/-- The second output block: the reference's values at the block's place. -/
theorem point5 (c : Dev nD) (t : Fin cfg0.N) (y : S512x1024.Idx) :
    out0_5 (iblk m c 0 t) (iblk m c 1 t) (iblk m c 2 t) (iblk m c 3 t) y
      = outV (kv (m ((c.tc : Thread nD τ).loc main_arg0)) (m ((c.tc : Thread nD τ).loc main_arg1)) (m ((c.tc : Thread nD τ).loc main_arg2)))
          (((cfg0.win 5).blk t).view.emb y) := by
  frame_out
  unfold k0_pay10
  pointwise [k0_pay2, outV]
  refine core m c t _ _ _ _ _ _ _ ?_ ?_
  all_goals (blk_simp [idx t, Fin.val_mk]; omega)

/-- Every point reads the whole gain of the keys. -/
theorem gain (c : Dev nD) (t : Fin cfg0.N) : iblk m c 3 t = m ((c.tc : Thread nD τ).loc main_arg3) := by
  funext y
  idx_vars y
  blk_point [iblk, V, idx t]

set_option maxHeartbeats 1600000 in
/-- The first output block: the reference's normalized keys at the block's place. -/
theorem point4 (c : Dev nD) (t : Fin cfg0.N) (y : S512x1024.Idx) :
    out0_4 (iblk m c 0 t) (iblk m c 1 t) (iblk m c 2 t) (iblk m c 3 t) y
      = outK (keys (kv (m ((c.tc : Thread nD τ).loc main_arg0)) (m ((c.tc : Thread nD τ).loc main_arg1)) (m ((c.tc : Thread nD τ).loc main_arg2))))
          (m ((c.tc : Thread nD τ).loc main_arg3)) (((cfg0.win 4).blk t).view.emb y) := by
  unfold out0_4
  unfold k0_pay10
  have hT := core m c t
  generalize kv (m ((c.tc : Thread nD τ).loc main_arg0)) (m ((c.tc : Thread nD τ).loc main_arg1)) (m ((c.tc : Thread nD τ).loc main_arg2)) = R at hT ⊢
  unfold k0_pay5 k0_pay6 k0_pay4 k0_pay5
  generalize k0_pay3 (F := Ideal) (View.ld (iblk m c 0 t) r0_0) (View.ld (iblk m c 1 t) r0_1) (View.ld (iblk m c 2 t) r0_2) = T at hT ⊢
  rw [gain]
  generalize m ((c.tc : Thread nD τ).loc main_arg3) = H
  canon_tiles x h
  all_goals
    pointwise [outK, keys, k0_pay1, k0_pay4, k0_pay7, k0_pay8, k0_pay9]
    reads_congr
    all_goals first
      | (refine hT _ _ _ _ _ _ _ ?_ ?_ <;> (blk_simp [idx t, Fin.val_mk]; omega))
      | blk_ext [idx t]

theorem final4 (c : Dev nD) : (dats m 0 c).arrAt 4 cfg0.N
      = outK (keys (kv (m ((c.tc : Thread nD τ).loc main_arg0)) (m ((c.tc : Thread nD τ).loc main_arg1)) (m ((c.tc : Thread nD τ).loc main_arg2))))
          (m ((c.tc : Thread nD τ).loc main_arg3)) := by
  refine (dats m 0 c).arrAt_eq_of_covers 4 _ (by decide +kernel) fun t _ y => ?_
  blk_simp
  rw [after0_4]
  exact point4 m c t y

theorem final5 (c : Dev nD) : (dats m 0 c).arrAt 5 cfg0.N
      = outV (kv (m ((c.tc : Thread nD τ).loc main_arg0)) (m ((c.tc : Thread nD τ).loc main_arg1)) (m ((c.tc : Thread nD τ).loc main_arg2))) := by
  refine (dats m 0 c).arrAt_eq_of_covers 5 _ (by decide +kernel) fun t _ y => ?_
  blk_simp
  rw [after0_5]
  exact point5 m c t y

/-- From memories that hold the same arguments, kernel and reference end with the same two results. -/
theorem algebraic : Cert.algebraic_MemKvIdeal_MemKvRefIdeal := by
  intro m g m' g' _ h
  refine ⟨fun c => (dats m 0 c).arrAt 4 cfg0.N, fun c => (dats m 0 c).arrAt 5 cfg0.N, run_blocks m g, ?_⟩
  refine (θ_run _ _ _).mono (fun r hr c => ?_) (Cert.MemKvRefIdeal.Stage.run_staged m' g')
  obtain ⟨a0, a1, a2, a3⟩ := h c
  obtain ⟨r0, r1, k⟩ := hr c
  rw [a0, a1, a2, a3] at r0
  rw [a0, a1, a2] at r1
  exact ⟨r0.trans (final4 m c).symm, r1.trans (final5 m c).symm, k⟩

end Cert.MemKvIdeal.Value
-- ==== Proof.V.Reals.lean ====
/- Finite extended reals: which operations keep a value finite, and the one identity of weighted means that needs it. -/
module

public import Idealize.ShloMosaic.Lib.IdealHost
public import Idealize.ShloMosaic.Lib.Pointwise

@[expose] public section
noncomputable section

open Idealize.ShloMosaic

namespace Cert.Reals

/-- `x` is a real number. -/
def IsReal (x : EReal) : Prop := ∃ r : ℝ, x = (r : EReal)

theorem real_coe (r : ℝ) : IsReal (r : EReal) := ⟨r, rfl⟩
theorem real_zero : IsReal 0 := ⟨0, rfl⟩
theorem real_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  classical
  induction s using Finset.induction_on with
  | empty => exact real_zero
  | insert a t ha ih => rw [Finset.sum_insert ha]; exact (h a).add ih

/-- The sum of finitely many squares of reals is a real that is not negative. -/
theorem sum_sq {ι : Type} (s : Finset ι) {f : ι → EReal} (h : ∀ i, IsReal (f i)) :
    ∃ r : ℝ, 0 ≤ r ∧ ∑ i ∈ s, f i * f i = (r : EReal) := by
  classical
  induction s using Finset.induction_on with
  | empty => exact ⟨0, le_refl 0, rfl⟩
  | insert a t ha ih =>
    obtain ⟨r, hr, e⟩ := ih
    obtain ⟨b, hb⟩ := h a
    refine ⟨b * b + r, add_nonneg (mul_self_nonneg b) hr, ?_⟩
    rw [Finset.sum_insert ha, e, hb, ← EReal.coe_mul, ← EReal.coe_add]

/-- A real is one whose magnitude is below `⊤`. -/
theorem real_of_abs_lt {x : EReal} (h : max x (-x) < ⊤) : IsReal x := by
  induction x with
  | bot => simp at h
  | top => simp at h
  | coe r => exact ⟨r, rfl⟩

theorem eps_pos : ∃ r : ℝ, 0 < r ∧ Ideal.ofBits .f32 0x358637BD#32 = (r : EReal) := by
  refine ⟨_, ?_, by simp [Ideal.ofBits, Ideal.ieee]; rfl⟩
  norm_num

/-- The reciprocal root of a mean square, with the small constant added, is a real. -/
theorem real_rsqrt_mean {n : ℝ} (hn : 0 < n) {w : EReal} (hw : w = (n : EReal)) {ι : Type} (s : Finset ι) {f : ι → EReal}
    (h : ∀ i, IsReal (f i)) :
    IsReal (Ideal.rsqrt (Ideal.div (∑ i ∈ s, f i * f i) w + Ideal.ofBits .f32 0x358637BD#32)) := by
  obtain ⟨r, hr, e⟩ := sum_sq s h
  obtain ⟨p, hp, e'⟩ := eps_pos
  rw [e, e', hw, Ideal.div_coe hn.ne', ← EReal.coe_mul, ← EReal.coe_add, Ideal.rsqrt_coe]
  have : 0 < r * (1 / n) + p := by positivity
  rw [if_neg this.le.not_gt, if_neg this.ne']
  exact real_coe _

theorem real_fold_max {n : ℕ} (f : Fin (n + 1) → EReal) (h : ∀ i, IsReal (f i)) : IsReal (Finset.univ.fold max ⊥ f) := by
  classical
  have key : ∀ s : Finset (Fin (n + 1)), s.Nonempty → IsReal (s.fold max ⊥ f) := by
    intro s hs
    induction hs using Finset.Nonempty.cons_induction with
    | singleton a => rw [Finset.fold_singleton, max_bot_right]; exact h a
    | cons a t ha _ ih => rw [Finset.fold_cons]; exact (h a).max ih
  exact key _ Finset.univ_nonempty

theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a t ha ih =>
    rw [Finset.sum_insert ha, Finset.sum_insert ha, ← ih,
      EReal.right_distrib_of_nonneg_of_ne_top (EReal.coe_nonneg.2 hr) (EReal.coe_ne_top r)]

/-- The sum of exponentials of finitely many reals, of one at least, is a positive real. -/
theorem sum_exp_pos {n : ℕ} (f : Fin (n + 1) → EReal) (h : ∀ i, IsReal (f i)) :
    ∃ r : ℝ, 0 < r ∧ ∑ i, Ideal.exp (f i) = (r : EReal) := by
  choose g hg using h
  refine ⟨∑ i, Real.exp (g i), Finset.sum_pos (fun i _ => Real.exp_pos _) Finset.univ_nonempty, ?_⟩
  rw [Finset.sum_congr rfl fun i _ => by rw [hg i, Ideal.exp_coe]]
  induction (Finset.univ : Finset (Fin (n + 1))) using Finset.induction_on with
  | empty => simp
  | insert a t ha ih => rw [Finset.sum_insert ha, Finset.sum_insert ha, ih, EReal.coe_add]

/-- The weights of finite scores `s`, divided by their sum before they weigh the values `v`, give what the weighted sum divided
    afterwards gives. -/
theorem softmax_div {n : ℕ} (s v : Fin (n + 1) → EReal) (h : ∀ i, IsReal (s i)) :
    Ideal.div (∑ k, Ideal.exp (s k - Finset.univ.fold max ⊥ s) * v k) (∑ k, Ideal.exp (s k - Finset.univ.fold max ⊥ s))
      = ∑ k, v k * Ideal.div (Ideal.exp (s k - Finset.univ.fold max ⊥ s)) (∑ k, Ideal.exp (s k - Finset.univ.fold max ⊥ s)) := by
  obtain ⟨r, hr, e⟩ := sum_exp_pos _ fun k => (h k).sub (real_fold_max s h)
  rw [e, Ideal.div_coe hr.ne', sum_mul_real _ _ (by positivity)]
  refine Finset.sum_congr rfl fun k _ => ?_
  rw [Ideal.div_coe hr.ne', mul_comm (v k), mul_right_comm]

/-- The greatest entry along the last of four axes, from the starting value. -/
theorem max_last {n0 n1 n2 n3 : ℕ} (x : FVec Ideal ⟨4, ![n0, n1, n2, n3]⟩ .f32) {u : Shape} (c : FVec Ideal u .f32) (hu : 0 < u.numel)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (a : Fin n0) (b : Fin n1) (d : Fin n2) :
    Host.reduce FloatOps.maximumf x c h' hu (ix3 a b d)
      = Finset.univ.fold max (c (Shape.Idx.first hu)) (fun k => x (ix4 a b d k)) := by
  rw [Host.reduce_eq_fold, Shape.ReducesTo.drop_eq_drop h' h, h.fold_fiber_r4_a3]
  rfl

theorem pos_inf : Ideal.ofBits .f32 0x7F800000#32 = ⊤ := by simp [Ideal.ofBits, Ideal.ieee]

/-- Where the comparison of a magnitude with infinity holds, the entry is real. -/
theorem real_of_cmp {s : Shape} {x b : FVec Ideal s .f32} (hb : ∀ i, b i = ⊤)
    (h : cmpf .olt (Host.absf x) b = (fun _ => 1#1)) (i : s.Idx) : IsReal (x i) := by
  have := congrFun h i
  pointwise [hb] at this
  refine real_of_abs_lt (of_decide_eq_true (?_ : decide (FloatOps.absf (F := Ideal) (φ := .f32) (x i) < ⊤) = true))
  revert this
  cases decide (FloatOps.absf (F := Ideal) (φ := .f32) (x i) < ⊤) <;> simp

/-- A real factor goes into a sum of reals. -/
theorem mul_sum_real {ι : Type} (s : Finset ι) {w : EReal} (hw : IsReal w) (f : ι → EReal) (h : ∀ i, IsReal (f i)) :
    w * ∑ i ∈ s, f i = ∑ i ∈ s, w * f i := by
  classical
  obtain ⟨a, rfl⟩ := hw
  induction s using Finset.induction_on with
  | empty => simp
  | insert b t hb ih =>
    obtain ⟨x, hx⟩ := h b
    obtain ⟨y, hy⟩ := IsReal.sum t h
    rw [Finset.sum_insert hb, Finset.sum_insert hb, ← ih, hx, hy, ← EReal.coe_add, ← EReal.coe_mul, ← EReal.coe_mul, ← EReal.coe_mul,
      ← EReal.coe_add, mul_add]

theorem logistic_real (r : ℝ) : Ideal.div 1 (1 + Ideal.exp (-(r : EReal))) = ((1 / (1 + Real.exp (-r)) : ℝ) : EReal) := by
  have h : (0 : ℝ) < 1 + Real.exp (-r) := by positivity
  rw [← EReal.coe_neg, Ideal.exp_coe, ← EReal.coe_one, ← EReal.coe_add, Ideal.div_coe h.ne', ← EReal.coe_mul, one_mul]

/-- Half a real plus half of it times the hyperbolic tangent of the half is the real times its logistic. -/
theorem half_tanh {x : EReal} (hx : IsReal x) :
    ((1 / 2 : ℝ) : EReal) * x + ((1 / 2 : ℝ) : EReal) * x * Ideal.tanh (((1 / 2 : ℝ) : EReal) * x)
      = x * Ideal.div 1 (1 + Ideal.exp (-x)) := by
  obtain ⟨r, rfl⟩ := hx
  rw [logistic_real, ← EReal.coe_mul, Ideal.tanh_coe, ← EReal.coe_mul, ← EReal.coe_mul, ← EReal.coe_add]
  congr 1
  have he : 0 < Real.exp (1 / 2 * r) := Real.exp_pos _
  rw [Real.tanh_eq_sinh_div_cosh, Real.sinh_eq, Real.cosh_eq, Real.exp_neg (1 / 2 * r),
    show -r = -(1 / 2 * r) + -(1 / 2 * r) by ring, Real.exp_add, Real.exp_neg (1 / 2 * r)]
  generalize Real.exp (1 / 2 * r) = e at he ⊢
  field_simp
  ring

theorem real_silu {x : EReal} (hx : IsReal x) : IsReal (x * Ideal.div 1 (1 + Ideal.exp (-x))) := by
  obtain ⟨r, rfl⟩ := hx
  rw [logistic_real]
  exact (real_coe _).mul (real_coe _)

end Cert.Reals
-- ==== Proof.V.AttnRef.lean ====
/- The memory attention as the reference computes it: its operations by stages, and each result entry as one row of attention over
   the scores, where these are real. -/
module

public import proofs.«01_k».proof.Defs
public import proofs.«01_k».proof.Proof.Gen.AttnRefIdeal.Run
public import proofs.«01_k».proof.Proof.V.Reals
public import proofs.«01_k».proof.AttnRefIdeal
public import Idealize.ShloMosaic.Lib.Pointwise

@[expose] public section
set_option maxRecDepth 16384
noncomputable section

open Idealize.ShloMosaic Idealize.ShloMosaic.TcCoe Idealize.SL.Sem
open Idealize.ShloMosaic.Pipeline (Dat)
open Cert.Reals

namespace Cert.AttnRefIdeal.Stage
open Cert.AttnRefIdeal Cert.AttnRefIdeal.Gen

/-- The raw queries: their columns of the projection, split by batch, position, head and lane. -/
def raw (P : FVec Ideal S16384x10752 .bf16) : FVec Ideal S8x2048x4x256 .f32 :=
  shapeCast _ (extf .f32 (extractStridedSlice S16384x1024 ![0, 9216] P slices_S16384x10752_S16384x1024_0_9216) bitsLt_bf16_f32)
    shapeCasts_S16384x1024_S8x2048x4x256

/-- The queries after their RMS normalization, scaled by the gain. -/
def queries (x : FVec Ideal S8x2048x4x256 .f32) (G : FVec Ideal S1x256 .f32) : FVec Ideal S8x2048x4x256 .f32 :=
  mulf (mulf x (broadcastInDim S8x2048x4x256 ![0, 1, 2, 3] bcast_S8x2048x4x1_S8x2048x4x256_0_1_2_3
      (Host.rsqrt (addf (Host.divf (broadcastInDim S8x2048x4x1 ![0, 1, 2] bcast_S8x2048x4_S8x2048x4x1_0_1_2
          (Host.reduceAdd (mulf x x) (constant S_ .f32 0x00000000#32) reducesTo_S8x2048x4x256_S8x2048x4_d3 h_S_))
        (broadcastInDim S8x2048x4x1 ![] bcast_S_S8x2048x4x1 (constant S_ .f32 0x43800000#32)))
        (broadcastInDim S8x2048x4x1 ![] bcast_S_S8x2048x4x1 (constant S_ .f32 0x358637BD#32))))))
    (broadcastInDim S8x2048x4x256 ![0, 1, 2, 3] bcast_S1x1x1x256_S8x2048x4x256_0_1_2_3
      (broadcastInDim S1x1x1x256 ![3] bcast_S256_S1x1x1x256_3 (shapeCast _ G shapeCasts_S1x256_S256)))

/-- The scores of every query against the memory keys of its batch and head. -/
def scores (q : FVec Ideal S8x2048x4x256 .f32) (K : FVec Ideal S2048x1024 .f32) : FVec Ideal S8x4x2048x256 .f32 :=
  mulf (Host.dotGeneral (φ₁ := .f32) (φ₂ := .f32) dot_S8x2048x4x256_S8x256x4x256_S8x4x2048x256_3_3_1_1_02_02 none q
      (shapeCast S8x256x4x256 K shapeCasts_S2048x1024_S8x256x4x256) : FVec Ideal S8x4x2048x256 .f32)
    (broadcastInDim S8x4x2048x256 ![] bcast_S_S8x4x2048x256 (constant S_ .f32 0x3D800000#32))

/-- The exponentials of the scores less their row's greatest. -/
def exps (s : FVec Ideal S8x4x2048x256 .f32) : FVec Ideal S8x4x2048x256 .f32 :=
  Host.exp (subf s (broadcastInDim S8x4x2048x256 ![0, 1, 2, 3] bcast_S8x4x2048x1_S8x4x2048x256_0_1_2_3
    (broadcastInDim S8x4x2048x1 ![0, 1, 2] bcast_S8x4x2048_S8x4x2048x1_0_1_2
      (maximumf (broadcastInDim S8x4x2048 ![] bcast_S_S8x4x2048 (constant S_ .f32 0xFF800000#32))
        (Host.reduce FloatOps.maximumf s (constant S_ .f32 0xFF800000#32) reducesTo_S8x4x2048x256_S8x4x2048_d3 h_S_)))))

/-- The exponentials divided by their row's sum. -/
def weights (p : FVec Ideal S8x4x2048x256 .f32) : FVec Ideal S8x4x2048x256 .f32 :=
  Host.divf p (broadcastInDim S8x4x2048x256 ![0, 1, 2, 3] bcast_S8x4x2048x1_S8x4x2048x256_0_1_2_3
    (broadcastInDim S8x4x2048x1 ![0, 1, 2] bcast_S8x4x2048_S8x4x2048x1_0_1_2
      (Host.reduceAdd p (constant S_ .f32 0x00000000#32) reducesTo_S8x4x2048x256_S8x4x2048_d3 h_S_)))

/-- The weighted values, back in rows of all heads. -/
def out (w : FVec Ideal S8x4x2048x256 .f32) (V : FVec Ideal S2048x1024 .f32) : FVec Ideal S16384x1024 .bf16 :=
  truncf .bf16 (shapeCast S16384x1024 (transpose S8x2048x4x256 [0, 3, 1, 2]
    (Host.dotGeneral (φ₁ := .f32) (φ₂ := .f32) dot_S8x256x4x256_S8x4x2048x256_S8x4x256x2048_1_3_3_2_02_01 none
      (shapeCast S8x256x4x256 V shapeCasts_S2048x1024_S8x256x4x256) w : FVec Ideal S8x4x256x2048 .f32)
    transposes_S8x4x256x2048_S8x2048x4x256_0_3_1_2) shapeCasts_S8x2048x4x256_S16384x1024) bitsLt_bf16_f32

/-- What the reference computes: its result, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = out (weights (exps (scores (queries (raw (m ((c.tc : Thread nD τ).loc main_arg0)))
          (m ((c.tc : Thread nD τ).loc main_arg3))) (m ((c.tc : Thread nD τ).loc main_arg1))))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

/-- One row of attention, divided after the sum: scores `s` over values `v`. -/
def row (s v : Fin 256 → EReal) : EReal :=
  Ideal.div (∑ k, Ideal.exp (s k - Finset.univ.fold max ⊥ s) * v k) (∑ k, Ideal.exp (s k - Finset.univ.fold max ⊥ s))

theorem neg_inf : Ideal.ofBits .f32 0xFF800000#32 = ⊥ := by simp [Ideal.ofBits, Ideal.ieee]

theorem out_apply (w : FVec Ideal S8x4x2048x256 .f32) (V : FVec Ideal S2048x1024 .f32) (i : Fin 16384) (j : Fin 1024) :
    out w V (ix2 i j) = ∑ k : Fin 256, V (ix2 (⟨i.val / 2048 * 256 + k.val, by omega⟩ : Fin 2048) j)
      * w (ix4 (⟨i.val / 2048, by omega⟩ : Fin 8) (⟨j.val / 256, by omega⟩ : Fin 4) (⟨i.val % 2048, by omega⟩ : Fin 2048) k) := by
  pointwise [out]

/-- The greatest score of a row. -/
theorem max_apply (s : FVec Ideal S8x4x2048x256 .f32) (b : Fin 8) (h : Fin 4) (q : Fin 2048) :
    Host.reduce FloatOps.maximumf s (constant S_ .f32 0xFF800000#32) reducesTo_S8x4x2048x256_S8x4x2048_d3 h_S_ (ix3 b h q)
      = Finset.univ.fold max (Ideal.ofBits .f32 0xFF800000#32) (fun k => s (ix4 b h q k)) :=
  max_last s (constant S_ .f32 0xFF800000#32) h_S_ reducesTo_S8x4x2048x256_S8x4x2048_d3 (by decide) b h q

theorem exps_of_max (s : FVec Ideal S8x4x2048x256 .f32) (M : FVec Ideal S8x4x2048 .f32) (b : Fin 8) (h : Fin 4) (q : Fin 2048)
    (k : Fin 256) :
    Host.exp (subf s (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant S_ .f32 0xFF800000#32)) M)))) (ix4 b h q k)
      = Ideal.exp (s (ix4 b h q k) - max (Ideal.ofBits .f32 0xFF800000#32) (M (ix3 b h q))) := by
  pointwise []

theorem exps_apply (s : FVec Ideal S8x4x2048x256 .f32) (b : Fin 8) (h : Fin 4) (q : Fin 2048) (k : Fin 256) :
    exps s (ix4 b h q k) = Ideal.exp (s (ix4 b h q k) - Finset.univ.fold max ⊥ fun k => s (ix4 b h q k)) := by
  refine (exps_of_max s _ b h q k).trans ?_
  rw [max_apply, neg_inf, max_bot_left]

theorem weights_apply (p : FVec Ideal S8x4x2048x256 .f32) (b : Fin 8) (h : Fin 4) (q : Fin 2048) (k : Fin 256) :
    weights p (ix4 b h q k) = Ideal.div (p (ix4 b h q k)) (∑ k, p (ix4 b h q k)) := by
  pointwise [weights]

/-- The reference's result at a row and a column, where the row's scores are real. -/
theorem out_row (s : FVec Ideal S8x4x2048x256 .f32) (V : FVec Ideal S2048x1024 .f32) (hs : ∀ i, IsReal (s i))
    (i : Fin 16384) (j : Fin 1024) :
    out (weights (exps s)) V (ix2 i j)
      = row (fun k => s (ix4 (⟨i.val / 2048, by omega⟩ : Fin 8) (⟨j.val / 256, by omega⟩ : Fin 4) (⟨i.val % 2048, by omega⟩ : Fin 2048) k))
        (fun k => V (ix2 (⟨i.val / 2048 * 256 + k.val, by omega⟩ : Fin 2048) j)) := by
  rw [out_apply]
  simp only [weights_apply, exps_apply]
  exact (softmax_div _ _ fun k => hs _).symm

theorem two_fifty_six : Ideal.ofBits .f32 0x43800000#32 = ((256 : ℝ) : EReal) := by
  simp [Ideal.ofBits, Ideal.ieee]
  rw [← EReal.coe_mul]
  norm_num

theorem scale : Ideal.ofBits .f32 0x3D800000#32 = ((1 / 16 : ℝ) : EReal) := by
  simp [Ideal.ofBits, Ideal.ieee]
  rw [← EReal.coe_mul]
  norm_num

theorem real_score (f g k : Fin 256 → EReal) (hf : ∀ x, IsReal (f x)) (hg : ∀ x, IsReal (g x)) (hk : ∀ x, IsReal (k x)) :
    IsReal ((∑ x, f x * Ideal.rsqrt (Ideal.div (∑ x, f x * f x) (Ideal.ofBits .f32 0x43800000#32) + Ideal.ofBits .f32 0x358637BD#32)
      * g x * k x) * Ideal.ofBits .f32 0x3D800000#32) :=
  (IsReal.sum _ fun x => (((hf x).mul (real_rsqrt_mean (by norm_num) two_fifty_six _ hf)).mul (hg x)).mul (hk x)).mul ⟨_, scale⟩

/-- Every score is real where the raw queries, the keys and the gain are. -/
theorem scores_real (P : FVec Ideal S16384x10752 .bf16) (K : FVec Ideal S2048x1024 .f32) (G : FVec Ideal S1x256 .f32)
    (hP : ∀ (i : Fin 16384) (j : Fin 10752), 9216 ≤ j.val → j.val < 10240 → IsReal (P (ix2 i j))) (hK : ∀ i, IsReal (K i))
    (hG : ∀ i, IsReal (G i)) (i : S8x4x2048x256.Idx) : IsReal (scores (queries (raw P) G) K i) := by
  idx_vars i
  pointwise [scores, queries, raw]
  refine real_score _ _ _ (fun x => hP _ _ ?_ ?_) (fun x => hG _) fun x => hK _
  all_goals (simp only [Fin.val_mk]; omega)

/-- The reference terminates, its arguments unchanged and every counter at zero. -/
theorem frame : Cert.quiescent_AttnRefIdeal := fun m ρ _ =>
  (θ_run (defs (F := Ideal)) _ _).mono (fun r h => And.intro (fun c => (h c).2) (sem_eq_zero_of_no_sems (by decide) r.2))
    (run_staged m ρ)

end Cert.AttnRefIdeal.Stage
-- ==== Proof.V.Attn.lean ====
/- The memory attention: each point's four heads are the reference's rows, and the claim. -/
module

public import proofs.«01_k».proof.Proof.Gen.AttnIdeal.Value
public import proofs.«01_k».proof.Proof.Gen.Pre_finite_scores
public import proofs.«01_k».proof.Proof.V.AttnRef
public import proofs.«01_k».proof.Defs
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)
open Cert.Reals

namespace Cert.AttnIdeal.Value
open Cert.AttnIdeal Cert.AttnIdeal.Gen
open Cert.AttnRefIdeal.Stage (raw queries scores exps weights out row)

variable (m : (ℓ : Loc nD τ sig) → Buf (Elt Ideal) ℓ)

/-- The scores of the launched arguments. -/
abbrev sc (c : Dev nD) := scores (queries (raw (m ((c.tc : Thread nD τ).loc main_arg0))) (m ((c.tc : Thread nD τ).loc main_arg3)))
  (m ((c.tc : Thread nD τ).loc main_arg1))

theorem idx : ∀ t : Fin cfg0.N, win0_0.index t = ![t.val, 9] ∧ win0_1.index t = ![t.val / 4, 0] ∧ win0_2.index t = ![t.val / 4, 0]
    ∧ win0_3.index t = ![0, 0] ∧ win0_4.index t = ![t.val, 0] :=
  (by decide +kernel : ∀ t : Fin grid0.N, _)

/-- The raw queries a point reads. -/
theorem read0 (c : Dev nD) (t : Fin cfg0.N) (i : Fin 512) (x : Fin 1024) (r : Fin 16384) (y : Fin 10752)
    (hr : r.val = t.val * 512 + i.val) (hy : y.val = 9216 + x.val) :
    X0_0 m c t (ix2 i x) = m ((c.tc : Thread nD τ).loc main_arg0) (ix2 r y) := by
  unfold X0_0 Pipeline.Window.fill
  rw [dif_pos (moved0_0 t _)]
  blk_point [iblk, V, idx t]

/-- The memory keys a point reads. -/
theorem read1 (c : Dev nD) (t : Fin cfg0.N) (k : Fin 256) (x : Fin 1024) (r : Fin 2048) (y : Fin 1024)
    (hr : r.val = t.val / 4 * 256 + k.val) (hy : y.val = x.val) :
    iblk m c 1 t (ix2 k x) = m ((c.tc : Thread nD τ).loc main_arg1) (ix2 r y) := by
  blk_point [iblk, V, idx t]

/-- The memory values a point reads. -/
theorem read2 (c : Dev nD) (t : Fin cfg0.N) (k : Fin 256) (x : Fin 1024) (r : Fin 2048) (y : Fin 1024)
    (hr : r.val = t.val / 4 * 256 + k.val) (hy : y.val = x.val) :
    iblk m c 2 t (ix2 k x) = m ((c.tc : Thread nD τ).loc main_arg2) (ix2 r y) := by
  blk_point [iblk, V, idx t]

/-- Every point reads the whole gain. -/
theorem gain (c : Dev nD) (t : Fin cfg0.N) : iblk m c 3 t = m ((c.tc : Thread nD τ).loc main_arg3) := by
  funext y
  idx_vars y
  blk_point [iblk, V, idx t]

set_option maxHeartbeats 3200000 in
/-- A point's output block is the reference's rows at the block's place. -/
theorem point4 (c : Dev nD) (t : Fin cfg0.N) (hs : ∀ i, IsReal (sc m c i)) (y : S512x1024.Idx) :
    outsAt0 m c t y = out (weights (exps (sc m c))) (m ((c.tc : Thread nD τ).loc main_arg2)) (((cfg0.win 4).blk t).view.emb y) := by
  have ht : t.val < 32 := t.isLt
  obtain ⟨r, j, e, hr, hj⟩ : ∃ (r : Fin 16384) (j : Fin 1024), ((cfg0.win 4).blk t).view.emb y = ix2 r j
      ∧ r.val = t.val * 512 + (y 0).val ∧ j.val = (y 1).val := by
    idx_vars y
    exact ⟨⟨t.val * 512 + y0.val, by omega⟩, y1, by blk_ext [idx t], rfl, rfl⟩
  rw [e, Cert.AttnRefIdeal.Stage.out_row _ _ hs]
  have p0 := read0 m c t
  have p1 := read1 m c t
  have p2 := read2 m c t
  unfold outsAt0
  rw [gain]
  frame_out
  generalize X0_0 m c t = B0 at p0 ⊢
  generalize iblk m c 1 t = B1 at p1 ⊢
  generalize iblk m c 2 t = B2 at p2 ⊢
  unfold sc
  generalize m ((c.tc : Thread nD τ).loc main_arg0) = P at p0 ⊢
  generalize m ((c.tc : Thread nD τ).loc main_arg1) = K at p1 ⊢
  generalize m ((c.tc : Thread nD τ).loc main_arg2) = W at p2 ⊢
  generalize m ((c.tc : Thread nD τ).loc main_arg3) = G
  canon_tiles x h
  all_goals
    pointwise [k0_pay1, k0_pay2, k0_pay3, k0_pay4, k0_pay5, k0_pay6, k0_pay7, k0_pay8, k0_pay9, k0_pay10, k0_pay11, k0_pay12, row,
      scores, queries, raw, Cert.AttnRefIdeal.Stage.neg_inf]
    reads_congr
    all_goals first | rfl | refine p0 _ _ _ _ ?_ ?_ | refine p1 _ _ _ _ ?_ ?_ | refine p2 _ _ _ _ ?_ ?_
    all_goals ((try simp only [Fin.val_mk]); omega)

theorem final4 (c : Dev nD) (hs : ∀ i, IsReal (sc m c i)) :
    (dats m 0 c).arrAt 4 cfg0.N = out (weights (exps (sc m c))) (m ((c.tc : Thread nD τ).loc main_arg2)) := by
  refine (dats m 0 c).arrAt_eq_of_covers 4 _ (by decide +kernel) fun t _ y => ?_
  blk_simp
  rw [after0_4]
  exact point4 m c t hs y

/-- Under the precondition every score is real. -/
theorem scores_of_pre (h : Cert.Pre_AttnIdeal_finite_scores m) (c : Dev nD) (i) : IsReal (sc m c i) := by
  obtain ⟨h0, h1, h2⟩ := h c
  refine Cert.AttnRefIdeal.Stage.scores_real _ _ _ (fun i j hl hu => ?_) (fun i => ?_) (fun i => ?_) i
  · have := real_of_cmp (fun i => pos_inf) h0 (ix2 i (⟨j.val - 9216, by omega⟩ : Fin 1024))
    have e : (⟨9216 + (j.val - 9216), by omega⟩ : Fin 10752) = j := Fin.ext (by simp; omega)
    pointwise [e] at this
    exact this
  · exact real_of_cmp (fun i => pos_inf) h1 i
  · exact real_of_cmp (fun i => pos_inf) h2 i

/-- From memories that hold the same finite arguments, kernel and reference end with the same result. -/
theorem algebraic : Cert.algebraic_AttnIdeal_AttnRefIdeal_pre_finite_scores := by
  intro m g m' g' hp h
  have hs := scores_of_pre m hp
  refine ⟨fun c => (dats m 0 c).arrAt 4 cfg0.N, run_blocks m g, ?_⟩
  refine (θ_run _ _ _).mono (fun r hr c => ?_) (Cert.AttnRefIdeal.Stage.run_staged m' g')
  obtain ⟨a0, a1, a2, a3⟩ := h c
  obtain ⟨r0, k⟩ := hr c
  rw [a0, a1, a2, a3] at r0
  exact ⟨r0.trans (final4 m c (hs c)).symm, k⟩

end Cert.AttnIdeal.Value
-- ==== Proof.V.GmoeRun.lean ====
module

public import proofs.«01_k».proof.Proof.Gen.GmoeIdeal.Skeleton
public import proofs.«01_k».proof.Proof.Gen.GmoeIdeal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The grouped experts' kernel, run on symbolic staging memrefs: one run for a used tile, one for an idle tile. -/

@[expose] public section

set_option maxRecDepth 16384
set_option Elab.async false

noncomputable section

namespace Cert.GmoeIdeal.Body

open Cert.GmoeIdeal Cert.GmoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables as whole memrefs. -/
abbrev tb0 : Memref sig .tc .smem S196 .i32 := Memref.whole main_arg0
abbrev tb1 : Memref sig .tc .smem S196 .i32 := Memref.whole main_arg1
abbrev tb2 : Memref sig .tc .smem S1 .i32 := Memref.whole main_arg2

/-- The number of used tiles, as the body reads it. -/
abbrev word2 (T2 : S1.Idx → Elt F .i32) : Elt F .i32 :=
  View.readAt (Elt F) tb2.view (Rect.unit (s := S1) ![0] S1.size inb_S1_S1_0).toLoadRect T2 (Shape.Idx.first (numel1_S1.symm ▸ Nat.one_pos))
abbrev word0 (i : grid0.Coords) (T : S196.Idx → Elt F .i32) : Elt F .i32 :=
  View.readAt (Elt F) tb0.view (Rect.unit (s := S196) (k0_off2 i) S1.size (k0_off2_inb i)).toLoadRect T (Shape.Idx.first (numel1_S1.symm ▸ Nat.one_pos))
abbrev word1 (i : grid0.Coords) (T : S196.Idx → Elt F .i32) : Elt F .i32 :=
  View.readAt (Elt F) tb1.view (Rect.unit (s := S196) (k0_off2 i) S1.size (k0_off2_inb i)).toLoadRect T (Shape.Idx.first (numel1_S1.symm ▸ Nat.one_pos))

section
variable (c : Dev nD) (i : grid0.Coords)
  (arg4 : Memref sig .tc .vmem S192x1152 .f32) (harg4 : arg4.IsWhole) (arg5 : Memref sig .tc .vmem S1x1024x256 .bf16) (harg5 : arg5.IsWhole)
  (arg6 : Memref sig .tc .vmem S1x1024x256 .bf16) (harg6 : arg6.IsWhole) (arg7 : Memref sig .tc .vmem S1x256x1024 .bf16) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x256x1024 .bf16) (harg10 : arg10.IsWhole) (arg11 : Memref sig .tc .vmem S192x1024 .f32) (harg11 : arg11.IsWhole)
  (T0 T1 : S196.Idx → Elt F .i32) (T2 : S1.Idx → Elt F .i32)
  (x0 : S192x1152.Idx → Elt F .f32) (x1 x2 : S1x1024x256.Idx → Elt F .bf16) (x3 : S1x256x1024.Idx → Elt F .bf16)
  (x4 x5 : S1x1024x256.Idx → Elt F .bf16) (x6 : S1x256x1024.Idx → Elt F .bf16)

/-- What the body reads, held: the staged inputs and the tables. -/
abbrev Reads : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (arg10.view.loc (c : Thread nD τ) ↦[arg10.view.set]{fullShare} arg10.view.rep x6)
    ∗ (tb0.view.loc (c : Thread nD τ) ↦{fullShare.right} T0)
    ∗ (tb1.view.loc (c : Thread nD τ) ↦{fullShare.right} T1)
    ∗ (tb2.view.loc (c : Thread nD τ) ↦{fullShare.right} T2))

/-- An idle tile: the body stores zeros. -/
theorem run_idle (k0_h1 : ¬ k0_cond1 i (word2 T2) = 1#1) (k0_h2 : k0_cond2 i (word2 T2) = 1#1) (K : PUnit → sProp 𝕄) :
    iprop(Reads c arg4 arg5 arg6 arg7 arg8 arg9 arg10 T0 T1 T2 x0 x1 x2 x3 x4 x5 x6
        ∗ (∃ d, owns (c : Thread nD τ) arg11 fullShare d)
        ∗ (iprop(Reads c arg4 arg5 arg6 arg7 arg8 arg9 arg10 T0 T1 T2 x0 x1 x2 x3 x4 x5 x6
            ∗ owns (c : Thread nD τ) arg11 fullShare (k0_pay2 (F := F))) -∗ K ⟨⟩))
      ⊢ wp frame (wpE (defs₀ (F := F)) Variants.none c none) Set.univ (cc0_moe_grouped i tb0 (Memref.isWhole_whole _) tb1 (Memref.isWhole_whole _) tb2 (Memref.isWhole_whole _) arg4 harg4 arg5 harg5 arg6 harg6 arg7 harg7 arg8 harg8 arg9 harg9 arg10 harg10 arg11 harg11) K := by
  unfold owns Reads
  rw [cc0_moe_grouped_eq_skeleton]; unfold cc0_moe_grouped_skel
  iintro ⟨⟨H0, H1, H2, H3, H4, H5, H6, HT0, HT1, HT2⟩, ⟨%d7, %f7, -, HO7⟩, Hk⟩
  have hT0 : tb0.IsWhole := Memref.isWhole_whole _
  have hT1 : tb1.IsWhole := Memref.isWhole_whole _
  have hT2 : tb2.IsWhole := Memref.isWhole_whole _
  sl_exec! (disch := first | (guard_target = ¬(k0_cond1 _ _ = _); exact k0_h1) | (guard_target = k0_cond2 _ _ = _; exact k0_h2))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  iexists _; isplitr; swap
  · iexact HO7
  · ipureintro
    unfold run_idle.sl.HO7_1; exact View.read_writes_full _ _ (fun a => by fin_cases a <;> simp) _ _

set_option maxHeartbeats 4000000 in
/-- A used tile: the body stores the two experts' sum. -/
theorem run_live (k0_h1 : k0_cond1 i (word2 T2) = 1#1) (k0_h2 : ¬ k0_cond2 i (word2 T2) = 1#1) (K : PUnit → sProp 𝕄) :
    iprop(Reads c arg4 arg5 arg6 arg7 arg8 arg9 arg10 T0 T1 T2 x0 x1 x2 x3 x4 x5 x6
        ∗ (∃ d, owns (c : Thread nD τ) arg11 fullShare d)
        ∗ (iprop(Reads c arg4 arg5 arg6 arg7 arg8 arg9 arg10 T0 T1 T2 x0 x1 x2 x3 x4 x5 x6
            ∗ owns (c : Thread nD τ) arg11 fullShare (k0_pay1 (k0_pay3 x0) (k0_pay5 x0 (word0 i T0) x1 x2 x3) (k0_pay6 x0 (word1 i T1)) x4 x5 x6)) -∗ K ⟨⟩))
      ⊢ wp frame (wpE (defs₀ (F := F)) Variants.none c none) Set.univ (cc0_moe_grouped i tb0 (Memref.isWhole_whole _) tb1 (Memref.isWhole_whole _) tb2 (Memref.isWhole_whole _) arg4 harg4 arg5 harg5 arg6 harg6 arg7 harg7 arg8 harg8 arg9 harg9 arg10 harg10 arg11 harg11) K := by
  unfold owns Reads
  rw [cc0_moe_grouped_eq_skeleton]; unfold cc0_moe_grouped_skel
  iintro ⟨⟨H0, H1, H2, H3, H4, H5, H6, HT0, HT1, HT2⟩, ⟨%d7, %f7, -, HO7⟩, Hk⟩
  have hT0 : tb0.IsWhole := Memref.isWhole_whole _
  have hT1 : tb1.IsWhole := Memref.isWhole_whole _
  have hT2 : tb2.IsWhole := Memref.isWhole_whole _
  sl_exec! (disch := first | (guard_target = k0_cond1 _ _ = _; exact k0_h1) | (guard_target = ¬(k0_cond2 _ _ = _); exact k0_h2))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  iexists _; isplitr; swap
  · iexact HO7
  · ipureintro
    unfold run_live.sl.HO7_1
    rw [View.read_writes_full _ _ (fun a => by fin_cases a <;> simp), View.readAt_rep_full arg8.view x4 inb_S1x1024x256_S1x1024x256_0_0_0,
      View.readAt_rep_full arg9.view x5 inb_S1x1024x256_S1x1024x256_0_0_0, View.readAt_rep_full arg10.view x6 inb_S1x256x1024_S1x256x1024_0_0_0]
    unfold run_live.sl.r_3 run_live.sl.r_4 run_live.sl.r_5
    rw [View.readAt_rep_full arg4.view x0 inb_S192x1152_S192x1152_0_0, View.readAt_rep_full arg5.view x1 inb_S1x1024x256_S1x1024x256_0_0_0,
      View.readAt_rep_full arg6.view x2 inb_S1x1024x256_S1x1024x256_0_0_0, View.readAt_rep_full arg7.view x3 inb_S1x256x1024_S1x256x1024_0_0_0]
    rfl

end

end Cert.GmoeIdeal.Body

end
-- ==== Proof.V.GmoeBody.lean ====
module

public import proofs.«01_k».proof.Proof.V.GmoeRun
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Pipeline.ValueKit.Geometry
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The grouped experts' pipeline at any admissible tables: the proof data, the body obligation, the launch and the frame. -/

@[expose] public section

set_option maxRecDepth 16384
set_option Elab.async false

noncomputable section

namespace Cert.GmoeIdeal.Body

open Cert.GmoeIdeal Cert.GmoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ)

/-- Point `t`'s coordinates and each window's staging memref there. -/
abbrev crd (t : Fin (cfg0 a).N) : grid0.Coords := (cfg0 a).grid.coords t
abbrev ms0 (t : Fin (cfg0 a).N) : Memref sig .tc .vmem S192x1152 .f32 := spec0_0.stage ((cfg0 a).slots t (0 : Fin 8))
abbrev hs0 (t : Fin (cfg0 a).N) : (ms0 a t).IsWhole := hstage0_0 (((cfg0 a).slots t (0 : Fin 8)).cast nbuf0_0)
abbrev ms1 (t : Fin (cfg0 a).N) : Memref sig .tc .vmem S1x1024x256 .bf16 := spec0_1.stage ((cfg0 a).slots t (1 : Fin 8))
abbrev hs1 (t : Fin (cfg0 a).N) : (ms1 a t).IsWhole := hstage0_1 (((cfg0 a).slots t (1 : Fin 8)).cast nbuf0_1)
abbrev ms2 (t : Fin (cfg0 a).N) : Memref sig .tc .vmem S1x1024x256 .bf16 := spec0_2.stage ((cfg0 a).slots t (2 : Fin 8))
abbrev hs2 (t : Fin (cfg0 a).N) : (ms2 a t).IsWhole := hstage0_2 (((cfg0 a).slots t (2 : Fin 8)).cast nbuf0_2)
abbrev ms3 (t : Fin (cfg0 a).N) : Memref sig .tc .vmem S1x256x1024 .bf16 := spec0_3.stage ((cfg0 a).slots t (3 : Fin 8))
abbrev hs3 (t : Fin (cfg0 a).N) : (ms3 a t).IsWhole := hstage0_3 (((cfg0 a).slots t (3 : Fin 8)).cast nbuf0_3)
abbrev ms4 (t : Fin (cfg0 a).N) : Memref sig .tc .vmem S1x1024x256 .bf16 := spec0_4.stage ((cfg0 a).slots t (4 : Fin 8))
abbrev hs4 (t : Fin (cfg0 a).N) : (ms4 a t).IsWhole := hstage0_4 (((cfg0 a).slots t (4 : Fin 8)).cast nbuf0_4)
abbrev ms5 (t : Fin (cfg0 a).N) : Memref sig .tc .vmem S1x1024x256 .bf16 := spec0_5.stage ((cfg0 a).slots t (5 : Fin 8))
abbrev hs5 (t : Fin (cfg0 a).N) : (ms5 a t).IsWhole := hstage0_5 (((cfg0 a).slots t (5 : Fin 8)).cast nbuf0_5)
abbrev ms6 (t : Fin (cfg0 a).N) : Memref sig .tc .vmem S1x256x1024 .bf16 := spec0_6.stage ((cfg0 a).slots t (6 : Fin 8))
abbrev hs6 (t : Fin (cfg0 a).N) : (ms6 a t).IsWhole := hstage0_6 (((cfg0 a).slots t (6 : Fin 8)).cast nbuf0_6)
abbrev ms7 (t : Fin (cfg0 a).N) : Memref sig .tc .vmem S192x1024 .f32 := spec0_7.stage ((cfg0 a).slots t (7 : Fin 8))
abbrev hs7 (t : Fin (cfg0 a).N) : (ms7 a t).IsWhole := hstage0_7 (((cfg0 a).slots t (7 : Fin 8)).cast nbuf0_7)

/-- Window `w`'s block at point `t`, read off its array at launch. -/
def iblk (c : Dev nD) (w : Fin (cfg0 a).W) (t : Fin (cfg0 a).N) : (((cfg0 a).win w).xblock (crd a t)).Idx → Elt F ((cfg0 a).win w).elt :=
  (((cfg0 a).win w).blk t).view.read (Elt F) (m (((cfg0 a).win w).arr.view.loc (c : Thread nD τ)))

/-- What the body leaves in the output's staging buffer at point `t`: the two experts' sum in a used tile, zeros in an idle one. -/
def res (c : Dev nD) (t : Fin (cfg0 a).N) : S192x1024.Idx → Elt F .f32 :=
  if k0_cond1 (crd a t) (word2 (a.1 2)) = 1#1 then
    k0_pay1 (k0_pay3 (iblk a m c (0 : Fin 8) t)) (k0_pay5 (iblk a m c (0 : Fin 8) t) (word0 (crd a t) (a.1 0)) (iblk a m c (1 : Fin 8) t) (iblk a m c (2 : Fin 8) t) (iblk a m c (3 : Fin 8) t))
      (k0_pay6 (iblk a m c (0 : Fin 8) t) (word1 (crd a t) (a.1 1))) (iblk a m c (4 : Fin 8) t) (iblk a m c (5 : Fin 8) t) (iblk a m c (6 : Fin 8) t)
  else k0_pay2

/-- The proof data of the pipeline on core `c`. -/
def dats (_ : Fin 1) (c : Dev nD) : Dat τ (Elt F) Unit ℕ (UR sig nD τ) ℕ (cfg0 a) c where
  A w := m (((cfg0 a).win w).arr.view.loc (c : Thread nD τ))
  after w t := match w with
    | ⟨0, _⟩ => iblk a m c (0 : Fin 8) t
    | ⟨1, _⟩ => iblk a m c (1 : Fin 8) t
    | ⟨2, _⟩ => iblk a m c (2 : Fin 8) t
    | ⟨3, _⟩ => iblk a m c (3 : Fin 8) t
    | ⟨4, _⟩ => iblk a m c (4 : Fin 8) t
    | ⟨5, _⟩ => iblk a m c (5 : Fin 8) t
    | ⟨6, _⟩ => iblk a m c (6 : Fin 8) t
    | ⟨7, _⟩ => res a m c t
  Φ _ := iprop(Pipeline.ΦA spec0 c ∗ Pipeline.ΦT pre0 a.1 c)
  q w := Pipeline.shareOf spec0 w
  owed _ := 0

theorem after0 (c : Dev nD) (t : Fin (cfg0 a).N) : (dats a m 0 c).after (0 : Fin 8) t = iblk a m c (0 : Fin 8) t := rfl
theorem after1 (c : Dev nD) (t : Fin (cfg0 a).N) : (dats a m 0 c).after (1 : Fin 8) t = iblk a m c (1 : Fin 8) t := rfl
theorem after2 (c : Dev nD) (t : Fin (cfg0 a).N) : (dats a m 0 c).after (2 : Fin 8) t = iblk a m c (2 : Fin 8) t := rfl
theorem after3 (c : Dev nD) (t : Fin (cfg0 a).N) : (dats a m 0 c).after (3 : Fin 8) t = iblk a m c (3 : Fin 8) t := rfl
theorem after4 (c : Dev nD) (t : Fin (cfg0 a).N) : (dats a m 0 c).after (4 : Fin 8) t = iblk a m c (4 : Fin 8) t := rfl
theorem after5 (c : Dev nD) (t : Fin (cfg0 a).N) : (dats a m 0 c).after (5 : Fin 8) t = iblk a m c (5 : Fin 8) t := rfl
theorem after6 (c : Dev nD) (t : Fin (cfg0 a).N) : (dats a m 0 c).after (6 : Fin 8) t = iblk a m c (6 : Fin 8) t := rfl
theorem after7 (c : Dev nD) (t : Fin (cfg0 a).N) : (dats a m 0 c).after (7 : Fin 8) t = res a m c t := rfl

theorem before0 (c : Dev nD) (t : Fin (cfg0 a).N) (d) : (dats a m 0 c).before (0 : Fin 8) t d = iblk a m c (0 : Fin 8) t :=
  ((dats a m 0 c).before_in_eq_fetched (0 : Fin 8) rfl (fun _ => rfl) (fun _ _ _ => rfl) (fun t => by rw [after0]; unfold Dat.blockOf iblk; rfl) t d).trans
    (by unfold Dat.fetched Dat.blockOf iblk; rfl)
theorem before1 (c : Dev nD) (t : Fin (cfg0 a).N) (d) : (dats a m 0 c).before (1 : Fin 8) t d = iblk a m c (1 : Fin 8) t :=
  ((dats a m 0 c).before_in_eq_fetched (1 : Fin 8) rfl (fun _ => rfl) (fun _ _ _ => rfl) (fun t => by rw [after1]; unfold Dat.blockOf iblk; rfl) t d).trans
    (by unfold Dat.fetched Dat.blockOf iblk; rfl)
theorem before2 (c : Dev nD) (t : Fin (cfg0 a).N) (d) : (dats a m 0 c).before (2 : Fin 8) t d = iblk a m c (2 : Fin 8) t :=
  ((dats a m 0 c).before_in_eq_fetched (2 : Fin 8) rfl (fun _ => rfl) (fun _ _ _ => rfl) (fun t => by rw [after2]; unfold Dat.blockOf iblk; rfl) t d).trans
    (by unfold Dat.fetched Dat.blockOf iblk; rfl)
theorem before3 (c : Dev nD) (t : Fin (cfg0 a).N) (d) : (dats a m 0 c).before (3 : Fin 8) t d = iblk a m c (3 : Fin 8) t :=
  ((dats a m 0 c).before_in_eq_fetched (3 : Fin 8) rfl (fun _ => rfl) (fun _ _ _ => rfl) (fun t => by rw [after3]; unfold Dat.blockOf iblk; rfl) t d).trans
    (by unfold Dat.fetched Dat.blockOf iblk; rfl)
theorem before4 (c : Dev nD) (t : Fin (cfg0 a).N) (d) : (dats a m 0 c).before (4 : Fin 8) t d = iblk a m c (4 : Fin 8) t :=
  ((dats a m 0 c).before_in_eq_fetched (4 : Fin 8) rfl (fun _ => rfl) (fun _ _ _ => rfl) (fun t => by rw [after4]; unfold Dat.blockOf iblk; rfl) t d).trans
    (by unfold Dat.fetched Dat.blockOf iblk; rfl)
theorem before5 (c : Dev nD) (t : Fin (cfg0 a).N) (d) : (dats a m 0 c).before (5 : Fin 8) t d = iblk a m c (5 : Fin 8) t :=
  ((dats a m 0 c).before_in_eq_fetched (5 : Fin 8) rfl (fun _ => rfl) (fun _ _ _ => rfl) (fun t => by rw [after5]; unfold Dat.blockOf iblk; rfl) t d).trans
    (by unfold Dat.fetched Dat.blockOf iblk; rfl)
theorem before6 (c : Dev nD) (t : Fin (cfg0 a).N) (d) : (dats a m 0 c).before (6 : Fin 8) t d = iblk a m c (6 : Fin 8) t :=
  ((dats a m 0 c).before_in_eq_fetched (6 : Fin 8) rfl (fun _ => rfl) (fun _ _ _ => rfl) (fun t => by rw [after6]; unfold Dat.blockOf iblk; rfl) t d).trans
    (by unfold Dat.fetched Dat.blockOf iblk; rfl)

omit [FloatOps F] in
/-- Exactly one of the body's two branches runs. -/
theorem cond2_iff (i : grid0.Coords) (v : BitVec 32) : k0_cond2 i v = 1#1 ↔ ¬ k0_cond1 i v = 1#1 := by
  unfold k0_cond1 k0_cond2
  simp only [Scalar.cmpi, IntOp.cmpi, Scalar.extui]
  have e : v.sle (BitVec.ofNat 32 (i 0).val) = !((BitVec.ofNat 32 (i 0).val).slt v) := by
    rw [BitVec.sle_eq_not_slt]
  rw [e]
  cases (BitVec.ofNat 32 (i 0).val).slt v <;> decide

/-- So the output is never left idle. -/
theorem idle7 (t : Fin (cfg0 a).N) : (cfg0 a).idle (7 : Fin 8) ((cfg0 a).grid.coords t) = false := by
  show (!(k0_cond1 (crd a t) (a.1.atD 2 ![0]) == 1#1) && !(k0_cond2 (crd a t) (a.1.atD 2 ![0]) == 1#1)) = false
  have h := cond2_iff (crd a t) (a.1.atD 2 ![0])
  by_cases h1 : k0_cond1 (crd a t) (a.1.atD 2 ![0]) = 1#1
  · rw [h1]; rfl
  · rw [h.2 h1]; simp

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`, as the pipeline calls it. -/
abbrev bodyAt (t : Fin (cfg0 a).N) : Prog (TpuEff nD τ sig (Elt F) Λ₀ .tc) PUnit :=
  cc0_moe_grouped (crd a t) (Memref.whole main_arg0) (Memref.isWhole_whole _) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t)

set_option maxHeartbeats 4000000 in
/-- The body at point `t`, from what the pipeline hands it to what it takes back. -/
theorem sound_body (c : Dev nD) (t : Fin (cfg0 a).N) :
    iprop((dats a m 0 c).Φ t.castSucc ∗ (dats a m 0 c).owesAt () t.castSucc
        ∗ (∃ d, owns (c : Thread nD τ) (ms0 a t) fullShare ((dats a m 0 c).before (0 : Fin 8) t d))
        ∗ (∃ d, owns (c : Thread nD τ) (ms1 a t) fullShare ((dats a m 0 c).before (1 : Fin 8) t d))
        ∗ (∃ d, owns (c : Thread nD τ) (ms2 a t) fullShare ((dats a m 0 c).before (2 : Fin 8) t d))
        ∗ (∃ d, owns (c : Thread nD τ) (ms3 a t) fullShare ((dats a m 0 c).before (3 : Fin 8) t d))
        ∗ (∃ d, owns (c : Thread nD τ) (ms4 a t) fullShare ((dats a m 0 c).before (4 : Fin 8) t d))
        ∗ (∃ d, owns (c : Thread nD τ) (ms5 a t) fullShare ((dats a m 0 c).before (5 : Fin 8) t d))
        ∗ (∃ d, owns (c : Thread nD τ) (ms6 a t) fullShare ((dats a m 0 c).before (6 : Fin 8) t d))
        ∗ (∃ d, owns (c : Thread nD τ) (ms7 a t) fullShare ((dats a m 0 c).before (7 : Fin 8) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a m 0 c).before w t d))
                  | true => owns (c : Thread nD τ) (((cfg0 a).win w).stage ((cfg0 a).slots t w)) fullShare ((dats a m 0 c).after w t)
                | false => owns (c : Thread nD τ) (((cfg0 a).win w).stage ((cfg0 a).slots t w)) fullShare ((dats a m 0 c).after w t)) := by
  rw [bigSep_W0]
  rewrite [idle7 a t]
  simp only [before0, before1, before2, before3, before4, before5, before6, after0, after1, after2, after3, after4, after5, after6, after7]
  rewrite [show (dats a m 0 c).Φ t.succ = iprop(Pipeline.ΦA spec0 c ∗ Pipeline.ΦT pre0 a.1 c) from rfl, show (dats a m 0 c).Φ t.castSucc = iprop(Pipeline.ΦA spec0 c ∗ Pipeline.ΦT pre0 a.1 c) from rfl,
    show (dats a m 0 c).owesAt () t.succ = (dats a m 0 c).owesAt () t.castSucc from rfl]
  unfold Pipeline.ΦT; rw [prefHeld_eq]
  iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : k0_cond1 (crd a t) (word2 (a.1 2)) = 1#1
  · rw [show res a m c t = _ from if_pos h]
    iapply (run_live c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (a.1 0) (a.1 1) (a.1 2) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) h (fun h2 => (cond2_iff _ _).1 h2 h) _)
    isplitl [H0 H1 H2 H3 H4 H5 H6 HT0 HT1 HT2]
    · unfold Reads
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      iexact HT2
    isplitl [H7]; · iexists _; iexact H7
    unfold Reads
    iintro ⟨⟨H0, H1, H2, H3, H4, H5, H6, HT0, HT1, HT2⟩, H7⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7
  · rw [show res a m c t = _ from if_neg h]
    iapply (run_idle c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (a.1 0) (a.1 1) (a.1 2) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) h ((cond2_iff _ _).2 h) _)
    isplitl [H0 H1 H2 H3 H4 H5 H6 HT0 HT1 HT2]
    · unfold Reads
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      iexact HT2
    isplitl [H7]; · iexists _; iexact H7
    unfold Reads
    iintro ⟨⟨H0, H1, H2, H3, H4, H5, H6, HT0, HT1, HT2⟩, H7⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7

/-- The library's body obligation, at every point. -/
theorem body_obligation (c : Dev nD) : BodyObligation (dats a m 0 c) (defs₀ (F := F)) Variants.none () Set.univ := fun t => by
  rw [bigSep_W0]
  exact sound_body a m c t

/-- The tables' contents at launch. -/
def tbl : pre0.Contents (Elt F) := fun j => m ((0 : Dev nD).tc.loc (pre0.ref j))

variable (ρ : Dev nD → PrngReg)

/-- The launch: the arrays at the library's `arrAt`, every other buffer as it was, and every semaphore counter zero. -/
theorem run_main (hO : ok0 (F := F) (tbl m)) :
    θ_run defs (onTc (τ := τ) (main (F := F))) ⟨m, fun _ => 0, ρ⟩ (fun r =>
      Pipeline.FramePost (Pipeline.pin pcfgs fun _ => ⟨tbl m, hO⟩) (dats ⟨tbl m, hO⟩ m) 0 (fun c b => m ((c.tc : Thread nD τ).loc b)) r ∧ r.2.sem = fun _ => 0) :=
  Pipeline.θ_run_frameP_shared (Q' := _) pcfgs (fun _ => ⟨tbl m, hO⟩) (dats ⟨tbl m, hO⟩ m) (0 : Fin 1) launch₀0 defs₀ Variants.none m ρ main
    (fun c => (body_obligation ⟨tbl m, hO⟩ m c).loose) (fun c w _ => rfl) (fun c t => rfl)
    (fun c b => m ((c.tc : Thread nD τ).loc b))
    (Pipeline.hmainP_region _ _ _ _ m main (fun c => rfl))
    (fun c w => rfl) (fun c k => by obtain rfl : c = 0 := Subsingleton.elim _ _; rfl) (fun c t => rfl)

/-- The words of a table name experts. -/
abbrev Named (T : S196.Idx → BitVec 32) : Prop := ∀ x, (T x).toNat < 32

set_option maxHeartbeats 1000000 in
/-- Tables naming experts satisfy the pipeline's side condition. -/
theorem ok_of_named (pf : pre0.Contents (Elt F)) (ha : Named (pf 0)) (hb : Named (pf 1)) : ok0 (F := F) pf := by
  refine ⟨fun i => ⟨fun a => ?_, .inl rfl⟩, fun i => ⟨fun a => ?_, .inr (Affine.block_words_dvd (s := S32x1024x256) (p := EltTy.packing .bf16) (by decide) (by decide))⟩,
    fun i => ⟨fun a => ?_, .inr (Affine.block_words_dvd (s := S32x1024x256) (p := EltTy.packing .bf16) (by decide) (by decide))⟩,
    fun i => ⟨fun a => ?_, .inr (Affine.block_words_dvd (s := S32x256x1024) (p := EltTy.packing .bf16) (by decide) (by decide))⟩,
    fun i => ⟨fun a => ?_, .inr (Affine.block_words_dvd (s := S32x1024x256) (p := EltTy.packing .bf16) (by decide) (by decide))⟩,
    fun i => ⟨fun a => ?_, .inr (Affine.block_words_dvd (s := S32x1024x256) (p := EltTy.packing .bf16) (by decide) (by decide))⟩,
    fun i => ⟨fun a => ?_, .inr (Affine.block_words_dvd (s := S32x256x1024) (p := EltTy.packing .bf16) (by decide) (by decide))⟩⟩
  · have hi : (i 0).val < 196 := (i 0).isLt
    unfold cc0_transform_0
    simp only [Scalar.select]
    fin_cases a
    · show (_ + 1) * 192 ≤ 37632
      split <;> simp <;> omega
    · show (_ + 1) * 1152 ≤ 1152
      simp
  all_goals
    first
    | unfold cc0_transform_1
    | unfold cc0_transform_2
    | unfold cc0_transform_3
    | unfold cc0_transform_4
    | unfold cc0_transform_5
    | unfold cc0_transform_6
    fin_cases a
    · show (_ + 1) * 1 ≤ 32
      first
      | exact (Nat.mul_one _).le.trans (ha _)
      | exact (Nat.mul_one _).le.trans (hb _)
    · first
      | exact (by decide : (0 + 1) * 1024 ≤ 1024)
      | exact (by decide : (0 + 1) * 256 ≤ 256)
    · first
      | exact (by decide : (0 + 1) * 256 ≤ 256)
      | exact (by decide : (0 + 1) * 1024 ≤ 1024)

/-- The frame: under tables naming experts, every argument array ends as it was and every semaphore counter at zero. -/
theorem frame (ha : Named (m ((0 : Dev nD).tc.loc main_arg0))) (hb : Named (m ((0 : Dev nD).tc.loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => ⟨h.1.rest_eq c main_arg0 (show main_arg0 ∈ Pipeline.restRefs sig spec0 by decide), h.1.rest_eq c main_arg1 (show main_arg1 ∈ Pipeline.restRefs sig spec0 by decide), h.1.rest_eq c main_arg2 (show main_arg2 ∈ Pipeline.restRefs sig spec0 by decide),
      h.1.in_eq c (0 : Fin 8) rfl, h.1.in_eq c (1 : Fin 8) rfl, h.1.in_eq c (2 : Fin 8) rfl, h.1.in_eq c (3 : Fin 8) rfl⟩, h.2⟩)
    (run_main m ρ (ok_of_named (tbl m) ha hb))

end Cert.GmoeIdeal.Body

end
-- ==== Proof.V.GmoeFrame.lean ====
module

public import proofs.«01_k».proof.Defs
public import proofs.«01_k».proof.Proof.V.GmoeBody
public import proofs.«01_k».proof.Proof.Gen.Gmoe
public import proofs.«01_k».proof.Proof.Gen.Pre_tables
public import proofs.«01_k».proof.Proof.Gen.Pre_routed
public import Idealize.ShloMosaic.Lib.StableHlo.Predicate

/-! The grouped experts' frames, under the tables' precondition. -/

@[expose] public section

set_option maxRecDepth 16384

noncomputable section

namespace Cert.GmoeIdeal.Body

open Idealize.ShloMosaic Idealize.ShloMosaic.TcCoe Idealize.SL Idealize.SL.Sem

theorem named_of (v : BitVec 32)
    (h : IntOp.andi (IntOp.cmpi .sge v 0#32) (IntOp.cmpi .slt v 32#32) = 1#1) : v.toNat < 32 := by
  have hh : BitVec.sle 0#32 v = true ∧ BitVec.slt v 32#32 = true := by
    revert h
    simp only [IntOp.andi, IntOp.cmpi]
    cases BitVec.sle 0#32 v <;> cases BitVec.slt v 32#32 <;> decide
  obtain ⟨h1, h2⟩ := hh
  simp only [BitVec.sle, BitVec.slt, decide_eq_true_eq, BitVec.toInt_eq_toNat_cond] at h1 h2
  have hv := v.isLt
  simp only [BitVec.toNat_ofNat] at h1 h2
  split at h2 <;> omega

/-- The frame's statement of the idealized program, its floats the machine's. -/
def FrameOf : Prop :=
  ∀ (m : (ℓ : Loc Cert.GmoeIdeal.nD Cert.GmoeIdeal.τ Cert.GmoeIdeal.sig) → Buf (Elt Bits) ℓ) (ρ : Dev Cert.GmoeIdeal.nD → PrngReg),
    Named (m ((0 : Dev Cert.GmoeIdeal.nD).tc.loc Cert.GmoeIdeal.main_arg0)) → Named (m ((0 : Dev Cert.GmoeIdeal.nD).tc.loc Cert.GmoeIdeal.main_arg1)) →
    θ_run (Cert.GmoeIdeal.defs (F := Bits)) (onTc (τ := Cert.GmoeIdeal.τ) (Cert.GmoeIdeal.main (F := Bits))) ⟨m, fun _ => 0, ρ⟩ (fun r => (∀ c : Dev Cert.GmoeIdeal.nD,
      r.2.mem ((c.tc : Thread Cert.GmoeIdeal.nD Cert.GmoeIdeal.τ).loc Cert.GmoeIdeal.main_arg0) = m ((c.tc : Thread Cert.GmoeIdeal.nD Cert.GmoeIdeal.τ).loc Cert.GmoeIdeal.main_arg0)
      ∧ r.2.mem ((c.tc : Thread Cert.GmoeIdeal.nD Cert.GmoeIdeal.τ).loc Cert.GmoeIdeal.main_arg1) = m ((c.tc : Thread Cert.GmoeIdeal.nD Cert.GmoeIdeal.τ).loc Cert.GmoeIdeal.main_arg1)
      ∧ r.2.mem ((c.tc : Thread Cert.GmoeIdeal.nD Cert.GmoeIdeal.τ).loc Cert.GmoeIdeal.main_arg2) = m ((c.tc : Thread Cert.GmoeIdeal.nD Cert.GmoeIdeal.τ).loc Cert.GmoeIdeal.main_arg2)
      ∧ r.2.mem ((c.tc : Thread Cert.GmoeIdeal.nD Cert.GmoeIdeal.τ).loc Cert.GmoeIdeal.main_arg3) = m ((c.tc : Thread Cert.GmoeIdeal.nD Cert.GmoeIdeal.τ).loc Cert.GmoeIdeal.main_arg3)
      ∧ r.2.mem ((c.tc : Thread Cert.GmoeIdeal.nD Cert.GmoeIdeal.τ).loc Cert.GmoeIdeal.main_arg4) = m ((c.tc : Thread Cert.GmoeIdeal.nD Cert.GmoeIdeal.τ).loc Cert.GmoeIdeal.main_arg4)
      ∧ r.2.mem ((c.tc : Thread Cert.GmoeIdeal.nD Cert.GmoeIdeal.τ).loc Cert.GmoeIdeal.main_arg5) = m ((c.tc : Thread Cert.GmoeIdeal.nD Cert.GmoeIdeal.τ).loc Cert.GmoeIdeal.main_arg5)
      ∧ r.2.mem ((c.tc : Thread Cert.GmoeIdeal.nD Cert.GmoeIdeal.τ).loc Cert.GmoeIdeal.main_arg6) = m ((c.tc : Thread Cert.GmoeIdeal.nD Cert.GmoeIdeal.τ).loc Cert.GmoeIdeal.main_arg6))
      ∧ r.2.sem = fun _ => 0)

/-- The frame's statement of the program. -/
def FrameBits : Prop :=
  ∀ (m : (ℓ : Loc Cert.Gmoe.nD Cert.Gmoe.τ Cert.Gmoe.sig) → Buf (Elt Bits) ℓ) (ρ : Dev Cert.Gmoe.nD → PrngReg),
    Named (m ((0 : Dev Cert.Gmoe.nD).tc.loc Cert.Gmoe.main_arg0)) → Named (m ((0 : Dev Cert.Gmoe.nD).tc.loc Cert.Gmoe.main_arg1)) →
    θ_run (Cert.Gmoe.defs (F := Bits)) (onTc (τ := Cert.Gmoe.τ) (Cert.Gmoe.main (F := Bits))) ⟨m, fun _ => 0, ρ⟩ (fun r => (∀ c : Dev Cert.Gmoe.nD,
      r.2.mem ((c.tc : Thread Cert.Gmoe.nD Cert.Gmoe.τ).loc Cert.Gmoe.main_arg0) = m ((c.tc : Thread Cert.Gmoe.nD Cert.Gmoe.τ).loc Cert.Gmoe.main_arg0)
      ∧ r.2.mem ((c.tc : Thread Cert.Gmoe.nD Cert.Gmoe.τ).loc Cert.Gmoe.main_arg1) = m ((c.tc : Thread Cert.Gmoe.nD Cert.Gmoe.τ).loc Cert.Gmoe.main_arg1)
      ∧ r.2.mem ((c.tc : Thread Cert.Gmoe.nD Cert.Gmoe.τ).loc Cert.Gmoe.main_arg2) = m ((c.tc : Thread Cert.Gmoe.nD Cert.Gmoe.τ).loc Cert.Gmoe.main_arg2)
      ∧ r.2.mem ((c.tc : Thread Cert.Gmoe.nD Cert.Gmoe.τ).loc Cert.Gmoe.main_arg3) = m ((c.tc : Thread Cert.Gmoe.nD Cert.Gmoe.τ).loc Cert.Gmoe.main_arg3)
      ∧ r.2.mem ((c.tc : Thread Cert.Gmoe.nD Cert.Gmoe.τ).loc Cert.Gmoe.main_arg4) = m ((c.tc : Thread Cert.Gmoe.nD Cert.Gmoe.τ).loc Cert.Gmoe.main_arg4)
      ∧ r.2.mem ((c.tc : Thread Cert.Gmoe.nD Cert.Gmoe.τ).loc Cert.Gmoe.main_arg5) = m ((c.tc : Thread Cert.Gmoe.nD Cert.Gmoe.τ).loc Cert.Gmoe.main_arg5)
      ∧ r.2.mem ((c.tc : Thread Cert.Gmoe.nD Cert.Gmoe.τ).loc Cert.Gmoe.main_arg6) = m ((c.tc : Thread Cert.Gmoe.nD Cert.Gmoe.τ).loc Cert.Gmoe.main_arg6))
      ∧ r.2.sem = fun _ => 0)

/-- The two programs are one text, so the two statements are one proposition. -/
theorem frameOf_eq : FrameOf = FrameBits := by sl_kernel_rfl

theorem frameBits : FrameBits := frameOf_eq.mp fun m ρ ha hb => frame m ρ ha hb

/-- The program's frame, under tables that name experts. -/
theorem quiescent_bits : Cert.quiescent_Gmoe := fun m ρ h =>
  frameBits m ρ (fun x => named_of _ (congrFun (h 0).1 x)) (fun x => named_of _ (congrFun (h 0).2 x))

/-- The idealized program's frame, under tables that name experts. -/
theorem quiescent_ideal : Cert.quiescent_GmoeIdeal := fun m ρ h =>
  frame m ρ (fun x => named_of _ (congrFun (h 0).1 x)) (fun x => named_of _ (congrFun (h 0).2 x))

/-- The idealized program's frame, under the value claim's precondition. -/
theorem quiescent_routed : Cert.quiescent_GmoeIdeal_pre_routed := fun m ρ h =>
  frame m ρ (fun x => named_of _ (congrFun (h 0).1 x)) (fun x => named_of _ (congrFun (h 0).2.1 x))

end Cert.GmoeIdeal.Body

end
-- ==== Proof.V.GmoeRef.lean ====
/- The grouped experts as the reference computes them: its operations by stages, and each result entry as a sum over the experts. -/
module

public import proofs.«01_k».proof.Defs
public import proofs.«01_k».proof.Proof.Gen.GmoeRefIdeal.Run
public import proofs.«01_k».proof.Proof.Gen.Pre_routed
public import proofs.«01_k».proof.GmoeRefIdeal
public import Idealize.ShloMosaic.Lib.Pointwise

@[expose] public section
set_option maxRecDepth 16384
noncomputable section

open Idealize.ShloMosaic Idealize.ShloMosaic.TcCoe Idealize.SL.Sem

namespace Cert.GmoeRefIdeal.Stage
open Cert.GmoeRefIdeal Cert.GmoeRefIdeal.Gen

/-- The activations' lanes of the rows. -/
def acts (X : FVec Ideal S37632x1152 .f32) : FVec Ideal S37632x1024 .bf16 :=
  truncf .bf16 (extractStridedSlice S37632x1024 ![0, 0] X slices_S37632x1152_S37632x1024_0_0) bitsLt_bf16_f32

/-- Every expert's projection of every row. -/
def proj (W : FVec Ideal S32x1024x256 .bf16) (H : FVec Ideal S37632x1024 .bf16) : FVec Ideal S32x37632x256 .f32 :=
  transpose S32x37632x256 [0, 2, 1] (Host.dotGeneral (φ₁ := .bf16) (φ₂ := .bf16) dot_S32x1024x256_S37632x1024_S32x256x37632_1_1_02_0_n_n none W H
    : FVec Ideal S32x256x37632 .f32) transposes_S32x256x37632_S32x37632x256_0_2_1

/-- A projection times its logistic. -/
def silu (g : FVec Ideal S32x37632x256 .f32) : FVec Ideal S32x37632x256 .f32 :=
  mulf g (Host.divf (broadcastInDim S32x37632x256 ![] bcast_S_S32x37632x256 (constant S_ .f32 0x3F800000#32))
    (addf (broadcastInDim S32x37632x256 ![] bcast_S_S32x37632x256 (constant S_ .f32 0x3F800000#32)) (Host.exp (Host.negf g))))

/-- Every expert's rows. -/
def experts (g u : FVec Ideal S32x37632x256 .f32) (D : FVec Ideal S32x256x1024 .bf16) : FVec Ideal S32x37632x1024 .f32 :=
  Host.dotGeneral (φ₁ := .bf16) (φ₂ := .bf16) dot_S32x37632x256_S32x256x1024_S32x37632x1024_2_1_1_2_0_0 none
    (truncf .bf16 (mulf (silu g) u) bitsLt_bf16_f32) D

/-- The experts' rows summed with the rows' weights. -/
def out (X : FVec Ideal S37632x1152 .f32) (y : FVec Ideal S32x37632x1024 .f32) : FVec Ideal S37632x1024 .f32 :=
  Host.dotGeneral (φ₁ := .f32) (φ₂ := .f32) dot_S37632x32_S32x37632x1024_S37632x1024_1_0_n_2_0_1 none
    (extractStridedSlice S37632x32 ![0, 1028] X slices_S37632x1152_S37632x32_0_1028) y

/-- The reference's result. -/
abbrev whole (X : FVec Ideal S37632x1152 .f32) (G U : FVec Ideal S32x1024x256 .bf16) (D : FVec Ideal S32x256x1024 .bf16) :
    FVec Ideal S37632x1024 .f32 :=
  out X (experts (proj G (acts X)) (proj U (acts X)) D)

/-- What the reference computes: its result, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = whole (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

/-- The reference terminates, its arguments unchanged and every counter at zero. -/
theorem frame : Cert.quiescent_GmoeRefIdeal := fun m ρ _ =>
  (θ_run (defs (F := Ideal)) _ _).mono (fun r h => And.intro (fun c => (h c).2) (sem_eq_zero_of_no_sems (by decide) r.2))
    (run_staged m ρ)

/-- The reference's frame, under the value claim's precondition. -/
theorem frame_routed : Cert.quiescent_GmoeRefIdeal_pre_routed := fun m ρ _ => frame m ρ trivial

theorem acts_apply (X : FVec Ideal S37632x1152 .f32) (t : Fin 37632) (k : Fin 1024) :
    acts X (ix2 t k) = X (ix2 t (⟨k.val, by omega⟩ : Fin 1152)) := by
  pointwise [acts]

theorem proj_apply (W : FVec Ideal S32x1024x256 .bf16) (H : FVec Ideal S37632x1024 .bf16) (e : Fin 32) (t : Fin 37632) (f : Fin 256) :
    proj W H (ix3 e t f) = ∑ k : Fin 1024, W (ix3 e k f) * H (ix2 t k) := by
  pointwise [proj]

theorem silu_apply (g : FVec Ideal S32x37632x256 .f32) (e : Fin 32) (t : Fin 37632) (f : Fin 256) :
    silu g (ix3 e t f) = g (ix3 e t f) * Ideal.div 1 (1 + Ideal.exp (-g (ix3 e t f))) := by
  have one : Ideal.ofBits .f32 0x3F800000#32 = 1 := by
    simp [Ideal.ofBits, Ideal.ieee]
    rw [← EReal.coe_mul]
    norm_num
  pointwise [silu, one]

theorem experts_apply (g u : FVec Ideal S32x37632x256 .f32) (D : FVec Ideal S32x256x1024 .bf16) (e : Fin 32) (t : Fin 37632) (d : Fin 1024) :
    experts g u D (ix3 e t d) = ∑ f : Fin 256, (silu g (ix3 e t f) * u (ix3 e t f)) * D (ix3 e f d) := by
  pointwise [experts]

theorem out_apply (X : FVec Ideal S37632x1152 .f32) (y : FVec Ideal S32x37632x1024 .f32) (t : Fin 37632) (d : Fin 1024) :
    out X y (ix2 t d) = ∑ e : Fin 32, X (ix2 t (⟨1028 + e.val, by omega⟩ : Fin 1152)) * y (ix3 e t d) := by
  pointwise [out]

end Cert.GmoeRefIdeal.Stage
-- ==== Proof.V.Gmoe.lean ====
/- The grouped experts: each point's tile is the reference's rows, and the claim. -/
module

public import proofs.«01_k».proof.Proof.V.GmoeFrame
public import proofs.«01_k».proof.Proof.V.GmoeRef
public import proofs.«01_k».proof.Proof.V.Reals
public import Idealize.ShloMosaic.Lib.Pointwise
public import Idealize.ShloMosaic.Lib.Pipeline.ValueKit
public import Idealize.ShloMosaic.Lib.StableHlo.Predicate

@[expose] public section
set_option maxRecDepth 16384
noncomputable section

open Idealize.ShloMosaic Idealize.ShloMosaic.TcCoe Idealize.SL.Sem
open Idealize.ShloMosaic.Pipeline (Dat)
open Cert.Reals

namespace Cert.GmoeIdeal.Body
open Cert.GmoeIdeal Cert.GmoeIdeal.Gen

theorem half_bits : Ideal.ofBits .f32 0x3F000000#32 = ((1 / 2 : ℝ) : EReal) := by
  simp [Ideal.ofBits, Ideal.ieee]
  rw [← EReal.coe_mul]
  norm_num

/-- The weight of expert `v` in a tile's row: the sum of its lanes, all but the expert's replaced by zero. -/
def lane (B : FVec Ideal S192x1152 .f32) (v : BitVec 32) (i : Fin 192) : EReal :=
  ∑ l : Fin 128, Scalar.select (IntOp.cmpi .eq (BitVec.ofNat 32 l.val) (Scalar.addi 4#32 v)) (B (ix2 i (⟨1024 + l.val, by omega⟩ : Fin 1152))) 0

/-- One expert's share of a tile's row, as the kernel computes it. -/
def share (B : FVec Ideal S192x1152 .f32) (v : BitVec 32) (G U : FVec Ideal S1x1024x256 .bf16) (D : FVec Ideal S1x256x1024 .bf16)
    (i : Fin 192) (d : Fin 1024) : EReal :=
  ∑ f : Fin 256,
    (((1 / 2 : ℝ) : EReal) * (∑ k : Fin 1024, B (ix2 i (⟨k.val, by omega⟩ : Fin 1152)) * G (ix3 (0 : Fin 1) k f))
      + ((1 / 2 : ℝ) : EReal) * (∑ k : Fin 1024, B (ix2 i (⟨k.val, by omega⟩ : Fin 1152)) * G (ix3 (0 : Fin 1) k f))
        * Ideal.tanh (((1 / 2 : ℝ) : EReal) * (∑ k : Fin 1024, B (ix2 i (⟨k.val, by omega⟩ : Fin 1152)) * G (ix3 (0 : Fin 1) k f))))
      * (∑ k : Fin 1024, B (ix2 i (⟨k.val, by omega⟩ : Fin 1152)) * U (ix3 (0 : Fin 1) k f)) * lane B v i * D (ix3 (0 : Fin 1) f d)

theorem pay5_apply (B : FVec Ideal S192x1152 .f32) (v : BitVec 32) (G U : FVec Ideal S1x1024x256 .bf16) (D : FVec Ideal S1x256x1024 .bf16)
    (i : Fin 192) (d : Fin 1024) : k0_pay5 (F := Ideal) B v G U D (ix2 i d) = share B v G U D i d := by
  unfold k0_pay5 share lane
  pointwise [k0_pay3, k0_pay4, half_bits]

theorem pay1_apply (B : FVec Ideal S192x1152 .f32) (v : BitVec 32) (G U : FVec Ideal S1x1024x256 .bf16) (D : FVec Ideal S1x256x1024 .bf16)
    (A : FVec Ideal S192x1024 .f32) (i : Fin 192) (d : Fin 1024) :
    k0_pay1 (F := Ideal) (k0_pay3 B) A (k0_pay6 B v) G U D (ix2 i d) = A (ix2 i d) + share B v G U D i d := by
  unfold k0_pay1 share lane
  pointwise [k0_pay3, k0_pay4, k0_pay6, half_bits]

theorem pay2_apply (i : Fin 192) (d : Fin 1024) : k0_pay2 (F := Ideal) (ix2 i d) = 0 := by
  pointwise [k0_pay2]

/-- The expert's own lane, where the word names an expert. -/
theorem lane_eq (B : FVec Ideal S192x1152 .f32) (v : BitVec 32) (hv : v.toNat < 32) (i : Fin 192) :
    lane B v i = B (ix2 i (⟨1028 + v.toNat, by omega⟩ : Fin 1152)) := by
  unfold lane
  rw [Finset.sum_eq_single (⟨4 + v.toNat, by omega⟩ : Fin 128)]
  · have e : IntOp.cmpi .eq (BitVec.ofNat 32 (4 + v.toNat)) (Scalar.addi 4#32 v) = 1#1 :=
      StableHlo.Predicate.cmpi_eq_iff.2 (by
        apply BitVec.eq_of_toNat_eq
        simp only [Scalar.addi, IntOp.addi, BitVec.toNat_ofNat, BitVec.toNat_add])
    simp only [e, Scalar.select, if_true]
    refine congrArg B (congrArg (ix2 i) (Fin.ext ?_))
    show 1024 + (4 + v.toNat) = 1028 + v.toNat
    omega
  · intro l _ hl
    have e : ¬ IntOp.cmpi .eq (BitVec.ofNat 32 l.val) (Scalar.addi 4#32 v) = 1#1 := fun h => hl (by
      have h' := congrArg BitVec.toNat (StableHlo.Predicate.cmpi_eq_iff.1 h)
      simp only [Scalar.addi, IntOp.addi, BitVec.toNat_ofNat, BitVec.toNat_add] at h'
      have hl' := l.isLt
      exact Fin.ext (show l.val = 4 + v.toNat by omega))
    exact if_neg e
  · intro h
    exact absurd (Finset.mem_univ _) h

section
variable (a : (pcfg0 (F := Ideal)).Adm) (m : (ℓ : Loc nD τ sig) → Buf (Elt Ideal) ℓ)

theorem crd_val : ∀ t : Fin grid0.N, (grid0.coords t 0).val = t.val := by decide +kernel

/-- The body's table reads. -/
theorem word0_eq (t : Fin (cfg0 a).N) (T : S196.Idx → BitVec 32) : word0 (F := Ideal) (crd a t) T = T (ix1 (⟨t.val, t.isLt⟩ : Fin 196)) := by
  refine congrArg T (funext fun b => Fin.ext ?_)
  match b with
  | ⟨0, _⟩ =>
    have h1 := k0_off2_eq (crd a t)
    have h2 := crd_val t
    show k0_off2 (crd a t) 0 + 1 * 0 = t.val
    rw [h1]
    exact h2

theorem word1_eq (t : Fin (cfg0 a).N) (T : S196.Idx → BitVec 32) : word1 (F := Ideal) (crd a t) T = T (ix1 (⟨t.val, t.isLt⟩ : Fin 196)) :=
  word0_eq a t T

theorem word2_eq (T : S1.Idx → BitVec 32) : word2 (F := Ideal) T = T (ix1 (0 : Fin 1)) := by
  refine congrArg T (funext fun b => Fin.ext ?_)
  match b with
  | ⟨0, _⟩ => rfl

/-- The tile's expert in the first table, in the second. -/
abbrev ea (t : Fin (cfg0 a).N) : BitVec 32 := a.1 0 (ix1 (⟨t.val, t.isLt⟩ : Fin 196))
abbrev eb (t : Fin (cfg0 a).N) : BitVec 32 := a.1 1 (ix1 (⟨t.val, t.isLt⟩ : Fin 196))

theorem off1 (t : Fin (cfg0 a).N) : (Rect.unit (s := S196) (k0_off1 (crd a t)) S1.size (k0_off1_inb (crd a t))).emb (Shape.Idx.first (numel1_S1.symm ▸ Nat.one_pos))
    = ix1 (⟨t.val, t.isLt⟩ : Fin 196) := by
  refine funext fun b => Fin.ext ?_
  match b with
  | ⟨0, _⟩ =>
    have h1 := k0_off1_eq (crd a t)
    have h2 := crd_val t
    show k0_off1 (crd a t) 0 + 1 * 0 = t.val
    rw [h1]
    exact h2

theorem idx1 (t : Fin (cfg0 a).N) : ((pcfg0 (F := Ideal)).win a (1 : Fin 8)).index t = ![(ea a t).toNat, 0, 0] := by
  have h := congrArg (a.1 0) (off1 a t)
  show ![BitVec.toNat (a.1 0 ((Rect.unit (s := S196) (k0_off1 (crd a t)) S1.size (k0_off1_inb (crd a t))).emb (Shape.Idx.first (numel1_S1.symm ▸ Nat.one_pos)))), 0, 0] = _
  rw [h]

theorem idx4 (t : Fin (cfg0 a).N) : ((pcfg0 (F := Ideal)).win a (4 : Fin 8)).index t = ![(eb a t).toNat, 0, 0] := by
  have h := congrArg (a.1 1) (off1 a t)
  show ![BitVec.toNat (a.1 1 ((Rect.unit (s := S196) (k0_off1 (crd a t)) S1.size (k0_off1_inb (crd a t))).emb (Shape.Idx.first (numel1_S1.symm ▸ Nat.one_pos)))), 0, 0] = _
  rw [h]

theorem idx2 (t : Fin (cfg0 a).N) : ((pcfg0 (F := Ideal)).win a (2 : Fin 8)).index t = ![(ea a t).toNat, 0, 0] := idx1 a t
theorem idx3 (t : Fin (cfg0 a).N) : ((pcfg0 (F := Ideal)).win a (3 : Fin 8)).index t = ![(ea a t).toNat, 0, 0] := idx1 a t
theorem idx5 (t : Fin (cfg0 a).N) : ((pcfg0 (F := Ideal)).win a (5 : Fin 8)).index t = ![(eb a t).toNat, 0, 0] := idx4 a t
theorem idx6 (t : Fin (cfg0 a).N) : ((pcfg0 (F := Ideal)).win a (6 : Fin 8)).index t = ![(eb a t).toNat, 0, 0] := idx4 a t

/-- A used tile: its number is below the count. -/
abbrev Live (t : Fin (cfg0 a).N) : Prop := IntOp.cmpi .slt (BitVec.ofNat 32 t.val) (a.1 2 (ix1 (0 : Fin 1))) = 1#1

theorem cond1_of (i : grid0.Coords) (v : BitVec 32) : k0_cond1 i v = 1#1 ↔ IntOp.cmpi .slt (BitVec.ofNat 32 (i 0).val) v = 1#1 := by
  unfold k0_cond1
  simp only [Scalar.cmpi, IntOp.cmpi, Scalar.extui]
  cases (BitVec.ofNat 32 (i 0).val).slt v <;> decide

theorem cond1_iff (t : Fin (cfg0 a).N) : k0_cond1 (crd a t) (word2 (F := Ideal) (a.1 2)) = 1#1 ↔ Live a t :=
  (cond1_of _ _).trans (Iff.of_eq (congrArg₂ (fun (n : ℕ) (v : BitVec 32) => IntOp.cmpi .slt (BitVec.ofNat 32 n) v = 1#1) (crd_val t) (word2_eq (a.1 2))))

theorem idx0 (t : Fin (cfg0 a).N) (ht : Live a t) : ((pcfg0 (F := Ideal)).win a (0 : Fin 8)).index t = ![t.val, 0] := by
  have h1 : t.val < 196 := t.isLt
  have h2 : (crd a t 0).val = t.val := crd_val t
  have h3 : a.1.at 2 (Rect.unit (s := S1) ![0] S1.size inb_S1_S1_0) numel1_S1 = a.1 2 (ix1 (0 : Fin 1)) := by
    refine congrArg (a.1 2) (funext fun b => Fin.ext ?_)
    match b with
    | ⟨0, _⟩ => rfl
  show ![BitVec.toNat (Scalar.select (IntOp.cmpi .slt (BitVec.ofNat 32 (crd a t 0).val) (a.1.at 2 (Rect.unit (s := S1) ![0] S1.size inb_S1_S1_0) numel1_S1))
    (BitVec.ofNat 32 (crd a t 0).val) 0#32), 0] = _
  rw [h3, h2]
  have e : Scalar.select (IntOp.cmpi .slt (BitVec.ofNat 32 t.val) (a.1 2 (ix1 (0 : Fin 1)))) (BitVec.ofNat 32 t.val) 0#32 = BitVec.ofNat 32 t.val := if_pos ht
  rw [e, BitVec.toNat_ofNat, Nat.mod_eq_of_lt (by omega)]

theorem idx7 (t : Fin (cfg0 a).N) : ((pcfg0 (F := Ideal)).win a (7 : Fin 8)).index t = ![t.val, 0] :=
  (by decide +kernel : ∀ t : Fin grid0.N, cc0_transform_7 (grid0.coords t) = ![t.val, 0]) t

theorem flush7 (t : Fin (cfg0 a).N) : ((pcfg0 (F := Ideal)).win a (7 : Fin 8)).flush t = true :=
  (by decide +kernel : ∀ t : Fin grid0.N, spec0_7.flushAt (G := grid0) cc0_transform_7 t = true) t

/-- What each window's block holds, of the arrays at launch. -/
theorem read0 (c : Dev nD) (t : Fin (cfg0 a).N) (ht : Live a t) (i : Fin 192) (k : Fin 1152) (r : Fin 37632) (hr : r.val = t.val * 192 + i.val) :
    iblk a m c (0 : Fin 8) t (ix2 i k) = m ((c.tc : Thread nD τ).loc main_arg3) (ix2 r k) := by
  blk_point [iblk, idx0 a t ht]

theorem read1 (c : Dev nD) (t : Fin (cfg0 a).N) (k : Fin 1024) (f : Fin 256) (e : Fin 32) (he : (ea a t).toNat = e.val) :
    iblk a m c (1 : Fin 8) t (ix3 (0 : Fin 1) k f) = m ((c.tc : Thread nD τ).loc main_arg4) (ix3 e k f) := by
  blk_point [iblk, idx1 a t]

theorem read2 (c : Dev nD) (t : Fin (cfg0 a).N) (k : Fin 1024) (f : Fin 256) (e : Fin 32) (he : (ea a t).toNat = e.val) :
    iblk a m c (2 : Fin 8) t (ix3 (0 : Fin 1) k f) = m ((c.tc : Thread nD τ).loc main_arg5) (ix3 e k f) := by
  blk_point [iblk, idx2 a t]

theorem read3 (c : Dev nD) (t : Fin (cfg0 a).N) (f : Fin 256) (d : Fin 1024) (e : Fin 32) (he : (ea a t).toNat = e.val) :
    iblk a m c (3 : Fin 8) t (ix3 (0 : Fin 1) f d) = m ((c.tc : Thread nD τ).loc main_arg6) (ix3 e f d) := by
  blk_point [iblk, idx3 a t]

theorem read4 (c : Dev nD) (t : Fin (cfg0 a).N) (k : Fin 1024) (f : Fin 256) (e : Fin 32) (he : (eb a t).toNat = e.val) :
    iblk a m c (4 : Fin 8) t (ix3 (0 : Fin 1) k f) = m ((c.tc : Thread nD τ).loc main_arg4) (ix3 e k f) := by
  blk_point [iblk, idx4 a t]

theorem read5 (c : Dev nD) (t : Fin (cfg0 a).N) (k : Fin 1024) (f : Fin 256) (e : Fin 32) (he : (eb a t).toNat = e.val) :
    iblk a m c (5 : Fin 8) t (ix3 (0 : Fin 1) k f) = m ((c.tc : Thread nD τ).loc main_arg5) (ix3 e k f) := by
  blk_point [iblk, idx5 a t]

theorem read6 (c : Dev nD) (t : Fin (cfg0 a).N) (f : Fin 256) (d : Fin 1024) (e : Fin 32) (he : (eb a t).toNat = e.val) :
    iblk a m c (6 : Fin 8) t (ix3 (0 : Fin 1) f d) = m ((c.tc : Thread nD τ).loc main_arg6) (ix3 e f d) := by
  blk_point [iblk, idx6 a t]

theorem emb7 (t : Fin (cfg0 a).N) (y : S192x1024.Idx) (r : Fin 37632) (hr : r.val = t.val * 192 + (y 0).val) :
    (((cfg0 a).win (7 : Fin 8)).blk t).view.emb y = ix2 r (y 1) := by
  blk_ext [idx7 a t]

theorem cover : ((cfg0 a).win (7 : Fin 8)).Covers :=
  ⟨(by decide : ∀ x : Fin 2, 0 < spec0_7.size x), fun β => ⟨⟨(β (0 : Fin 2)).val, (β (0 : Fin 2)).isLt.trans_eq (by decide : (37632 + 192 - 1) / 192 = grid0.N)⟩, flush7 a _, fun x => ⟨by
    rw [idx7]
    match x with
    | ⟨0, _⟩ => rfl
    | ⟨1, _⟩ => exact (Nat.lt_one_iff.1 ((β (1 : Fin 2)).isLt.trans_eq (by decide : (1024 + 1024 - 1) / 1024 = 1))).symm, .inl rfl⟩⟩⟩
end

open Cert.GmoeRefIdeal.Stage (acts proj silu experts out whole acts_apply proj_apply silu_apply experts_apply out_apply)

/-- One expert's share of a row is the row's weight of the expert times the reference's row of it. -/
theorem share_eq (X : FVec Ideal S37632x1152 .f32) (GG UU : FVec Ideal S32x1024x256 .bf16) (DD : FVec Ideal S32x256x1024 .bf16)
    (hX : ∀ (r : Fin 37632) (k : Fin 1024), IsReal (X (ix2 r (⟨k.val, by omega⟩ : Fin 1152))))
    (hC : ∀ (r : Fin 37632) (e : Fin 32), IsReal (X (ix2 r (⟨1028 + e.val, by omega⟩ : Fin 1152))))
    (hGG : ∀ i, IsReal (GG i)) (hUU : ∀ i, IsReal (UU i)) (hDD : ∀ i, IsReal (DD i))
    (B : FVec Ideal S192x1152 .f32) (v : BitVec 32) (G U : FVec Ideal S1x1024x256 .bf16) (D : FVec Ideal S1x256x1024 .bf16)
    (i : Fin 192) (d : Fin 1024) (r : Fin 37632) (e : Fin 32) (hv : v.toNat = e.val)
    (hB : ∀ k, B (ix2 i k) = X (ix2 r k)) (hG : ∀ k f, G (ix3 (0 : Fin 1) k f) = GG (ix3 e k f))
    (hU : ∀ k f, U (ix3 (0 : Fin 1) k f) = UU (ix3 e k f)) (hD : ∀ f, D (ix3 (0 : Fin 1) f d) = DD (ix3 e f d)) :
    share B v G U D i d = X (ix2 r (⟨1028 + e.val, by omega⟩ : Fin 1152)) * experts (proj GG (acts X)) (proj UU (acts X)) DD (ix3 e r d) := by
  have he : (⟨1028 + v.toNat, by omega⟩ : Fin 1152) = ⟨1028 + e.val, by omega⟩ := Fin.ext (show 1028 + v.toNat = 1028 + e.val by rw [hv])
  have hp : ∀ (W : FVec Ideal S32x1024x256 .bf16) (f : Fin 256), proj W (acts X) (ix3 e r f)
      = ∑ k : Fin 1024, X (ix2 r (⟨k.val, by omega⟩ : Fin 1152)) * W (ix3 e k f) := fun W f => by
    rw [proj_apply]
    exact Finset.sum_congr rfl fun k _ => by rw [acts_apply, mul_comm]
  unfold share
  rw [lane_eq B v (by omega) i, hB, he, experts_apply]
  simp only [hB, hG, hU, hD, silu_apply, hp]
  have hg : ∀ f, IsReal (∑ k : Fin 1024, X (ix2 r (⟨k.val, by omega⟩ : Fin 1152)) * GG (ix3 e k f)) := fun f => IsReal.sum _ fun k => (hX r k).mul (hGG _)
  have hu : ∀ f, IsReal (∑ k : Fin 1024, X (ix2 r (⟨k.val, by omega⟩ : Fin 1152)) * UU (ix3 e k f)) := fun f => IsReal.sum _ fun k => (hX r k).mul (hUU _)
  rw [mul_sum_real _ (hC r e) _ fun f => ((real_silu (hg f)).mul (hu f)).mul (hDD _)]
  refine Finset.sum_congr rfl fun f _ => ?_
  rw [half_tanh (hg f)]
  ac_rfl

section
variable (a : (pcfg0 (F := Ideal)).Adm) (m : (ℓ : Loc nD τ sig) → Buf (Elt Ideal) ℓ) (c : Dev nD)

/-- The launched arrays, and what the precondition says of them and of the tables. -/
structure Good : Prop where
  na : Named (a.1 0)
  nb : Named (a.1 1)
  ne : ∀ t, Live a t → ea a t ≠ eb a t
  idle : ∀ (t : Fin (cfg0 a).N) (r : Fin 37632) (e : Fin 32), r.val / 192 = t.val → (Live a t → BitVec.ofNat 32 e.val ≠ ea a t ∧ BitVec.ofNat 32 e.val ≠ eb a t) →
    m ((c.tc : Thread nD τ).loc main_arg3) (ix2 r (⟨1028 + e.val, by omega⟩ : Fin 1152)) = (0 : EReal)
  x : ∀ (r : Fin 37632) (k : Fin 1024), IsReal (m ((c.tc : Thread nD τ).loc main_arg3) (ix2 r (⟨k.val, by omega⟩ : Fin 1152)))
  w : ∀ (r : Fin 37632) (e : Fin 32), IsReal (m ((c.tc : Thread nD τ).loc main_arg3) (ix2 r (⟨1028 + e.val, by omega⟩ : Fin 1152)))
  g : ∀ i, IsReal (m ((c.tc : Thread nD τ).loc main_arg4) i)
  u : ∀ i, IsReal (m ((c.tc : Thread nD τ).loc main_arg5) i)
  d : ∀ i, IsReal (m ((c.tc : Thread nD τ).loc main_arg6) i)

/-- A weighted sum whose weights vanish but at two places. -/
theorem two_terms {n : ℕ} (f g : Fin n → EReal) (p q : Fin n) (hpq : p ≠ q) (h : ∀ e, e ≠ p → e ≠ q → f e = 0) :
    f p * g p + f q * g q = ∑ e, f e * g e :=
  (Finset.sum_eq_add (f := fun e => f e * g e) p q hpq (fun e _ he => by show f e * g e = 0; rw [h e he.1 he.2, zero_mul])
    (fun hn => absurd (Finset.mem_univ _) hn) (fun hn => absurd (Finset.mem_univ _) hn)).symm

/-- A weighted sum whose weights vanish. -/
theorem no_terms {n : ℕ} (f g : Fin n → EReal) (h : ∀ e, f e = 0) : 0 = ∑ e, f e * g e :=
  (Finset.sum_eq_zero fun e _ => by rw [h e, zero_mul]).symm

theorem res_live (t : Fin (cfg0 a).N) (ht : Live a t) (i : Fin 192) (d : Fin 1024) : res a m c t (ix2 i d)
    = share (iblk a m c (0 : Fin 8) t) (ea a t) (iblk a m c (1 : Fin 8) t) (iblk a m c (2 : Fin 8) t) (iblk a m c (3 : Fin 8) t) i d
      + share (iblk a m c (0 : Fin 8) t) (eb a t) (iblk a m c (4 : Fin 8) t) (iblk a m c (5 : Fin 8) t) (iblk a m c (6 : Fin 8) t) i d := by
  refine (congrFun (if_pos ((cond1_iff a t).2 ht)) (ix2 i d)).trans ((pay1_apply _ _ _ _ _ _ i d).trans (congrArg₂ (· + ·) ((pay5_apply _ _ _ _ _ i d).trans ?_) ?_))
  · exact congrArg (fun v => share (iblk a m c (0 : Fin 8) t) v (iblk a m c (1 : Fin 8) t) (iblk a m c (2 : Fin 8) t) (iblk a m c (3 : Fin 8) t) i d) (word0_eq a t (a.1 0))
  · exact congrArg (fun v => share (iblk a m c (0 : Fin 8) t) v (iblk a m c (4 : Fin 8) t) (iblk a m c (5 : Fin 8) t) (iblk a m c (6 : Fin 8) t) i d) (word1_eq a t (a.1 1))

theorem res_idle (t : Fin (cfg0 a).N) (ht : ¬ Live a t) (i : Fin 192) (d : Fin 1024) : res a m c t (ix2 i d) = (0 : EReal) :=
  (congrFun (if_neg fun q => ht ((cond1_iff a t).1 q)) (ix2 i d)).trans (pay2_apply i d)

/-- A point's tile is the reference's rows at the tile's place. -/
theorem point7 (h : Good a m c) (t : Fin (cfg0 a).N) (i : Fin 192) (d : Fin 1024) (r : Fin 37632) (hr : r.val = t.val * 192 + i.val) :
    res a m c t (ix2 i d) = whole (m ((c.tc : Thread nD τ).loc main_arg3)) (m ((c.tc : Thread nD τ).loc main_arg4))
      (m ((c.tc : Thread nD τ).loc main_arg5)) (m ((c.tc : Thread nD τ).loc main_arg6)) (ix2 r d) := by
  have hrt : r.val / 192 = t.val := by omega
  rw [whole, out_apply]
  by_cases ht : Live a t
  · rw [res_live a m c t ht]
    have la : (ea a t).toNat < 32 := h.na _
    have lb : (eb a t).toNat < 32 := h.nb _
    rw [share_eq _ _ _ _ h.x h.w h.g h.u h.d _ _ _ _ _ i d r (⟨(ea a t).toNat, la⟩ : Fin 32) rfl (fun k => read0 a m c t ht i k r hr)
        (fun k f => read1 a m c t k f _ rfl) (fun k f => read2 a m c t k f _ rfl) (fun f => read3 a m c t f d _ rfl),
      share_eq _ _ _ _ h.x h.w h.g h.u h.d _ _ _ _ _ i d r (⟨(eb a t).toNat, lb⟩ : Fin 32) rfl (fun k => read0 a m c t ht i k r hr)
        (fun k f => read4 a m c t k f _ rfl) (fun k f => read5 a m c t k f _ rfl) (fun f => read6 a m c t f d _ rfl)]
    refine two_terms (fun e : Fin 32 => m ((c.tc : Thread nD τ).loc main_arg3) (ix2 r (⟨1028 + e.val, by omega⟩ : Fin 1152)))
      (fun e : Fin 32 => experts (proj (m ((c.tc : Thread nD τ).loc main_arg4)) (acts (m ((c.tc : Thread nD τ).loc main_arg3))))
        (proj (m ((c.tc : Thread nD τ).loc main_arg5)) (acts (m ((c.tc : Thread nD τ).loc main_arg3)))) (m ((c.tc : Thread nD τ).loc main_arg6)) (ix3 e r d))
      ⟨(ea a t).toNat, la⟩ ⟨(eb a t).toNat, lb⟩ (fun e => h.ne t ht (BitVec.eq_of_toNat_eq (Fin.mk.inj e))) fun e pa pb =>
        h.idle t r e hrt fun _ => ⟨fun q => pa (Fin.ext ?_), fun q => pb (Fin.ext ?_)⟩
    all_goals
      have := congrArg BitVec.toNat q
      rw [BitVec.toNat_ofNat, Nat.mod_eq_of_lt (by omega)] at this
      exact this
  · rw [res_idle a m c t ht]
    exact no_terms (fun e : Fin 32 => m ((c.tc : Thread nD τ).loc main_arg3) (ix2 r (⟨1028 + e.val, by omega⟩ : Fin 1152))) _
      fun e => h.idle t r e hrt fun q => absurd q ht

/-- The output array after the run. -/
theorem final7 (h : Good a m c) : (dats a m 0 c).arrAt (7 : Fin 8) (cfg0 a).N
    = whole (m ((c.tc : Thread nD τ).loc main_arg3)) (m ((c.tc : Thread nD τ).loc main_arg4))
      (m ((c.tc : Thread nD τ).loc main_arg5)) (m ((c.tc : Thread nD τ).loc main_arg6)) := by
  refine (dats a m 0 c).arrAt_eq_of_covers (7 : Fin 8) _ (cover a) fun t _ y => ?_
  have ht : t.val < 196 := t.isLt
  have hy : (y 0).val < 192 := (y 0).isLt
  rw [after7]
  refine Eq.trans ?_ (congrArg _ (emb7 a t y (⟨t.val * 192 + (y 0).val, by omega⟩ : Fin 37632) rfl)).symm
  refine (congrArg (res a m c t) (funext fun x => Fin.ext ?_ : _ = ix2 (y 0) (y 1))).trans ?_
  · match x with
    | ⟨0, _⟩ => rfl
    | ⟨1, _⟩ => rfl
  exact point7 a m c h t (y 0) (y 1) (⟨t.val * 192 + (y 0).val, by omega⟩ : Fin 37632) rfl
end

theorem ne_of_bits (x y : BitVec 32) (l : BitVec 1) (hl : l = 1#1) (h : IntOp.ori (IntOp.cmpi .ne x y) (~~~l) = 1#1) : x ≠ y := by
  rintro rfl
  subst hl
  simp [IntOp.ori, IntOp.cmpi] at h

theorem bit_of_bits : ∀ p q l z : BitVec 1, (l = 1#1 → p ≠ 1#1 ∧ q ≠ 1#1) → IntOp.ori (IntOp.andi (IntOp.ori p q) l) z = 1#1 → z = 1#1 := by
  decide

/-- What the precondition says. -/
theorem good (m : (ℓ : Loc nD τ sig) → Buf (Elt Ideal) ℓ) (h : Cert.Pre_GmoeIdeal_routed m) (hO : ok0 (F := Ideal) (tbl m)) (c : Dev nD) :
    Good ⟨tbl m, hO⟩ m c := by
  obtain rfl : c = 0 := Subsingleton.elim _ _
  obtain ⟨h0, h1, h2, h3, h4, h5, h6, h7, h8⟩ := h 0
  refine ⟨fun x => named_of _ (congrFun h0 x), fun x => named_of _ (congrFun h1 x), fun t ht => ?_, fun t r e hr he => ?_, fun r k => ?_, fun r e => ?_, fun i => ?_, fun i => ?_, fun i => ?_⟩
  · have := congrFun h2 (ix1 (⟨t.val, t.isLt⟩ : Fin 196))
    pointwise [Cert.Pre_routed.fn, Cert.Pre_routed.fn_part1, Cert.Pre_routed.fn_part2] at this
    exact ne_of_bits _ _ _ ht this
  · have := congrFun h3 (ix3 (⟨t.val, t.isLt⟩ : Fin 196) (⟨r.val % 192, by omega⟩ : Fin 192) e)
    pointwise [Cert.Pre_routed.fn, Cert.Pre_routed.fn_part1, Cert.Pre_routed.fn_part2] at this
    have e0 := bit_of_bits _ _ _ _ (fun l => ⟨fun q => (he l).1 (StableHlo.Predicate.cmpi_eq_iff.1 q), fun q => (he l).2 (StableHlo.Predicate.cmpi_eq_iff.1 q)⟩) this
    have e1 := of_decide_eq_true ((StableHlo.Predicate.ofBool_eq_one_iff _).1 e0)
    have e2 : (⟨t.val * 192 + r.val % 192, by omega⟩ : Fin 37632) = r := Fin.ext (show t.val * 192 + r.val % 192 = r.val by omega)
    rw [e2] at e1
    exact e1
  · have := real_of_cmp (fun i => pos_inf) h4 (ix2 r k)
    pointwise [] at this
    exact this
  · have := real_of_cmp (fun i => pos_inf) h5 (ix2 r e)
    pointwise [] at this
    exact this
  · exact real_of_cmp (fun i => pos_inf) h6 i
  · exact real_of_cmp (fun i => pos_inf) h7 i
  · exact real_of_cmp (fun i => pos_inf) h8 i

/-- From memories that hold the same routed rows, kernel and reference end with the same result. -/
theorem algebraic : Cert.algebraic_GmoeIdeal_GmoeRefIdeal_pre_routed := by
  intro m g m' g' hp h
  have na : Named (m ((0 : Dev nD).tc.loc main_arg0)) := fun x => named_of _ (congrFun (hp 0).1 x)
  have nb : Named (m ((0 : Dev nD).tc.loc main_arg1)) := fun x => named_of _ (congrFun (hp 0).2.1 x)
  have hO := ok_of_named (tbl m) na nb
  refine ⟨fun c => (dats ⟨tbl m, hO⟩ m 0 c).arrAt (7 : Fin 8) (cfg0 ⟨tbl m, hO⟩).N, ?_, ?_⟩
  · exact (θ_run _ _ _).mono (fun r h c => ⟨h.1.out_eq c (7 : Fin 8), h.1.rest_eq c main_arg0 (show main_arg0 ∈ Pipeline.restRefs sig spec0 by decide),
      h.1.rest_eq c main_arg1 (show main_arg1 ∈ Pipeline.restRefs sig spec0 by decide), h.1.rest_eq c main_arg2 (show main_arg2 ∈ Pipeline.restRefs sig spec0 by decide),
      h.1.in_eq c (0 : Fin 8) rfl, h.1.in_eq c (1 : Fin 8) rfl, h.1.in_eq c (2 : Fin 8) rfl, h.1.in_eq c (3 : Fin 8) rfl⟩) (run_main m g hO)
  · refine (θ_run _ _ _).mono (fun r hr c => ?_) (Cert.GmoeRefIdeal.Stage.run_staged m' g')
    obtain ⟨a0, a1, a2, a3, a4, a5, a6⟩ := h c
    obtain ⟨r0, k⟩ := hr c
    rw [a3, a4, a5, a6] at r0
    exact ⟨r0.trans (final7 _ m c (good m hp hO c)).symm, k⟩

end Cert.GmoeIdeal.Body
-- ==== Proof.V.Back.lean ====
/- The gated sum of the three branches, projected onto the residual stream: what the reference computes, each point's rows, and the claim. -/
module

public import proofs.«01_k».proof.Proof.Gen.BackIdeal.Value
public import proofs.«01_k».proof.Proof.Gen.BackRefIdeal.Run
public import proofs.«01_k».proof.Defs
public import Idealize.ShloMosaic.Lib.Pipeline.ValueKit
public import Idealize.ShloMosaic.Lib.Pointwise
public import Idealize.ShloMosaic.Lib.StableHlo.ReadAt

@[expose] public section
set_option maxRecDepth 16384
noncomputable section

open Idealize.ShloMosaic Idealize.ShloMosaic.TcCoe Idealize.SL.Sem
open Idealize.ShloMosaic.Pipeline (Dat)

namespace Cert.BackRefIdeal.Stage
open Cert.BackRefIdeal Cert.BackRefIdeal.Gen

/-- The logistic of the gates' columns, split by branch. -/
def gates (P : FVec Ideal S16384x10752 .bf16) : FVec Ideal S16384x3x1024 .f32 :=
  shapeCast _ (Host.divf (broadcastInDim S16384x3072 ![] bcast_S_S16384x3072 (constant S_ .f32 0x3F800000#32))
    (addf (broadcastInDim S16384x3072 ![] bcast_S_S16384x3072 (constant S_ .f32 0x3F800000#32))
      (Host.exp (Host.negf (extf .f32 (extractStridedSlice S16384x3072 ![0, 0] P slices_S16384x10752_S16384x3072_0_0) bitsLt_bf16_f32)))))
    shapeCasts_S16384x3072_S16384x3x1024

/-- The gated and summed branches. -/
def merged (g : FVec Ideal S16384x3x1024 .f32) (Ys : FVec Ideal S16384x2048 .bf16) (Ya Ym : FVec Ideal S16384x1024 .bf16)
    (Ws : FVec Ideal S1x2048x1024 .f32) (Wa Wm : FVec Ideal S1x1024x1024 .f32) : FVec Ideal S16384x1024 .f32 :=
  addf (addf
    (mulf (shapeCast _ (extractStridedSlice S16384x1x1024 ![0, 0, 0] g slices_S16384x3x1024_S16384x1x1024_0_0_0) shapeCasts_S16384x1x1024_S16384x1024)
      (Host.dotGeneral (φ₁ := .f32) (φ₂ := .f32) dot_S16384x2048_S2048x1024_S16384x1024_1_0_0_1_n_n none (extf .f32 Ys bitsLt_bf16_f32)
        (shapeCast S2048x1024 Ws shapeCasts_S1x2048x1024_S2048x1024)))
    (mulf (shapeCast _ (extractStridedSlice S16384x1x1024 ![0, 1, 0] g slices_S16384x3x1024_S16384x1x1024_0_1_0) shapeCasts_S16384x1x1024_S16384x1024)
      (Host.dotGeneral (φ₁ := .f32) (φ₂ := .f32) dot_S16384x1024_S1024x1024_S16384x1024_1_0_0_1_n_n none (extf .f32 Ya bitsLt_bf16_f32)
        (shapeCast S1024x1024 Wa shapeCasts_S1x1024x1024_S1024x1024))))
    (mulf (shapeCast _ (extractStridedSlice S16384x1x1024 ![0, 2, 0] g slices_S16384x3x1024_S16384x1x1024_0_2_0) shapeCasts_S16384x1x1024_S16384x1024)
      (Host.dotGeneral (φ₁ := .f32) (φ₂ := .f32) dot_S16384x1024_S1024x1024_S16384x1024_1_0_0_1_n_n none (extf .f32 Ym bitsLt_bf16_f32)
        (shapeCast S1024x1024 Wm shapeCasts_S1x1024x1024_S1024x1024)))

/-- The residual stream with the projected branches added. -/
def out (X : FVec Ideal S8x2048x1024 .f32) (M : FVec Ideal S16384x1024 .f32) (Wo : FVec Ideal S1x1024x1024 .f32) : FVec Ideal S16384x1024 .f32 :=
  addf (shapeCast _ X shapeCasts_S8x2048x1024_S16384x1024)
    (Host.dotGeneral (φ₁ := .f32) (φ₂ := .f32) dot_S16384x1024_S1024x1024_S16384x1024_1_0_0_1_n_n none M
      (shapeCast S1024x1024 Wo shapeCasts_S1x1024x1024_S1024x1024))

/-- The reference's result. -/
abbrev whole (X : FVec Ideal S8x2048x1024 .f32) (P : FVec Ideal S16384x10752 .bf16) (Ys : FVec Ideal S16384x2048 .bf16)
    (Ya Ym : FVec Ideal S16384x1024 .bf16) (Ws : FVec Ideal S1x2048x1024 .f32) (Wa Wm Wo : FVec Ideal S1x1024x1024 .f32) :
    FVec Ideal S16384x1024 .f32 := out X (merged (gates P) Ys Ya Ym Ws Wa Wm) Wo

/-- What the reference computes: its result, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Value.run m ρ

/-- The reference terminates, its arguments unchanged and every counter at zero. -/
theorem frame : Cert.quiescent_BackRefIdeal := fun m ρ _ =>
  (θ_run (defs (F := Ideal)) _ _).mono (fun r h => And.intro (fun c => (h c).2) (sem_eq_zero_of_no_sems (by decide) r.2))
    (run_staged m ρ)

end Cert.BackRefIdeal.Stage

namespace Cert.BackIdeal.Value
open Cert.BackIdeal Cert.BackIdeal.Gen
open Cert.BackRefIdeal.Stage (gates merged out whole)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_12.index t = ![t.val, 0] :=
  (by decide +kernel : ∀ t : Fin grid0.N, _)

/-- The residual rows a point reads. -/
theorem read0 (c : Dev nD) (t : Fin cfg0.N) (i : Fin 512) (x : Fin 1024) (b : Fin 8) (r : Fin 2048) (y : Fin 1024)
    (hr : b.val * 2048 + r.val = t.val * 512 + i.val) (hy : y.val = x.val) :
    iblk m c 0 t (ix2 i x) = m ((c.tc : Thread nD τ).loc main_arg0) (ix3 b r y) := by
  blk_simp [iblk, V]
  after_reads_at
  blk_point [idx t]

/-- The gates a point reads. -/
theorem read1 (c : Dev nD) (t : Fin cfg0.N) (i : Fin 512) (x : Fin 3072) (r : Fin 16384) (y : Fin 10752)
    (hr : r.val = t.val * 512 + i.val) (hy : y.val = x.val) :
    X0_1 m c t (ix2 i x) = m ((c.tc : Thread nD τ).loc main_arg1) (ix2 r y) := by
  unfold X0_1 Pipeline.Window.fill
  rw [dif_pos (moved0_1 t _)]
  blk_point [iblk, V, idx t]

/-- The rows of the state-space branch a point reads. -/
theorem read2 (c : Dev nD) (t : Fin cfg0.N) (i : Fin 512) (x : Fin 2048) (r : Fin 16384) (y : Fin 2048)
    (hr : r.val = t.val * 512 + i.val) (hy : y.val = x.val) :
    iblk m c 2 t (ix2 i x) = m ((c.tc : Thread nD τ).loc main_arg2) (ix2 r y) := by
  blk_point [iblk, V, idx t]

/-- The rows of the window attention a point reads. -/
theorem read3 (c : Dev nD) (t : Fin cfg0.N) (i : Fin 512) (x : Fin 1024) (r : Fin 16384) (y : Fin 1024)
    (hr : r.val = t.val * 512 + i.val) (hy : y.val = x.val) :
    iblk m c 3 t (ix2 i x) = m ((c.tc : Thread nD τ).loc main_arg3) (ix2 r y) := by
  blk_point [iblk, V, idx t]

/-- The rows of the memory attention a point reads. -/
theorem read4 (c : Dev nD) (t : Fin cfg0.N) (i : Fin 512) (x : Fin 1024) (r : Fin 16384) (y : Fin 1024)
    (hr : r.val = t.val * 512 + i.val) (hy : y.val = x.val) :
    iblk m c 4 t (ix2 i x) = m ((c.tc : Thread nD τ).loc main_arg4) (ix2 r y) := by
  blk_point [iblk, V, idx t]

/-- Every point reads the whole state-space branch's projection. -/
theorem read5 (c : Dev nD) (t : Fin cfg0.N) (i : Fin 2048) (x : Fin 1024) (z : Fin 1) (r : Fin 2048) (y : Fin 1024) (hr : r.val = i.val) (hy : y.val = x.val) :
    iblk m c 5 t (ix2 i x) = m ((c.tc : Thread nD τ).loc main_arg5) (ix3 z r y) := by
  blk_simp [iblk, V]
  after_reads_at
  blk_point [idx t]

/-- Every point reads the whole window attention's projection. -/
theorem read6 (c : Dev nD) (t : Fin cfg0.N) (i : Fin 1024) (x : Fin 1024) (z : Fin 1) (r : Fin 1024) (y : Fin 1024) (hr : r.val = i.val) (hy : y.val = x.val) :
    iblk m c 6 t (ix2 i x) = m ((c.tc : Thread nD τ).loc main_arg6) (ix3 z r y) := by
  blk_simp [iblk, V]
  after_reads_at
  blk_point [idx t]

/-- Every point reads the whole memory attention's projection. -/
theorem read7 (c : Dev nD) (t : Fin cfg0.N) (i : Fin 1024) (x : Fin 1024) (z : Fin 1) (r : Fin 1024) (y : Fin 1024) (hr : r.val = i.val) (hy : y.val = x.val) :
    iblk m c 7 t (ix2 i x) = m ((c.tc : Thread nD τ).loc main_arg7) (ix3 z r y) := by
  blk_simp [iblk, V]
  after_reads_at
  blk_point [idx t]

/-- Every point reads the whole output's projection. -/
theorem read8 (c : Dev nD) (t : Fin cfg0.N) (i : Fin 1024) (x : Fin 1024) (z : Fin 1) (r : Fin 1024) (y : Fin 1024) (hr : r.val = i.val) (hy : y.val = x.val) :
    iblk m c 8 t (ix2 i x) = m ((c.tc : Thread nD τ).loc main_arg8) (ix3 z r y) := by
  blk_simp [iblk, V]
  after_reads_at
  blk_point [idx t]

set_option maxHeartbeats 3200000 in
/-- A point's first output block is the reference's rows at the block's place. -/
theorem point12 (c : Dev nD) (t : Fin cfg0.N) (y : S512x1024.Idx) :
    (outsAt0 m c t).1 y = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (((cfg0.win 12).blk t).view.emb y) := by
  have ht : t.val < 32 := t.isLt
  obtain ⟨r, j, e, hr, hj⟩ : ∃ (r : Fin 16384) (j : Fin 1024), ((cfg0.win 12).blk t).view.emb y = ix2 r j
      ∧ r.val = t.val * 512 + (y 0).val ∧ j.val = (y 1).val := by
    idx_vars y
    exact ⟨⟨t.val * 512 + y0.val, by omega⟩, y1, by blk_ext [idx t], rfl, rfl⟩
  rw [e]
  have p0 := read0 m c t
  have p1 := read1 m c t
  have p2 := read2 m c t
  have p3 := read3 m c t
  have p4 := read4 m c t
  have p5 := read5 m c t
  have p6 := read6 m c t
  have p7 := read7 m c t
  have p8 := read8 m c t
  unfold outsAt0
  dsimp only
  unfold out0_A_12
  frame_out
  generalize iblk m c 0 t = B0 at p0 ⊢
  generalize X0_1 m c t = B1 at p1 ⊢
  generalize iblk m c 2 t = B2 at p2 ⊢
  generalize iblk m c 3 t = B3 at p3 ⊢
  generalize iblk m c 4 t = B4 at p4 ⊢
  generalize iblk m c 5 t = B5 at p5 ⊢
  generalize iblk m c 6 t = B6 at p6 ⊢
  generalize iblk m c 7 t = B7 at p7 ⊢
  generalize iblk m c 8 t = B8 at p8 ⊢
  generalize m ((c.tc : Thread nD τ).loc main_arg0) = A0 at p0 ⊢
  generalize m ((c.tc : Thread nD τ).loc main_arg1) = A1 at p1 ⊢
  generalize m ((c.tc : Thread nD τ).loc main_arg2) = A2 at p2 ⊢
  generalize m ((c.tc : Thread nD τ).loc main_arg3) = A3 at p3 ⊢
  generalize m ((c.tc : Thread nD τ).loc main_arg4) = A4 at p4 ⊢
  generalize m ((c.tc : Thread nD τ).loc main_arg5) = A5 at p5 ⊢
  generalize m ((c.tc : Thread nD τ).loc main_arg6) = A6 at p6 ⊢
  generalize m ((c.tc : Thread nD τ).loc main_arg7) = A7 at p7 ⊢
  generalize m ((c.tc : Thread nD τ).loc main_arg8) = A8 at p8 ⊢
  idx_vars y
  pointwise [k0_pay2, k0_pay3, k0_pay4, k0_pay5, whole, out, merged, gates]
  reads_congr
  all_goals try (rw [zero_sub]; refine congrArg (fun v : EReal => Ideal.exp (-v)) ?_)
  all_goals first
    | refine p0 _ _ _ _ _ ?_ ?_ | refine p1 _ _ _ _ ?_ ?_ | refine p2 _ _ _ _ ?_ ?_ | refine p3 _ _ _ _ ?_ ?_ | refine p4 _ _ _ _ ?_ ?_
    | refine p5 _ _ _ _ _ ?_ ?_ | refine p6 _ _ _ _ _ ?_ ?_ | refine p7 _ _ _ _ _ ?_ ?_ | refine p8 _ _ _ _ _ ?_ ?_
  all_goals first | rfl | assumption | ((try simp only [Fin.val_mk]); omega)

theorem final12 (c : Dev nD) : (dats m 0 c).arrAt 12 cfg0.N = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 12 _ (by decide +kernel) fun t _ y => ?_
  blk_simp
  rw [after0_12]
  exact point12 m c t y

/-- From memories that hold the same arguments, kernel and reference end with the same result. -/
theorem algebraic : Cert.algebraic_BackIdeal_BackRefIdeal := by
  intro m g m' g' _ h
  refine ⟨fun c => (dats m 0 c).arrAt 12 cfg0.N, (θ_run _ _ _).mono (fun r h c => ⟨(h c).1, (h c).2.2.2⟩) (run_blocks m g), ?_⟩
  refine (θ_run _ _ _).mono (fun r hr c => ?_) (Cert.BackRefIdeal.Stage.run_staged m' g')
  obtain ⟨a0, a1, a2, a3, a4, a5, a6, a7, a8, a9, a10, a11, a12, a13⟩ := h c
  obtain ⟨r0, k⟩ := hr c
  rw [a0, a1, a2, a3, a4, a5, a6, a7, a8] at r0
  exact ⟨r0.trans (final12 m c).symm, k⟩

end Cert.BackIdeal.Value
-- ==== Proof.V.FrontRun.lean ====
module

public import proofs.«01_k».proof.Proof.Gen.FrontIdeal.Skeleton
public import proofs.«01_k».proof.Proof.Gen.FrontIdeal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The input projection's kernel, run on symbolic staging memrefs: one run for a row block's first column block, which normalizes the rows into scratch, one for its others. -/

@[expose] public section

set_option maxRecDepth 16384
set_option Elab.async false

noncomputable section

namespace Cert.FrontIdeal.Body

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x3584 .bf16) (harg4 : arg4.IsWhole) (arg5 : Memref sig .tc .vmem S1024x128 .bf16) (harg5 : arg5.IsWhole)
  (arg6 : Memref sig .tc .vmem S1024x3584 .bf16) (harg6 : arg6.IsWhole) (arg7 : Memref sig .tc .vmem S1024x128 .f32) (harg7 : arg7.IsWhole)
  (arg8 : Memref sig .tc .vmem S1024x1024 .bf16) (harg8 : arg8.IsWhole)
  (x0 : S1024x1024.Idx → Elt F .f32) (x1 : S1x1024.Idx → Elt F .f32) (x2 : S1024x3584.Idx → Elt F .bf16) (x3 : S1024x128.Idx → Elt F .bf16)
  (x8 : S1024x1024.Idx → Elt F .bf16)

/-- What the body reads, held: the staged inputs. -/
abbrev Reads : sProp 𝕄 :=
  iprop((arg2.view.loc (c : Thread nD τ) ↦[arg2.view.set]{fullShare} arg2.view.rep x0)
    ∗ (arg3.view.loc (c : Thread nD τ) ↦[arg3.view.set]{fullShare} arg3.view.rep x1)
    ∗ (arg4.view.loc (c : Thread nD τ) ↦[arg4.view.set]{fullShare} arg4.view.rep x2)
    ∗ (arg5.view.loc (c : Thread nD τ) ↦[arg5.view.set]{fullShare} arg5.view.rep x3))

/-- A row block's first column block: the rows are normalized into scratch and both outputs are stored. -/
theorem run_first (h : k0_cond1 i = 1#1) (K : PUnit → sProp 𝕄) :
    iprop(Reads c arg2 arg3 arg4 arg5 x0 x1 x2 x3
        ∗ (∃ d, owns (c : Thread nD τ) arg6 fullShare d) ∗ (∃ d, owns (c : Thread nD τ) arg7 fullShare d)
        ∗ (∃ d, owns (c : Thread nD τ) arg8 fullShare d)
        ∗ (iprop(Reads c arg2 arg3 arg4 arg5 x0 x1 x2 x3
            ∗ owns (c : Thread nD τ) arg6 fullShare (k0_pay4 (k0_pay2 x0 x1) x2)
            ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) Set.univ (cc0_front i arg2 harg2 arg3 harg3 arg4 harg4 arg5 harg5 arg6 harg6 arg7 harg7 arg8 harg8) K := by
  unfold owns Reads
  rw [cc0_front_eq_skeleton]; unfold cc0_front_skel
  iintro ⟨⟨H0, H1, H2, H3⟩, ⟨%d6, %f6, -, H6⟩, ⟨%d7, %f7, -, H7⟩, ⟨%d8, %f8, -, H8⟩, Hk⟩
  sl_exec! (disch := first | (guard_target = k0_cond1 _ = _; exact h))
  sl_step
  iapply Hk
  isplitl [H0 H1 H2 H3]
  · isplitl [H0]; · iexact H0
    isplitl [H1]; · iexact H1
    isplitl [H2]; · iexact H2
    iexact H3
  isplitl [H6]
  · iexists _; isplitr; swap
    · iexact H6
    · ipureintro
      unfold run_first.sl.H6_1
      rw [View.read_writes_full _ _ (fun a => by fin_cases a <;> simp)]
      unfold run_first.sl.v3 run_first.sl.H8_1
      rw [View.readCov_full _ _ (fun a => by fin_cases a <;> simp), View.readAt_rep_full arg2.view x0 inb_S1024x1024_S1024x1024_0_0, View.readAt_rep_full arg3.view x1 inb_S1x1024_S1x1024_0_0, View.readAt_rep_full arg4.view x2 inb_S1024x3584_S1024x3584_0_0]
  isplitl [H7]
  · iexists _; isplitr; swap
    · iexact H7
    · ipureintro
      unfold run_first.sl.H7_1
      rw [View.read_writes_full _ _ (fun a => by fin_cases a <;> simp)]
      rw [View.readAt_rep_full arg2.view x0 inb_S1024x1024_S1024x1024_0_0, View.readAt_rep_full arg3.view x1 inb_S1x1024_S1x1024_0_0, View.readAt_rep_full arg5.view x3 inb_S1024x128_S1024x128_0_0]
  iexists _; isplitr; swap
  · iexact H8
  · ipureintro
    unfold run_first.sl.H8_1
    rw [View.read_writes_full _ _ (fun a => by fin_cases a <;> simp)]
    rw [View.readAt_rep_full arg2.view x0 inb_S1024x1024_S1024x1024_0_0, View.readAt_rep_full arg3.view x1 inb_S1x1024_S1x1024_0_0]

/-- Its other column blocks: the rows are read back from scratch, and the second output is left. -/
theorem run_next (h : ¬ k0_cond1 i = 1#1) (K : PUnit → sProp 𝕄) :
    iprop(Reads c arg2 arg3 arg4 arg5 x0 x1 x2 x3
        ∗ (∃ d, owns (c : Thread nD τ) arg6 fullShare d)
        ∗ (arg8.view.loc (c : Thread nD τ) ↦[arg8.view.set]{fullShare} arg8.view.rep x8)
        ∗ (iprop(Reads c arg2 arg3 arg4 arg5 x0 x1 x2 x3
            ∗ owns (c : Thread nD τ) arg6 fullShare (k0_pay4 x8 x2)
            ∗ (arg8.view.loc (c : Thread nD τ) ↦[arg8.view.set]{fullShare} arg8.view.rep x8)) -∗ K ⟨⟩))
      ⊢ wp frame (wpE (defs₀ (F := F)) Variants.none c none) Set.univ (cc0_front i arg2 harg2 arg3 harg3 arg4 harg4 arg5 harg5 arg6 harg6 arg7 harg7 arg8 harg8) K := by
  unfold owns Reads
  rw [cc0_front_eq_skeleton]; unfold cc0_front_skel
  iintro ⟨⟨H0, H1, H2, H3⟩, ⟨%d6, %f6, -, H6⟩, H8, Hk⟩
  sl_exec! (disch := first | (guard_target = ¬(k0_cond1 _ = _); exact h))
  sl_step
  iapply Hk
  isplitl [H0 H1 H2 H3]
  · isplitl [H0]; · iexact H0
    isplitl [H1]; · iexact H1
    isplitl [H2]; · iexact H2
    iexact H3
  isplitl [H6]
  · iexists _; isplitr; swap
    · iexact H6
    · ipureintro
      unfold run_next.sl.H6_1
      rw [View.read_writes_full _ _ (fun a => by fin_cases a <;> simp)]
      rw [View.readAt_rep_full arg8.view x8 inb_S1024x1024_S1024x1024_0_0, View.readAt_rep_full arg4.view x2 inb_S1024x3584_S1024x3584_0_0]
  iexact H8

end

end Cert.FrontIdeal.Body

end
-- ==== Proof.V.FrontBody.lean ====
module

public import proofs.«01_k».proof.Proof.V.FrontRun
public import proofs.«01_k».proof.Proof.Gen.FrontIdeal.Points
public import proofs.«01_k».proof.Proof.Gen.FrontIdeal.Frame
public import Idealize.ShloMosaic.Lib.Pipeline.ValueKit.Geometry
public import Idealize.ShloMosaic.Lib.Claim

/-! The input projection's pipeline: the proof data, which track the normalized rows in scratch and the held second output, the body obligation, the launch and the frame. -/

@[expose] public section

set_option maxRecDepth 16384
set_option Elab.async false

noncomputable section

namespace Cert.FrontIdeal.Body

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s row block. -/
def fst (t : Fin cfg0.N) : Fin cfg0.N := ⟨t.val / 3 * 3, lt_of_le_of_lt (Nat.div_mul_le_self _ _) t.isLt⟩

theorem fst_of_zero (t : Fin cfg0.N) (h : t.val % 3 = 0) : fst t = t := Fin.ext (by show t.val / 3 * 3 = t.val; omega)

theorem fst_pred (t s : Fin cfg0.N) (h : t.val % 3 ≠ 0) (hs : s.val = t.val - 1) : fst s = fst t :=
  Fin.ext (by show s.val / 3 * 3 = t.val / 3 * 3; omega)

/-- The normalized rows of `t`'s row block, and their second output block. -/
def rows (c : Dev nD) (t : Fin cfg0.N) : S1024x1024.Idx → Elt F .bf16 := k0_pay2 (iblk m c 0 (fst t)) (iblk m c 1 (fst t))
def held (c : Dev nD) (t : Fin cfg0.N) : S1024x128.Idx → Elt F .f32 := k0_pay3 (iblk m c 0 (fst t)) (iblk m c 1 (fst t)) (iblk m c 3 (fst t))

/-- Between points: scratch holds anything before a row block, and its normalized rows inside it. -/
def Phi (c : Dev nD) (n : ℕ) (hn : n ≤ cfg0.N) : sProp 𝕄 :=
  if h : n % 3 = 0 then Pipeline.ΦA spec0 c
  else iprop(owns (c : Thread nD τ) (Memref.whole cc0_scratch0) fullShare (rows m c ⟨n - 1, by omega⟩) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t) (iblk m c 2 t)
    | ⟨5, _⟩ => held m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (rows m c t) (iblk m c 2 t) := by dsimp only [dats]
theorem after5 (c : Dev nD) (t : Fin cfg0.N) : (dats m 0 c).after 5 t = held m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The body normalizes at a row block's first point. -/
theorem cond_iff : ∀ t : Fin cfg0.N, k0_cond1 (grid0.coords t) = 1#1 ↔ t.val % 3 = 0 := by decide +kernel

theorem idle5 (t : Fin cfg0.N) : cfg0.idle 5 (cfg0.grid.coords t) = decide (t.val % 3 ≠ 0) := by
  show (!(k0_cond1 (grid0.coords t) == 1#1)) = _
  by_cases h : t.val % 3 = 0
  · rw [(cond_iff t).2 h]; simp [h]
  · have := (cond_iff t).not.2 h
    simp [h, this]

theorem fresh5 : ∀ t : Fin cfg0.N, cfg0.fresh 5 t.val = decide (t.val % 3 = 0) := by decide +kernel

/-- Past a row block's first point the second output's buffer holds its block. -/
theorem before5 (c : Dev nD) (t : Fin cfg0.N) (h : t.val % 3 ≠ 0) (d) : (dats m 0 c).before 5 t d = held m c t := by
  rw [(dats m 0 c).before_out_traj 5 rfl (fun _ _ => rfl) (fun t ht _ hf => ?_) t.val t rfl d, fresh5 t, if_neg (by simpa using h), after5]
  · unfold held; rw [fst_pred t _ h rfl]
  · have h' : t.val % 3 ≠ 0 := by rw [fresh5 t] at hf; simpa using hf
    rw [after5, after5]; unfold held; rw [fst_pred t ⟨t.val - 1, _⟩ h' rfl]

theorem flush5 (t : Fin cfg0.N) : (cfg0.win 5).flush t = decide (t.val % 3 = 2) := by
  by_cases h : t.val % 3 = 2
  · rw [(flush0_5 t).2 h]; simp [h]
  · have := (flush0_5 t).not.2 h
    simp [h, this]

theorem Phi_any (c : Dev nD) (n : ℕ) (hn : n ≤ cfg0.N) (h : n % 3 = 0) : Phi m c n hn = Pipeline.ΦA spec0 c := dif_pos h

theorem Phi_rows (c : Dev nD) (n : ℕ) (hn : n ≤ cfg0.N) (h : n % 3 ≠ 0) :
    Phi m c n hn = iprop(owns (c : Thread nD τ) (Memref.whole cc0_scratch0) fullShare (rows m c ⟨n - 1, by omega⟩) ∗ ∃ r, prngReg c r) := dif_neg h

theorem any_owns (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]

/-- Inside a row block or at its end, the rows in scratch are an invariant of the next point. -/
theorem Phi_of (c : Dev nD) (t : Fin cfg0.N) :
    iprop(owns (c : Thread nD τ) (Memref.whole cc0_scratch0) fullShare (rows m c t) ∗ ∃ r, prngReg c r) ⊢ Phi m c (t.val + 1) t.isLt := by
  by_cases h : (t.val + 1) % 3 = 0
  · rw [Phi_any m c _ _ h, any_owns]
    iintro ⟨H, Hr⟩
    isplitl [H]; · iexists _; iexact H
    iexact Hr
  · rw [Phi_rows m c _ _ h]
    exact .rfl

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns, the second output's buffer at `Q`. -/
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ Q)

/-- The body at a row block's first point. -/
theorem sound_first (c : Dev nD) (t : Fin cfg0.N) (h : t.val % 3 = 0) :
    bodyPre m c t ⊢ wp frame (wpE (defs₀ (F := F)) Variants.none c none) Set.univ (bodyAt0 t)
      (fun _ => bodyPost m c t (owns (c : Thread nD τ) (st0_5 t) fullShare ((dats m 0 c).after 5 t))) := by
  unfold bodyPre bodyPost bodyAt0
  simp only [before0, before1, before2, before3, after0, after1, after2, after3, after4, after5]
  rw [show (dats m 0 c).owesAt () t.succ = (dats m 0 c).owesAt () t.castSucc from rfl,
    show (dats m 0 c).Φ t.castSucc = Phi m c t.val t.isLt.le from rfl, show (dats m 0 c).Φ t.succ = Phi m c (t.val + 1) t.isLt from rfl,
    Phi_any m c _ _ h, any_owns]
  iintro ⟨⟨HS, Hr⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ _ _ _ _ _ _ (iblk m c 0 t) (iblk m c 1 t) (iblk m c 2 t) (iblk m c 3 t) ((cond_iff t).2 h) _)
  isplitl [H0 H1 H2 H3]
  · unfold Reads
    isplitl [H0]; · iapply rep_of_owns; iexact H0
    isplitl [H1]; · iapply rep_of_owns; iexact H1
    isplitl [H2]; · iapply rep_of_owns; iexact H2
    iapply rep_of_owns; iexact H3
  isplitl [H4]; · iexists _; iexact H4
  isplitl [H5]; · iexists _; iexact H5
  isplitl [HS]; · iexact HS
  unfold Reads
  iintro ⟨⟨H0, H1, H2, H3⟩, H4, H5, HS⟩
  isplitl [HS Hr]
  · iapply (Phi_of m c t)
    isplitl [HS]
    · unfold rows; rw [fst_of_zero t h]; iexact HS
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]
  · unfold rows; rw [fst_of_zero t h]; iexact H4
  unfold held; rw [fst_of_zero t h]; iexact H5

/-- The body at its other points. -/
theorem sound_next (c : Dev nD) (t : Fin cfg0.N) (h : t.val % 3 ≠ 0) (Q : sProp 𝕄)
    (hQ : owns (c : Thread nD τ) (st0_5 t) fullShare (held m c t) ⊢ Q) :
    bodyPre m c t ⊢ wp frame (wpE (defs₀ (F := F)) Variants.none c none) Set.univ (bodyAt0 t) (fun _ => bodyPost m c t Q) := by
  have hr : rows m c ⟨t.val - 1, by omega⟩ = rows m c t := by unfold rows; rw [fst_pred t ⟨t.val - 1, _⟩ h rfl]
  unfold bodyPre bodyPost bodyAt0
  simp only [before0, before1, before2, before3, before5 m c t h, after0, after1, after2, after3, after4]
  rw [show (dats m 0 c).owesAt () t.succ = (dats m 0 c).owesAt () t.castSucc from rfl,
    show (dats m 0 c).Φ t.castSucc = Phi m c t.val t.isLt.le from rfl, show (dats m 0 c).Φ t.succ = Phi m c (t.val + 1) t.isLt from rfl,
    Phi_rows m c _ _ h, hr]
  iintro ⟨⟨HS, Hr⟩, Ho, ⟨%d0, H0⟩, ⟨%d1, H1⟩, ⟨%d2, H2⟩, ⟨%d3, H3⟩, ⟨%d4, H4⟩, ⟨%d5, H5⟩⟩
  iapply (run_next c (grid0.coords t) _ _ _ _ _ _ _ _ _ _ _ _ _ _ (iblk m c 0 t) (iblk m c 1 t) (iblk m c 2 t) (iblk m c 3 t) (rows m c t) ((cond_iff t).not.2 h) _)
  isplitl [H0 H1 H2 H3]
  · unfold Reads
    isplitl [H0]; · iapply rep_of_owns; iexact H0
    isplitl [H1]; · iapply rep_of_owns; iexact H1
    isplitl [H2]; · iapply rep_of_owns; iexact H2
    iapply rep_of_owns; iexact H3
  isplitl [H4]; · iexists _; iexact H4
  isplitl [HS]; · iapply rep_of_owns; iexact HS
  unfold Reads
  iintro ⟨⟨H0, H1, H2, H3⟩, H4, HS⟩
  isplitl [HS Hr]
  · iapply (Phi_of m c t)
    isplitl [HS]; · iapply owns_of_rep; iexact HS
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iexact H4
  iapply hQ; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  rewrite [idle5 t, flush5 t]
  by_cases h : t.val % 3 = 0
  · rewrite [decide_eq_false (not_not.2 h)]
    exact triple_restated (sound_first m c t h) rfl .rfl fun _ => .rfl
  · rewrite [decide_eq_true h]
    by_cases h2 : t.val % 3 = 2
    · rewrite [decide_eq_true h2]
      exact triple_restated (sound_next m c t h _ (by rw [after5])) rfl .rfl fun _ => .rfl
    · rewrite [decide_eq_false h2]
      exact triple_restated (sound_next m c t h iprop(∃ d, owns (c : Thread nD τ) (st0_5 t) fullShare ((dats m 0 c).before 5 t d))
        (by simp only [before5 m c t h]; iintro H; iexists (held m c t); iexact H)) rfl .rfl fun _ => .rfl

set_option backward.isDefEq.respectTransparency.types false in
/-- The launch: the arrays at the library's `arrAt`, every other buffer as the region found it, and every semaphore counter zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from Phi_any m c 0 (Nat.zero_le _) rfl])
    (hout := fun c => by rw [show (dats m 0 c).Φ (Fin.last cfg0.N) = Pipeline.ΦA spec0 c from Phi_any m c cfg0.N le_rfl (by rw [show cfg0.N = 48 from N_0])])

/-- The frame: every argument array ends as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.FrontIdeal.Body

end
-- ==== Proof.V.FrontFrame.lean ====
module

public import proofs.«01_k».proof.Defs
public import proofs.«01_k».proof.Proof.V.FrontBody
public import proofs.«01_k».proof.Proof.Gen.Front

/-! The input projection's frames. -/

@[expose] public section

set_option maxRecDepth 16384

noncomputable section

namespace Cert.FrontIdeal.Body

open Idealize.ShloMosaic Idealize.ShloMosaic.TcCoe Idealize.SL Idealize.SL.Sem

/-- The frame's statement of the idealized program, its floats the machine's. -/
def FrameOf : Prop :=
  ∀ (m : (ℓ : Loc Cert.FrontIdeal.nD Cert.FrontIdeal.τ Cert.FrontIdeal.sig) → Buf (Elt Bits) ℓ) (ρ : Dev Cert.FrontIdeal.nD → PrngReg),
    θ_run (Cert.FrontIdeal.defs (F := Bits)) (onTc (τ := Cert.FrontIdeal.τ) (Cert.FrontIdeal.main (F := Bits))) ⟨m, fun _ => 0, ρ⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

/-- The frame's statement of the program. -/
def FrameBits : Prop :=
  ∀ (m : (ℓ : Loc Cert.Front.nD Cert.Front.τ Cert.Front.sig) → Buf (Elt Bits) ℓ) (ρ : Dev Cert.Front.nD → PrngReg),
    θ_run (Cert.Front.defs (F := Bits)) (onTc (τ := Cert.Front.τ) (Cert.Front.main (F := Bits))) ⟨m, fun _ => 0, ρ⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

/-- The two programs are one text, so the two statements are one proposition. -/
theorem frameOf_eq : FrameOf = FrameBits := by sl_kernel_rfl

theorem frameBits : FrameBits := frameOf_eq.mp fun m ρ => frame m ρ

/-- The program's frame. -/
theorem quiescent_bits : Cert.quiescent_Front := fun m ρ _ => frameBits m ρ

/-- The idealized program's frame. -/
theorem quiescent_ideal : Cert.quiescent_FrontIdeal := fun m ρ _ => frame m ρ

end Cert.FrontIdeal.Body

end
-- ==== Proof.V.FrontRef.lean ====
/- The input projection of the prompt: what the reference computes, and where its columns come from. -/
module

public import proofs.«01_k».proof.Proof.Gen.FrontRefIdeal.Run
public import proofs.«01_k».proof.Defs
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem

namespace Cert.FrontRefIdeal.Stage
open Cert.FrontRefIdeal Cert.FrontRefIdeal.Gen

/-- The rows after their RMS normalization, scaled by the gain. -/
def normed (X : FVec Ideal S8x2048x1024 .f32) (G : FVec Ideal S1x1024 .f32) : FVec Ideal S8x2048x1024 .f32 :=
  mulf (mulf X (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf X X) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast _ G shapeCasts_S1x1024_S1024)))

/-- The projected rows. -/
def proj (N : FVec Ideal S8x2048x1024 .f32) (W : FVec Ideal S1x1024x10784 .f32) : FVec Ideal S8x2048x10784 .f32 :=
  Host.dotGeneral (φ₁ := .f32) (φ₂ := .f32) dot_S8x2048x1024_S1024x10784_S8x2048x10784_2_0_01_1_n_n none N
    (shapeCast S1024x10784 W shapeCasts_S1x1024x10784_S1024x10784)

/-- The columns of all branches but the steps', branch after branch. -/
def cols (P : FVec Ideal S8x2048x10784 .f32) : FVec Ideal S8x2048x10752 .f32 :=
  concatenate S8x2048x10752 2 [⟨S8x2048x3072, (extractStridedSlice S8x2048x3072 ![0, 0, 0] P slices_S8x2048x10784_S8x2048x3072_0_0_0 : (⟨S8x2048x3072, .f32⟩ : BufTy).Contents (Elt Ideal))⟩, ⟨S8x2048x3072, (extractStridedSlice S8x2048x3072 ![0, 0, 5120] P slices_S8x2048x10784_S8x2048x3072_0_0_5120 : (⟨S8x2048x3072, .f32⟩ : BufTy).Contents (Elt Ideal))⟩, ⟨S8x2048x2048, (extractStridedSlice S8x2048x2048 ![0, 0, 3072] P slices_S8x2048x10784_S8x2048x2048_0_0_3072 : (⟨S8x2048x2048, .f32⟩ : BufTy).Contents (Elt Ideal))⟩, ⟨S8x2048x1024, (extractStridedSlice S8x2048x1024 ![0, 0, 8224] P slices_S8x2048x10784_S8x2048x1024_0_0_8224 : (⟨S8x2048x1024, .f32⟩ : BufTy).Contents (Elt Ideal))⟩, ⟨S8x2048x1024, (extractStridedSlice S8x2048x1024 ![0, 0, 9760] P slices_S8x2048x10784_S8x2048x1024_0_0_9760 : (⟨S8x2048x1024, .f32⟩ : BufTy).Contents (Elt Ideal))⟩, ⟨S8x2048x256, (extractStridedSlice S8x2048x256 ![0, 0, 9248] P slices_S8x2048x10784_S8x2048x256_0_0_9248 : (⟨S8x2048x256, .f32⟩ : BufTy).Contents (Elt Ideal))⟩, ⟨S8x2048x256, (extractStridedSlice S8x2048x256 ![0, 0, 9504] P slices_S8x2048x10784_S8x2048x256_0_0_9504 : (⟨S8x2048x256, .f32⟩ : BufTy).Contents (Elt Ideal))⟩]
    concatenates_S8x2048x3072_S8x2048x3072_S8x2048x2048_S8x2048x1024_S8x2048x1024_S8x2048x256_S8x2048x256_S8x2048x10752_d2

/-- The first result. -/
def outP (P : FVec Ideal S8x2048x10784 .f32) : FVec Ideal S16384x10752 .bf16 :=
  truncf .bf16 (shapeCast _ (cols P) shapeCasts_S8x2048x10752_S16384x10752) bitsLt_bf16_f32

/-- The second result: the steps' columns, padded with zeros to a lane tile. -/
def outD (P : FVec Ideal S8x2048x10784 .f32) : FVec Ideal S16384x128 .f32 :=
  shapeCast _ (pad S8x2048x128 ![0, 0, 0] ![0, 0, 96] ![0, 0, 0] (extractStridedSlice S8x2048x32 ![0, 0, 8192] P slices_S8x2048x10784_S8x2048x32_0_0_8192)
    (sitofp .f32 (constantI S_ 32 0#32)) pads_S8x2048x32_S8x2048x128_000_000_0960 h_S_) shapeCasts_S8x2048x128_S16384x128

/-- What the reference computes: its two results, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = outP (proj (normed (m ((c.tc : Thread nD τ).loc main_arg0)) (m ((c.tc : Thread nD τ).loc main_arg1))) (m ((c.tc : Thread nD τ).loc main_arg2)))
      ∧ r.2.mem ((c.tc : Thread nD τ).loc main_v28) = outD (proj (normed (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- The reference terminates, its arguments unchanged and every counter at zero. -/
theorem frame : Cert.quiescent_FrontRefIdeal := fun m ρ _ =>
  (θ_run (defs (F := Ideal)) _ _).mono (fun r h => And.intro (fun c => (h c).2.2) (sem_eq_zero_of_no_sems (by decide) r.2))
    (run_staged m ρ)

/-- The projection's column that stands at column `C` of the first result. -/
def src (C : ℕ) : ℕ :=
  if C < 3072 then C else if C < 6144 then C + 2048 else if C < 8192 then C - 3072 else if C < 9216 then C + 32
  else if C < 10240 then C + 544 else C - 992

theorem src_lt (C : Fin 10752) : src C.val < 10784 := by
  unfold src; split_ifs <;> omega

theorem cols_at (P : FVec Ideal S8x2048x10784 .f32) (b : Fin 8) (r : Fin 2048) (C : Fin 10752) :
    cols P (ix3 b r C) = P (ix3 b r ⟨src C.val, src_lt C⟩) := by
  pointwise [cols]
  split_ifs
  all_goals refine congrArg (fun q => P (ix3 b r q)) (Fin.ext ?_)
  all_goals simp only [src]
  all_goals first
    | exact absurd rfl (by assumption)
    | ((repeat' split) <;> omega)

theorem outP_at (P : FVec Ideal S8x2048x10784 .f32) (R : Fin 16384) (C : Fin 10752) :
    outP P (ix2 R C) = P (ix3 ⟨R.val / 2048, by omega⟩ ⟨R.val % 2048, by omega⟩ ⟨src C.val, src_lt C⟩) := by
  have q := cols_at P
  unfold outP
  generalize cols P = K at q ⊢
  pointwise []
  exact q _ _ _

set_option maxHeartbeats 2000000 in
theorem outD_at (P : FVec Ideal S8x2048x10784 .f32) (R : Fin 16384) (C : Fin 128) :
    outD P (ix2 R C) = if h : C.val < 32 then P (ix3 ⟨R.val / 2048, by omega⟩ ⟨R.val % 2048, by omega⟩ ⟨8192 + C.val, by omega⟩) else (0 : EReal) := by
  pointwise [outD]
  have h0 : (FloatOps.sitofp .f32 (0#32 : BitVec 32) : Ideal .f32) = (0 : EReal) := by
    show (((0#32 : BitVec 32).toInt : ℝ) : EReal) = 0
    simp
  by_cases hx : C.val < 32
  · rw [dif_pos ⟨by omega, by omega, hx⟩, dif_pos hx]
  · rw [dif_neg fun h => hx h.2.2, dif_neg hx]
    exact h0

end Cert.FrontRefIdeal.Stage

end
-- ==== Proof.V.Front.lean ====
/- The input projection of the prompt: each point's blocks, and the claim. -/
module

public import proofs.«01_k».proof.Proof.V.FrontRef
public import proofs.«01_k».proof.Proof.V.FrontBody
public import proofs.«01_k».proof.Defs
public import Idealize.ShloMosaic.Lib.Pipeline.ValueKit
public import Idealize.ShloMosaic.Lib.Pointwise
public import Idealize.ShloMosaic.Lib.StableHlo.ReadAt

@[expose] public section
set_option maxRecDepth 16384
noncomputable section

open Idealize.ShloMosaic Idealize.ShloMosaic.TcCoe Idealize.SL.Sem
open Idealize.ShloMosaic.Pipeline (Dat)

namespace Cert.FrontIdeal.Value
open Cert.FrontIdeal Cert.FrontIdeal.Gen Cert.FrontIdeal.Body
open Cert.FrontRefIdeal.Stage (normed proj cols outP outD src src_lt outP_at outD_at)

variable (m : (ℓ : Loc nD τ sig) → Buf (Elt Ideal) ℓ)

theorem idx : ∀ t : Fin cfg0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0] :=
  (by decide +kernel : ∀ t : Fin grid0.N, _)

/-- The rows a point's block holds. -/
theorem read0 (c : Dev nD) (t : Fin cfg0.N) (i : Fin 1024) (x : Fin 1024) (b : Fin 8) (r : Fin 2048) (y : Fin 1024)
    (hr : b.val * 2048 + r.val = t.val / 3 * 1024 + i.val) (hy : y.val = x.val) :
    iblk m c 0 t (ix2 i x) = m ((c.tc : Thread nD τ).loc main_arg0) (ix3 b r y) := by
  blk_simp [iblk, V]
  after_reads_at
  blk_point [idx t]

/-- The gain. -/
theorem read1 (c : Dev nD) (t : Fin cfg0.N) (i : Fin 1) (x : Fin 1024) (r : Fin 1) (y : Fin 1024) (hy : y.val = x.val) :
    iblk m c 1 t (ix2 i x) = m ((c.tc : Thread nD τ).loc main_arg1) (ix2 r y) := by
  blk_simp [iblk, V]
  after_reads_at
  blk_point [idx t]

set_option maxHeartbeats 4000000 in
/-- The weight's columns a point's block holds. -/
theorem read2 (c : Dev nD) (t : Fin cfg0.N) (i : Fin 1024) (x : Fin 3584) (z : Fin 1) (r : Fin 1024) (C : Fin 10752)
    (hr : r.val = i.val) (hC : C.val = t.val % 3 * 3584 + x.val) :
    iblk m c 2 t (ix2 i x) = m ((c.tc : Thread nD τ).loc main_arg2) (ix3 z r ⟨src C.val, src_lt C⟩) := by
  blk_simp [iblk, V]
  after_reads_at
  have he : ((View.whole main_v9).slice (win0_2.rect t)).emb (ix2 i x) = ix2 r C := by blk_ext [idx t]
  simp only [he]
  have hv : ((ix2 r C : S1024x10752.Idx) 1).val = C.val := rfl
  obtain rfl : z = 0 := Subsingleton.elim _ _
  split_ifs
  all_goals after_reads_at
  all_goals first
    | exact absurd rfl (by assumption)
    | refine congrArg (fun q => m ((c.tc : Thread nD τ).loc main_arg2) (ix3 0 r q)) (Fin.ext ?_)
  all_goals simp only [src]
  all_goals (repeat' split) <;> omega

/-- The steps' columns of the weight, padded with zeros. -/
theorem read3 (c : Dev nD) (t : Fin cfg0.N) (i : Fin 1024) (x : Fin 128) :
    iblk m c 3 t (ix2 i x) = if h : x.val < 32 then m ((c.tc : Thread nD τ).loc main_arg2) (ix3 0 i ⟨8192 + x.val, by omega⟩) else (0 : EReal) := by
  blk_simp [iblk, V]
  after_reads_at
  have he : ((View.whole main_v12).slice (win0_3.rect t)).emb (ix2 i x) = ix2 i x := by blk_ext [idx t]
  simp only [he]
  have hv : ((ix2 i x : S1024x128.Idx) 1).val = x.val := rfl
  by_cases hx : x.val < 32
  · rw [dif_pos (hv ▸ hx), dif_pos hx]
    rfl
  · rw [dif_neg (hv ▸ hx), dif_neg hx]
    show (((0#32 : BitVec 32).toInt : ℝ) : EReal) = 0
    simp

/-- A row block's normalized rows are the reference's. -/
theorem rows_at (c : Dev nD) (t : Fin cfg0.N) (i : Fin 1024) (x : Fin 1024) (b : Fin 8) (r : Fin 2048)
    (hr : b.val * 2048 + r.val = t.val / 3 * 1024 + i.val) :
    k0_pay1 (F := Ideal) (iblk m c 0 (fst t)) (iblk m c 1 (fst t)) (ix2 i x)
      = normed (m ((c.tc : Thread nD τ).loc main_arg0)) (m ((c.tc : Thread nD τ).loc main_arg1)) (ix3 b r x) := by
  have p0 := read0 m c (fst t)
  have p1 := read1 m c (fst t)
  have hf : (fst t).val / 3 = t.val / 3 := by show t.val / 3 * 3 / 3 = t.val / 3; omega
  rw [hf] at p0
  generalize iblk m c 0 (fst t) = B0 at p0 ⊢
  generalize iblk m c 1 (fst t) = B1 at p1 ⊢
  generalize m ((c.tc : Thread nD τ).loc main_arg0) = A0 at p0 ⊢
  generalize m ((c.tc : Thread nD τ).loc main_arg1) = A1 at p1 ⊢
  pointwise [k0_pay1, normed]
  reads_congr
  all_goals first
    | refine p0 _ _ _ _ _ ?_ ?_ | refine p1 _ _ _ _ ?_
  all_goals first | rfl | assumption | ((try simp only [Fin.val_mk]); omega)

/-- A point's block of the first result. -/
theorem point4 (c : Dev nD) (t : Fin cfg0.N) (y : ((cfg0.win 4).block).Idx) :
    k0_pay4 (F := Ideal) (rows m c t) (iblk m c 2 t) y
      = outP (proj (normed (m ((c.tc : Thread nD τ).loc main_arg0)) (m ((c.tc : Thread nD τ).loc main_arg1))) (m ((c.tc : Thread nD τ).loc main_arg2)))
          (((cfg0.win 4).blk t).view.emb y) := by
  have p0 := rows_at m c t
  have p2 := read2 m c t
  unfold rows
  have ht : t.val < 48 := t.isLt.trans_eq N_0
  obtain ⟨R, C, e, hR, hC⟩ : ∃ (R : Fin 16384) (C : Fin 10752), ((cfg0.win 4).blk t).view.emb y = ix2 R C
      ∧ R.val = t.val / 3 * 1024 + (y 0).val ∧ C.val = t.val % 3 * 3584 + (y 1).val := by
    idx_vars y
    exact ⟨⟨t.val / 3 * 1024 + y0.val, by omega⟩, ⟨t.val % 3 * 3584 + y1.val, by omega⟩, by blk_ext [idx t], rfl, rfl⟩
  rw [e, outP_at]
  generalize iblk m c 0 (fst t) = B0 at p0 ⊢
  generalize iblk m c 1 (fst t) = B1 at p0 ⊢
  generalize normed (m ((c.tc : Thread nD τ).loc main_arg0)) (m ((c.tc : Thread nD τ).loc main_arg1)) = N at p0 ⊢
  generalize iblk m c 2 t = B2 at p2 ⊢
  generalize m ((c.tc : Thread nD τ).loc main_arg2) = A2 at p2 ⊢
  idx_vars y
  pointwise [k0_pay2, k0_pay4, proj]
  reads_congr
  all_goals first
    | refine p0 _ _ _ _ ?_ | refine p2 _ _ _ _ _ ?_ ?_
  all_goals first | rfl | assumption | ((try simp only [Fin.val_mk]); omega)

/-- A row block's block of the second result. -/
theorem point5 (c : Dev nD) (t : Fin cfg0.N) (y : ((cfg0.win 5).block).Idx) :
    held m c t y
      = outD (proj (normed (m ((c.tc : Thread nD τ).loc main_arg0)) (m ((c.tc : Thread nD τ).loc main_arg1))) (m ((c.tc : Thread nD τ).loc main_arg2)))
          (((cfg0.win 5).blk t).view.emb y) := by
  have p0 := rows_at m c t
  have p3 := read3 m c (fst t)
  unfold held
  have ht : t.val < 48 := t.isLt.trans_eq N_0
  obtain ⟨R, C, e, hR, hC⟩ : ∃ (R : Fin 16384) (C : Fin 128), ((cfg0.win 5).blk t).view.emb y = ix2 R C
      ∧ R.val = t.val / 3 * 1024 + (y 0).val ∧ C.val = (y 1).val := by
    idx_vars y
    exact ⟨⟨t.val / 3 * 1024 + y0.val, by omega⟩, y1, by blk_ext [idx t], rfl, rfl⟩
  rw [e, outD_at]
  generalize iblk m c 0 (fst t) = B0 at p0 ⊢
  generalize iblk m c 1 (fst t) = B1 at p0 ⊢
  generalize normed (m ((c.tc : Thread nD τ).loc main_arg0)) (m ((c.tc : Thread nD τ).loc main_arg1)) = N at p0 ⊢
  generalize iblk m c 3 (fst t) = B3 at p3 ⊢
  generalize m ((c.tc : Thread nD τ).loc main_arg2) = A2 at p3 ⊢
  idx_vars y
  pointwise [k0_pay3, proj]
  by_cases hx : C.val < 32
  · rw [dif_pos hx]
    refine Finset.sum_congr rfl fun x _ => ?_
    rw [p3, dif_pos (hC ▸ hx), p0 y0 x ⟨R.val / 2048, by omega⟩ ⟨R.val % 2048, by omega⟩ (by simp only [Fin.val_mk]; omega)]
    exact congrArg (fun q => N _ * A2 (ix3 0 x q)) (Fin.ext (by simp only [Fin.val_mk]; omega))
  · rw [dif_neg hx]
    refine Finset.sum_eq_zero fun x _ => ?_
    rw [p3, dif_neg (hC ▸ hx)]
    exact mul_zero _

/-- The first result. -/
theorem final4 (c : Dev nD) : (dats m 0 c).arrAt 4 cfg0.N
    = outP (proj (normed (m ((c.tc : Thread nD τ).loc main_arg0)) (m ((c.tc : Thread nD τ).loc main_arg1))) (m ((c.tc : Thread nD τ).loc main_arg2))) := by
  refine (dats m 0 c).arrAt_eq_of_covers 4 _ (by decide +kernel) fun t hf y => ?_
  blk_simp
  rw [after4]
  exact point4 m c t y

/-- The second result. -/
theorem final5 (c : Dev nD) : (dats m 0 c).arrAt 5 cfg0.N
    = outD (proj (normed (m ((c.tc : Thread nD τ).loc main_arg0)) (m ((c.tc : Thread nD τ).loc main_arg1))) (m ((c.tc : Thread nD τ).loc main_arg2))) := by
  refine (dats m 0 c).arrAt_eq_of_covers 5 _ (by decide +kernel) fun t hf y => ?_
  blk_simp
  rw [after5]
  exact point5 m c t y

theorem algebraic : Cert.algebraic_FrontIdeal_FrontRefIdeal := by
  intro m g m' g' _ h
  refine ⟨fun c => (dats m 0 c).arrAt 4 cfg0.N, fun c => (dats m 0 c).arrAt 5 cfg0.N,
    (θ_run _ _ _).mono (fun r h c => ⟨(h.1.1 c).1 4, (h.1.1 c).1 5, h.2.1 c⟩) (θ_run_and (run_main m g) (frame m g)), ?_⟩
  refine (θ_run _ _ _).mono (fun r hr c => ?_) (Cert.FrontRefIdeal.Stage.run_staged m' g')
  obtain ⟨a0, a1, a2⟩ := h c
  obtain ⟨r0, r1, k⟩ := hr c
  rw [a0, a1, a2] at r0 r1
  exact ⟨r0.trans (final4 m c).symm, r1.trans (final5 m c).symm, k⟩

end Cert.FrontIdeal.Value

end
-- ==== Proof.V.MoeRef.lean ====
/- The dense experts as the reference computes them: its operations by stages, and each result entry as a sum over the experts. -/
module

public import proofs.«01_k».proof.Defs
public import proofs.«01_k».proof.Proof.Gen.MoeRefIdeal.Run
public import proofs.«01_k».proof.Proof.Gen.Pre_finite_experts
public import proofs.«01_k».proof.MoeRefIdeal
public import Idealize.ShloMosaic.Lib.Pointwise

@[expose] public section
set_option maxRecDepth 16384
noncomputable section

open Idealize.ShloMosaic Idealize.ShloMosaic.TcCoe Idealize.SL.Sem

namespace Cert.MoeRefIdeal.Stage
open Cert.MoeRefIdeal Cert.MoeRefIdeal.Gen

/-- Every expert's projection of every row. -/
def proj (W : FVec Ideal S32x1024x256 .bf16) (H : FVec Ideal S128x1024 .bf16) : FVec Ideal S32x128x256 .f32 :=
  transpose S32x128x256 [0, 2, 1] (Host.dotGeneral (φ₁ := .bf16) (φ₂ := .bf16) dot_S32x1024x256_S128x1024_S32x256x128_1_1_02_0_n_n none W H
    : FVec Ideal S32x256x128 .f32) transposes_S32x256x128_S32x128x256_0_2_1

/-- A projection times its logistic. -/
def silu (g : FVec Ideal S32x128x256 .f32) : FVec Ideal S32x128x256 .f32 :=
  mulf g (Host.divf (broadcastInDim S32x128x256 ![] bcast_S_S32x128x256 (constant S_ .f32 0x3F800000#32))
    (addf (broadcastInDim S32x128x256 ![] bcast_S_S32x128x256 (constant S_ .f32 0x3F800000#32)) (Host.exp (Host.negf g))))

/-- Every expert's rows. -/
def experts (g u : FVec Ideal S32x128x256 .f32) (D : FVec Ideal S32x256x1024 .bf16) : FVec Ideal S32x128x1024 .f32 :=
  Host.dotGeneral (φ₁ := .bf16) (φ₂ := .bf16) dot_S32x128x256_S32x256x1024_S32x128x1024_2_1_1_2_0_0 none
    (truncf .bf16 (mulf (silu g) u) bitsLt_bf16_f32) D

/-- The residual plus the experts' rows summed with the rows' weights. -/
def out (X : FVec Ideal S128x1024 .f32) (C : FVec Ideal S128x128 .f32) (y : FVec Ideal S32x128x1024 .f32) : FVec Ideal S128x1024 .f32 :=
  addf X (Host.dotGeneral (φ₁ := .f32) (φ₂ := .f32) dot_S128x32_S32x128x1024_S128x1024_1_0_n_2_0_1 none
    (extractStridedSlice S128x32 ![0, 4] C slices_S128x128_S128x32_0_4) y)

/-- The reference's result. -/
abbrev whole (X : FVec Ideal S128x1024 .f32) (H : FVec Ideal S128x1024 .bf16) (C : FVec Ideal S128x128 .f32)
    (G U : FVec Ideal S32x1024x256 .bf16) (D : FVec Ideal S32x256x1024 .bf16) : FVec Ideal S128x1024 .f32 :=
  out X C (experts (proj G H) (proj U H) D)

/-- What the reference computes: its result, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The reference terminates, its arguments unchanged and every counter at zero. -/
theorem frame : Cert.quiescent_MoeRefIdeal := fun m ρ _ =>
  (θ_run (defs (F := Ideal)) _ _).mono (fun r h => And.intro (fun c => (h c).2) (sem_eq_zero_of_no_sems (by decide) r.2))
    (run_staged m ρ)

theorem proj_apply (W : FVec Ideal S32x1024x256 .bf16) (H : FVec Ideal S128x1024 .bf16) (e : Fin 32) (t : Fin 128) (f : Fin 256) :
    proj W H (ix3 e t f) = ∑ k : Fin 1024, W (ix3 e k f) * H (ix2 t k) := by
  pointwise [proj]

theorem silu_apply (g : FVec Ideal S32x128x256 .f32) (e : Fin 32) (t : Fin 128) (f : Fin 256) :
    silu g (ix3 e t f) = g (ix3 e t f) * Ideal.div 1 (1 + Ideal.exp (-g (ix3 e t f))) := by
  have one : Ideal.ofBits .f32 0x3F800000#32 = 1 := by
    simp [Ideal.ofBits, Ideal.ieee]
    rw [← EReal.coe_mul]
    norm_num
  pointwise [silu, one]

theorem experts_apply (g u : FVec Ideal S32x128x256 .f32) (D : FVec Ideal S32x256x1024 .bf16) (e : Fin 32) (t : Fin 128) (d : Fin 1024) :
    experts g u D (ix3 e t d) = ∑ f : Fin 256, (silu g (ix3 e t f) * u (ix3 e t f)) * D (ix3 e f d) := by
  pointwise [experts]

theorem out_apply (X : FVec Ideal S128x1024 .f32) (C : FVec Ideal S128x128 .f32) (y : FVec Ideal S32x128x1024 .f32) (t : Fin 128) (d : Fin 1024) :
    out X C y (ix2 t d) = X (ix2 t d) + ∑ e : Fin 32, C (ix2 t (⟨4 + e.val, by omega⟩ : Fin 128)) * y (ix3 e t d) := by
  pointwise [out]

end Cert.MoeRefIdeal.Stage
-- ==== Proof.V.Moe.lean ====
/- The dense experts: the fold over the experts is the reference's weighted sum, and the claim. -/
module

public import proofs.«01_k».proof.Proof.Gen.MoeIdeal.Value
public import proofs.«01_k».proof.Proof.V.MoeRef
public import proofs.«01_k».proof.Proof.V.Gmoe

@[expose] public section
set_option maxRecDepth 16384
noncomputable section

open Idealize.ShloMosaic Idealize.ShloMosaic.TcCoe Idealize.SL.Sem
open Idealize.ShloMosaic.Pipeline (Dat)
open Cert.Reals

namespace Cert.MoeIdeal.Value
open Cert.MoeIdeal Cert.MoeIdeal.Gen
open Cert.MoeRefIdeal.Stage (proj silu experts out whole proj_apply silu_apply experts_apply out_apply)
open Cert.GmoeIdeal.Body (half_bits)

/-- The weight of expert `e` in a row: the sum of the row's lanes, all but the expert's replaced by zero. -/
def lane (C : FVec Ideal S128x128 .f32) (e : ℕ) (i : Fin 128) : EReal :=
  ∑ l : Fin 128, Scalar.select (IntOp.cmpi .eq (BitVec.ofNat 32 l.val) (Scalar.addi (BitVec.ofNat 32 e) 4#32)) (C (ix2 i l)) 0

/-- One expert's share of a row, as the kernel computes it. -/
def share (H : FVec Ideal S128x1024 .bf16) (C : FVec Ideal S128x128 .f32) (e : ℕ) (G U : FVec Ideal S1x1024x256 .bf16) (D : FVec Ideal S1x256x1024 .bf16)
    (i : Fin 128) (d : Fin 1024) : EReal :=
  ∑ f : Fin 256,
    (((1 / 2 : ℝ) : EReal) * (∑ k : Fin 1024, H (ix2 i k) * G (ix3 (0 : Fin 1) k f))
      + ((1 / 2 : ℝ) : EReal) * (∑ k : Fin 1024, H (ix2 i k) * G (ix3 (0 : Fin 1) k f))
        * Ideal.tanh (((1 / 2 : ℝ) : EReal) * (∑ k : Fin 1024, H (ix2 i k) * G (ix3 (0 : Fin 1) k f))))
      * (∑ k : Fin 1024, H (ix2 i k) * U (ix3 (0 : Fin 1) k f)) * lane C e i * D (ix3 (0 : Fin 1) f d)

theorem crd_val : ∀ t : Fin grid0.N, (grid0.coords t 1).val = t.val := by decide +kernel

theorem pay3_apply (t : Fin cfg0.N) (C : FVec Ideal S128x128 .f32) (H : FVec Ideal S128x1024 .bf16) (G U : FVec Ideal S1x1024x256 .bf16) (D : FVec Ideal S1x256x1024 .bf16)
    (i : Fin 128) (d : Fin 1024) : k0_pay3 (F := Ideal) (grid0.coords t) C H G U D (ix2 i d) = share H C t.val G U D i d := by
  have e := crd_val t
  unfold k0_pay3 share lane
  pointwise [half_bits, e]

theorem step_apply (A : FVec Ideal S128x1024 .f32) (B : FVec Ideal S128x1024 .f32) (i : Fin 128) (d : Fin 1024) :
    k0_pay1 (F := Ideal) (k0_pay2 A) B (ix2 i d) = A (ix2 i d) + B (ix2 i d) := by
  pointwise [k0_pay1, k0_pay2]

/-- The expert's own lane. -/
theorem lane_eq (C : FVec Ideal S128x128 .f32) (e : Fin 32) (i : Fin 128) :
    lane C e.val i = C (ix2 i (⟨4 + e.val, by omega⟩ : Fin 128)) := by
  unfold lane
  rw [Finset.sum_eq_single (⟨4 + e.val, by omega⟩ : Fin 128)]
  · have q : IntOp.cmpi .eq (BitVec.ofNat 32 (4 + e.val)) (Scalar.addi (BitVec.ofNat 32 e.val) 4#32) = 1#1 :=
      StableHlo.Predicate.cmpi_eq_iff.2 (by
        apply BitVec.eq_of_toNat_eq
        simp only [Scalar.addi, IntOp.addi, BitVec.toNat_ofNat, BitVec.toNat_add]
        omega)
    simp only [q]
    exact if_pos rfl
  · intro l _ hl
    have q : ¬ IntOp.cmpi .eq (BitVec.ofNat 32 l.val) (Scalar.addi (BitVec.ofNat 32 e.val) 4#32) = 1#1 := fun h => hl (by
      have h' := congrArg BitVec.toNat (StableHlo.Predicate.cmpi_eq_iff.1 h)
      simp only [Scalar.addi, IntOp.addi, BitVec.toNat_ofNat, BitVec.toNat_add] at h'
      have hl' := l.isLt
      have he' := e.isLt
      exact Fin.ext (show l.val = 4 + e.val by omega))
    exact if_neg q
  · intro h
    exact absurd (Finset.mem_univ _) h

/-- One expert's share of a row is the row's weight of the expert times the reference's row of it. -/
theorem share_eq (H : FVec Ideal S128x1024 .bf16) (C : FVec Ideal S128x128 .f32) (GG UU : FVec Ideal S32x1024x256 .bf16) (DD : FVec Ideal S32x256x1024 .bf16)
    (hH : ∀ i, IsReal (H i)) (hC : ∀ (r : Fin 128) (e : Fin 32), IsReal (C (ix2 r (⟨4 + e.val, by omega⟩ : Fin 128))))
    (hGG : ∀ i, IsReal (GG i)) (hUU : ∀ i, IsReal (UU i)) (hDD : ∀ i, IsReal (DD i))
    (H' : FVec Ideal S128x1024 .bf16) (C' : FVec Ideal S128x128 .f32) (G U : FVec Ideal S1x1024x256 .bf16) (D : FVec Ideal S1x256x1024 .bf16)
    (i : Fin 128) (d : Fin 1024) (e : Fin 32) (hh : ∀ k, H' (ix2 i k) = H (ix2 i k)) (hc : ∀ k, C' (ix2 i k) = C (ix2 i k))
    (hG : ∀ k f, G (ix3 (0 : Fin 1) k f) = GG (ix3 e k f))
    (hU : ∀ k f, U (ix3 (0 : Fin 1) k f) = UU (ix3 e k f)) (hD : ∀ f, D (ix3 (0 : Fin 1) f d) = DD (ix3 e f d)) :
    share H' C' e.val G U D i d = C (ix2 i (⟨4 + e.val, by omega⟩ : Fin 128)) * experts (proj GG H) (proj UU H) DD (ix3 e i d) := by
  have hp : ∀ (W : FVec Ideal S32x1024x256 .bf16) (f : Fin 256), proj W H (ix3 e i f)
      = ∑ k : Fin 1024, H (ix2 i k) * W (ix3 e k f) := fun W f => by
    rw [proj_apply]
    exact Finset.sum_congr rfl fun k _ => mul_comm _ _
  unfold share
  rw [lane_eq C' e i, hc, experts_apply]
  simp only [hh, hG, hU, hD, silu_apply, hp]
  have hg : ∀ f, IsReal (∑ k : Fin 1024, H (ix2 i k) * GG (ix3 e k f)) := fun f => IsReal.sum _ fun k => (hH _).mul (hGG _)
  have hu : ∀ f, IsReal (∑ k : Fin 1024, H (ix2 i k) * UU (ix3 e k f)) := fun f => IsReal.sum _ fun k => (hH _).mul (hUU _)
  rw [mul_sum_real _ (hC i e) _ fun f => ((real_silu (hg f)).mul (hu f)).mul (hDD _)]
  refine Finset.sum_congr rfl fun f _ => ?_
  rw [half_tanh (hg f)]
  ac_rfl

section
variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

/-- What each window's block holds, of the arrays at launch. -/
theorem read0 (t : Fin cfg0.N) (i : Fin 128) (k : Fin 1024) :
    iblk m c 0 t (ix2 i k) = m ((c.tc : Thread nD τ).loc main_arg0) (ix2 i k) := by
  blk_point [iblk, V, idx t]

theorem read1 (t : Fin cfg0.N) (i : Fin 128) (k : Fin 1024) :
    iblk m c 1 t (ix2 i k) = m ((c.tc : Thread nD τ).loc main_arg1) (ix2 i k) := by
  blk_point [iblk, V, idx t]

theorem read2 (t : Fin cfg0.N) (i : Fin 128) (k : Fin 128) :
    iblk m c 2 t (ix2 i k) = m ((c.tc : Thread nD τ).loc main_arg2) (ix2 i k) := by
  blk_point [iblk, V, idx t]

theorem read3 (t : Fin cfg0.N) (k : Fin 1024) (f : Fin 256) (e : Fin 32) (he : t.val = e.val) :
    iblk m c 3 t (ix3 (0 : Fin 1) k f) = m ((c.tc : Thread nD τ).loc main_arg3) (ix3 e k f) := by
  blk_point [iblk, V, idx t]

theorem read4 (t : Fin cfg0.N) (k : Fin 1024) (f : Fin 256) (e : Fin 32) (he : t.val = e.val) :
    iblk m c 4 t (ix3 (0 : Fin 1) k f) = m ((c.tc : Thread nD τ).loc main_arg4) (ix3 e k f) := by
  blk_point [iblk, V, idx t]

theorem read5 (t : Fin cfg0.N) (f : Fin 256) (d : Fin 1024) (e : Fin 32) (he : t.val = e.val) :
    iblk m c 5 t (ix3 (0 : Fin 1) f d) = m ((c.tc : Thread nD τ).loc main_arg5) (ix3 e f d) := by
  blk_point [iblk, V, idx t]

/-- The arrays the experts read hold reals. -/
structure Good : Prop where
  h : ∀ i, IsReal (m ((c.tc : Thread nD τ).loc main_arg1) i)
  w : ∀ (r : Fin 128) (e : Fin 32), IsReal (m ((c.tc : Thread nD τ).loc main_arg2) (ix2 r (⟨4 + e.val, by omega⟩ : Fin 128)))
  g : ∀ i, IsReal (m ((c.tc : Thread nD τ).loc main_arg3) i)
  u : ∀ i, IsReal (m ((c.tc : Thread nD τ).loc main_arg4) i)
  d : ∀ i, IsReal (m ((c.tc : Thread nD τ).loc main_arg5) i)

/-- What a point adds to its rows. -/
def addend (n : ℕ) (i : S128x1024.Idx) : EReal :=
  if h : n < cfg0.N then k0_pay3 (F := Ideal) (grid0.coords ⟨n, h⟩) (iblk m c 2 ⟨n, h⟩) (iblk m c 1 ⟨n, h⟩) (iblk m c 3 ⟨n, h⟩) (iblk m c 4 ⟨n, h⟩) (iblk m c 5 ⟨n, h⟩) i
  else 0

/-- An expert's share of a row of the result. -/
def part (H : FVec Ideal S128x1024 .bf16) (C : FVec Ideal S128x128 .f32) (G U : FVec Ideal S32x1024x256 .bf16) (D : FVec Ideal S32x256x1024 .bf16)
    (e : Fin 32) (i : Fin 128) (d : Fin 1024) : EReal :=
  C (ix2 i (⟨4 + e.val, by omega⟩ : Fin 128)) * experts (proj G H) (proj U H) D (ix3 e i d)

theorem addend_eq (hg : Good m c) (e : Fin 32) (i : Fin 128) (d : Fin 1024) :
    addend m c e.val (ix2 i d) = part (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) e i d := by
  have he : e.val < cfg0.N := e.isLt.trans_eq N_0.symm
  unfold addend
  rw [dif_pos he, pay3_apply]
  exact share_eq _ _ _ _ _ hg.h hg.w hg.g hg.u hg.d _ _ _ _ _ i d e (fun k => read1 m c ⟨e.val, he⟩ i k) (fun k => read2 m c ⟨e.val, he⟩ i k)
    (fun k f => read3 m c ⟨e.val, he⟩ k f e rfl) (fun k f => read4 m c ⟨e.val, he⟩ k f e rfl) (fun f => read5 m c ⟨e.val, he⟩ f d e rfl)

/-- The fold over the experts. -/
theorem fold_eq (hg : Good m c) (h : 0 + 31 < cfg0.N) (i : Fin 128) (d : Fin 1024) :
    Pipeline.accAt (reset6 m c) (step6 m c) 0 31 h (ix2 i d)
      = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix2 i d) := by
  have ix : ∀ y : S128x1024.Idx, y = ix2 (y 0) (y 1) := fun y => by
    refine funext fun x => ?_
    match x with
    | ⟨0, _⟩ => rfl
    | ⟨1, _⟩ => rfl
  refine (Pipeline.accAt_add_apply (reset6 m c) (step6 m c) (m ((c.tc : Thread nD τ).loc main_arg0) : S128x1024.Idx → EReal) (addend m c) 0 31
    (fun hn y => ?_) (fun n hn acc y _ _ => ?_) 31 le_rfl h (ix2 i d)).trans ?_
  · rw [ix y]
    refine (step_apply _ _ _ _).trans (congrArg₂ (· + ·) (read0 m c _ _ _) ?_)
    unfold addend
    rw [dif_pos hn]
    rfl
  · rw [ix y]
    refine (step_apply _ _ _ _).trans (congrArg (acc _ + ·) ?_)
    unfold addend
    rw [dif_pos hn]
    rfl
  · rw [whole, out_apply]
    refine congrArg₂ (fun a b : EReal => a + b) rfl ?_
    rw [Finset.sum_range]
    refine Finset.sum_congr rfl fun e _ => ?_
    rw [Nat.zero_add]
    exact addend_eq m c hg e i d

/-- The output array after the run. -/
theorem result (hg : Good m c) : G6 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine funext fun y => ?_
  have h0 : (y 0).val < 128 := (y 0).isLt
  have h1 : (y 1).val < 1024 := (y 1).isLt
  have hr : 32 * run6Of y = 0 := by
    show 32 * (1 * ((y 0).val / 128 - 0) + 1 * ((y 1).val / 1024 - 0)) = 0
    omega
  have hl : loc6Of y = ix2 (y 0) (y 1) := by
    refine funext fun x => Fin.ext ?_
    match x with
    | ⟨0, _⟩ => exact Nat.mod_eq_of_lt h0
    | ⟨1, _⟩ => exact Nat.mod_eq_of_lt h1
  have hy : y = ix2 (y 0) (y 1) := by
    refine funext fun x => ?_
    match x with
    | ⟨0, _⟩ => rfl
    | ⟨1, _⟩ => rfl
  have hN : 0 + 31 < cfg0.N := (by decide : 0 + 31 < 32).trans_eq N_0.symm
  have e : ∀ (b b' : ℕ) (h : b + 31 < cfg0.N) (h' : b' + 31 < cfg0.N), b = b' →
      Pipeline.accAt (reset6 m c) (step6 m c) b 31 h = Pipeline.accAt (reset6 m c) (step6 m c) b' 31 h' := by
    intro b b' h h' hb
    subst hb
    rfl
  unfold G6
  rw [dif_pos (by rw [hr]; exact hN), e _ 0 _ hN hr, hl]
  exact (fold_eq m c hg hN (y 0) (y 1)).trans (congrArg _ hy.symm)
end

/-- What the precondition says. -/
theorem good (m : (ℓ : Loc nD τ sig) → Buf (Elt Ideal) ℓ) (h : Cert.Pre_MoeIdeal_finite_experts m) (c : Dev nD) : Good m c := by
  obtain ⟨h0, h1, h2, h3, h4⟩ := h c
  refine ⟨fun i => ?_, fun r e => ?_, fun i => ?_, fun i => ?_, fun i => ?_⟩
  · exact real_of_cmp (fun i => pos_inf) h0 i
  · have := real_of_cmp (fun i => pos_inf) h1 (ix2 r e)
    pointwise [] at this
    exact this
  · exact real_of_cmp (fun i => pos_inf) h2 i
  · exact real_of_cmp (fun i => pos_inf) h3 i
  · exact real_of_cmp (fun i => pos_inf) h4 i

/-- From memories that hold the same finite arrays, kernel and reference end with the same result. -/
theorem algebraic : Cert.algebraic_MoeIdeal_MoeRefIdeal_pre_finite_experts := by
  intro m g m' g' hp h
  refine ⟨fun c => G6 m c, run m g, ?_⟩
  refine (θ_run _ _ _).mono (fun r hr c => ?_) (Cert.MoeRefIdeal.Stage.run_staged m' g')
  obtain ⟨a0, a1, a2, a3, a4, a5⟩ := h c
  obtain ⟨r0, k⟩ := hr c
  rw [a0, a1, a2, a3, a4, a5] at r0
  exact ⟨r0.trans (result m c (good m hp c)).symm, k⟩

end Cert.MoeIdeal.Value
-- ==== Proof.V.SssmRef.lean ====
/- The new recurrent state of one token per sample, as the reference computes it: its operations and each entry of the result. -/
module

public import proofs.«01_k».proof.Defs
public import proofs.«01_k».proof.Proof.Gen.SssmRefIdeal.Run
public import proofs.«01_k».proof.SssmRefIdeal
public import Idealize.ShloMosaic.Lib.Pointwise

@[expose] public section
set_option maxRecDepth 16384
noncomputable section

open Idealize.ShloMosaic Idealize.ShloMosaic.TcCoe Idealize.SL.Sem

namespace Cert.SssmRefIdeal.Stage
open Cert.SssmRefIdeal Cert.SssmRefIdeal.Gen

/-- A column per sample, spread over the state's lanes. -/
def spread (D : FVec Ideal S2048x128 .f32) : FVec Ideal S128x4x512x128 .f32 :=
  broadcastInDim S128x4x512x128 ![0, 1, 2, 3] bcast_S128x4x512x1_S128x4x512x128_0_1_2_3
    (shapeCast _ (transpose S128x2048 [1, 0] D transposes_S2048x128_S128x2048_1_0) shapeCasts_S128x2048_S128x4x512x1)

/-- Each sample's and group's input row, spread over the group's rows. -/
def inputs (B : FVec Ideal S128x1024 .f32) : FVec Ideal S128x4x512x128 .f32 :=
  broadcastInDim S128x4x512x128 ![0, 1, 2, 3] bcast_S128x4x1x128_S128x4x512x128_0_1_2_3
    (shapeCast _ (extractStridedSlice S128x512 ![0, 0] B slices_S128x1024_S128x512_0_0) shapeCasts_S128x512_S128x4x1x128)

/-- The reference's result: the state decayed, plus the inputs' outer product. -/
def whole (S : FVec Ideal S128x2048x128 .f32) (X D : FVec Ideal S2048x128 .f32) (B : FVec Ideal S128x1024 .f32) : FVec Ideal S128x2048x128 .f32 :=
  shapeCast _ (addf (mulf (shapeCast _ S shapeCasts_S128x2048x128_S128x4x512x128) (spread D)) (mulf (spread X) (inputs B)))
    shapeCasts_S128x4x512x128_S128x2048x128

/-- What the reference computes: its result, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = whole (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

/-- The reference terminates, its arguments unchanged and every counter at zero. -/
theorem frame : Cert.quiescent_SssmRefIdeal := fun m ρ _ =>
  (θ_run (defs (F := Ideal)) _ _).mono (fun r h => And.intro (fun c => (h c).2) (sem_eq_zero_of_no_sems (by decide) r.2))
    (run_staged m ρ)

/-- One entry of the result. -/
theorem whole_apply (S : FVec Ideal S128x2048x128 .f32) (X D : FVec Ideal S2048x128 .f32) (B : FVec Ideal S128x1024 .f32)
    (n : Fin 128) (r : Fin 2048) (l : Fin 128) :
    whole S X D B (ix3 n r l) = S (ix3 n r l) * D (ix2 r n) + X (ix2 r n) * B (ix2 n (⟨r.val / 512 * 128 + l.val, by omega⟩ : Fin 1024)) := by
  pointwise [whole, spread, inputs]

end Cert.SssmRefIdeal.Stage
-- ==== Proof.V.Sssm.lean ====
/- The new recurrent state of one token per sample: each stored block is the reference's, and the claim. -/
module

public import proofs.«01_k».proof.Proof.Gen.SssmIdeal.Value
public import proofs.«01_k».proof.Proof.V.SssmRef
public import proofs.«01_k».proof.Proof.V.Gmoe
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)

namespace Cert.SssmIdeal.Value
open Cert.SssmIdeal Cert.SssmIdeal.Gen
open Cert.SssmRefIdeal.Stage (whole whole_apply)

/-- A sum over lanes of which one alone is kept. -/
theorem lane_sum (f : Fin 128 → EReal) (b : BitVec 32) (n : Fin 128) (hb : b.toNat = n.val) :
    (∑ l : Fin 128, Scalar.select (IntOp.cmpi .eq (BitVec.ofNat 32 l.val) b) (f l) 0) = f n := by
  rw [Finset.sum_eq_single n]
  · have q : IntOp.cmpi .eq (BitVec.ofNat 32 n.val) b = 1#1 :=
      StableHlo.Predicate.cmpi_eq_iff.2 (by
        apply BitVec.eq_of_toNat_eq
        have hn := n.isLt
        simp only [BitVec.toNat_ofNat, hb]
        omega)
    simp only [q]
    exact if_pos rfl
  · intro l _ hl
    have q : ¬ IntOp.cmpi .eq (BitVec.ofNat 32 l.val) b = 1#1 := fun h => hl (by
      have h' := congrArg BitVec.toNat (StableHlo.Predicate.cmpi_eq_iff.1 h)
      simp only [BitVec.toNat_ofNat, hb] at h'
      have hl' := l.isLt
      have hn := n.isLt
      exact Fin.ext (show l.val = n.val by omega))
    exact if_neg q
  · intro h
    exact absurd (Finset.mem_univ _) h

/-- The entry of a point's block: the sample's state decayed, plus its input. -/
def cell (k : ℕ) (hk : k < 16) (x0 : FVec Ideal S8x2048x128 .f32) (x1 x2 : FVec Ideal S2048x128 .f32) (x3 : FVec Ideal S8x1024 .f32)
    (s : Fin 8) (r : Fin 2048) (l : Fin 128) : EReal :=
  x0 (ix3 s r l) * x2 (ix2 r (⟨k * 8 + s.val, by omega⟩ : Fin 128))
    + x1 (ix2 r (⟨k * 8 + s.val, by omega⟩ : Fin 128)) * x3 (ix2 s (⟨r.val / 512 * 128 + l.val, by omega⟩ : Fin 1024))

/-- An entry read at indices of the same values. -/
theorem cell_eq (k : ℕ) (hk : k < 16) (x0 : FVec Ideal S8x2048x128 .f32) (x1 x2 : FVec Ideal S2048x128 .f32) (x3 : FVec Ideal S8x1024 .f32)
    (s s' : Fin 8) (r r' : Fin 2048) (l l' : Fin 128) (n : Fin 128) (b : Fin 1024) (hs : s'.val = s.val) (hr : r'.val = r.val) (hl : l'.val = l.val)
    (hn : n.val = k * 8 + s.val) (hb : b.val = r.val / 512 * 128 + l.val) :
    x0 (ix3 s' r' l') * x2 (ix2 r' n) + x1 (ix2 r' n) * x3 (ix2 s' b) = cell k hk x0 x1 x2 x3 s r l := by
  obtain rfl := Fin.ext hs
  obtain rfl := Fin.ext hr
  obtain rfl := Fin.ext hl
  have en : n = (⟨k * 8 + s'.val, by have := s'.isLt; clear hn; omega⟩ : Fin 128) := Fin.ext hn
  have eb : b = (⟨r'.val / 512 * 128 + l'.val, by have := r'.isLt; have := l'.isLt; clear hb; omega⟩ : Fin 1024) := Fin.ext hb
  rw [en, eb]
  rfl

set_option maxHeartbeats 8000000 in
/-- Every piece a point stores is its part of the block, at the first point and at a later one: they differ in the other output alone. -/
theorem stored (c : Dev nD) (i : grid0.Coords) (arg1 : Memref sig .tc .vmem S8x2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S8x1024 .f32) (harg4 : arg4.IsWhole)
    (arg5 : Memref sig .tc .vmem S8x2048x128 .f32) (harg5 : arg5.IsWhole) (arg6 : Memref sig .tc .vmem S2048x128 .f32) (harg6 : arg6.IsWhole)
    (x0 : FVec Ideal S8x2048x128 .f32) (x1 x2 : FVec Ideal S2048x128 .f32) (x3 : FVec Ideal S8x1024 .f32) (xo : FVec Ideal S2048x128 .f32)
    (hi : (i 0).val < 16) (y : S8x2048x128.Idx) :
    (∀ h : cond0_0 i, out0_A_4 (F := Ideal) c i arg1 harg1 arg2 harg2 arg3 harg3 arg4 harg4 arg5 harg5 arg6 harg6 h x0 x1 x2 x3 y
      = cell (i 0).val hi x0 x1 x2 x3 (y 0) (y 1) (y 2))
    ∧ (∀ h : ¬cond0_0 i, out0_B_4 (F := Ideal) c i arg1 harg1 arg2 harg2 arg3 harg3 arg4 harg4 arg5 harg5 arg6 harg6 h x0 x1 x2 x3 xo y
      = cell (i 0).val hi x0 x1 x2 x3 (y 0) (y 1) (y 2)) := by
  refine ⟨fun h => ?_, fun h => ?_⟩
  all_goals
    frame_out
    canon_tiles x a
    all_goals
      open_payloads
      pointwise
      rw [lane_sum _ _ (⟨(i 0).val * 8 + (y 0).val, by omega⟩ : Fin 128), lane_sum _ _ (⟨(i 0).val * 8 + (y 0).val, by omega⟩ : Fin 128)]
      · refine cell_eq _ hi x0 x1 x2 x3 _ _ _ _ _ _ _ _ ?_ ?_ ?_ ?_ ?_
        all_goals first | rfl | omega | (simp only [Fin.val_mk]; omega) | (simp; omega)
      all_goals
        simp only [Scalar.addi, Scalar.muli, IntOp.addi, IntOp.muli, BitVec.toNat_ofNat, BitVec.toNat_add, BitVec.toNat_mul]
        omega

section
variable (m : (ℓ : Loc nD τ sig) → Buf (Elt Ideal) ℓ) (c : Dev nD)

theorem crd_val : ∀ t : Fin grid0.N, (grid0.coords t 0).val = t.val := by decide +kernel

theorem idx : ∀ t : Fin cfg0.N, win0_0.index t = ![t.val, 0, 0] ∧ win0_1.index t = ![0, 0] ∧ win0_2.index t = ![0, 0]
    ∧ win0_3.index t = ![t.val, 0] ∧ win0_4.index t = ![t.val, 0, 0] :=
  (by decide +kernel : ∀ t : Fin grid0.N, _)

/-- What each window's block holds, of the arrays at launch. -/
theorem read0 (t : Fin cfg0.N) (s : Fin 8) (r : Fin 2048) (l : Fin 128) (n : Fin 128) (hn : n.val = t.val * 8 + s.val) :
    iblk m c 0 t (ix3 s r l) = m ((c.tc : Thread nD τ).loc main_arg0) (ix3 n r l) := by
  blk_point [iblk, V, idx t]

theorem read1 (t : Fin cfg0.N) (r : Fin 2048) (n : Fin 128) :
    iblk m c 1 t (ix2 r n) = m ((c.tc : Thread nD τ).loc main_arg1) (ix2 r n) := by
  blk_point [iblk, V, idx t]

theorem read2 (t : Fin cfg0.N) (r : Fin 2048) (n : Fin 128) :
    iblk m c 2 t (ix2 r n) = m ((c.tc : Thread nD τ).loc main_arg2) (ix2 r n) := by
  blk_point [iblk, V, idx t]

theorem read3 (t : Fin cfg0.N) (s : Fin 8) (b : Fin 1024) (n : Fin 128) (hn : n.val = t.val * 8 + s.val) :
    iblk m c 3 t (ix2 s b) = m ((c.tc : Thread nD τ).loc main_arg3) (ix2 n b) := by
  blk_point [iblk, V, idx t]

/-- A point's block is the reference's rows at the block's place. -/
theorem point4 (t : Fin cfg0.N) (y : S8x2048x128.Idx) :
    (outsAt0 m c t.val t.isLt).1 y = whole (m ((c.tc : Thread nD τ).loc main_arg0)) (m ((c.tc : Thread nD τ).loc main_arg1))
      (m ((c.tc : Thread nD τ).loc main_arg2)) (m ((c.tc : Thread nD τ).loc main_arg3)) (((cfg0.win 4).blk t).view.emb y) := by
  have ht : t.val < 16 := t.isLt.trans_eq N_0
  obtain ⟨s, r, l, n, rfl, e, hn⟩ : ∃ (s : Fin 8) (r : Fin 2048) (l : Fin 128) (n : Fin 128), y = ix3 s r l
      ∧ ((cfg0.win 4).blk t).view.emb y = ix3 n r l ∧ n.val = t.val * 8 + s.val := by
    idx_vars y
    exact ⟨y0, y1, y2, ⟨t.val * 8 + y0.val, by omega⟩, rfl, by blk_ext [idx t], rfl⟩
  have hi : (grid0.coords t 0).val < 16 := (crd_val t).trans_lt ht
  have k : (outsAt0 m c t.val t.isLt).1 (ix3 s r l)
      = cell (grid0.coords t 0).val hi (iblk m c 0 t) (iblk m c 1 t) (iblk m c 2 t) (iblk m c 3 t) s r l := by
    by_cases h0 : t.val % 16 = 0
    · rw [outsAt0_A m c t h0]
      dsimp only
      exact (stored c (grid0.coords t) (ms0_0 t) (hs0_0 t) (ms0_1 t) (hs0_1 t) (ms0_2 t) (hs0_2 t) (ms0_3 t) (hs0_3 t)
        (ms0_4 t) (hs0_4 t) (ms0_5 t) (hs0_5 t) (iblk m c 0 t) (iblk m c 1 t) (iblk m c 2 t) (iblk m c 3 t) (iblk m c 1 t) hi (ix3 s r l)).1 ((hcond0_0 t).mpr h0)
    · rw [outsAt0_B m c t h0]
      dsimp only
      exact (stored c (grid0.coords t) (ms0_0 t) (hs0_0 t) (ms0_1 t) (hs0_1 t) (ms0_2 t) (hs0_2 t) (ms0_3 t) (hs0_3 t)
        (ms0_4 t) (hs0_4 t) (ms0_5 t) (hs0_5 t) (iblk m c 0 t) (iblk m c 1 t) (iblk m c 2 t) (iblk m c 3 t)
        (outsAt0 m c (t.val - 1) (Nat.lt_of_le_of_lt (Nat.sub_le _ _) t.isLt)).2 hi (ix3 s r l)).2 (fun h => h0 ((hcond0_0 t).mp h))
  rw [k, e, whole_apply]
  unfold cell
  rw [read0 m c t _ _ _ n hn, read1, read2, read3 m c t _ _ n hn]
  have en : (⟨(grid0.coords t 0).val * 8 + s.val, by omega⟩ : Fin 128) = n := Fin.ext (by rw [hn, ← crd_val t])
  rw [en]

theorem final4 : (dats m 0 c).arrAt 4 cfg0.N = whole (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  blk_simp
  rw [after0_4]
  exact point4 m c t y

end

/-- From memories that hold the same arguments, kernel and reference end with the same state. -/
theorem algebraic : Cert.algebraic_SssmIdeal_SssmRefIdeal := by
  intro m g m' g' _ h
  refine ⟨fun c => (dats m 0 c).arrAt 4 cfg0.N, (θ_run _ _ _).mono (fun r hr c => ⟨(hr c).1, (hr c).2.2⟩) (run_blocks m g), ?_⟩
  refine (θ_run _ _ _).mono (fun r hr c => ?_) (Cert.SssmRefIdeal.Stage.run_staged m' g')
  obtain ⟨a0, a1, a2, a3⟩ := h c
  obtain ⟨r0, k⟩ := hr c
  rw [a0, a1, a2, a3] at r0
  exact ⟨r0.trans (final4 m c).symm, k⟩

end Cert.SssmIdeal.Value
-- ==== Proof.V.SswaRef.lean ====
/- One token's window attention per sample, as the reference computes it: its operations by stages and each entry of its results. -/
module

public import proofs.«01_k».proof.Defs
public import proofs.«01_k».proof.Proof.Gen.SswaRefIdeal.Run
public import proofs.«01_k».proof.Proof.V.Reals
public import proofs.«01_k».proof.SswaRefIdeal
public import Idealize.ShloMosaic.Lib.Pointwise

@[expose] public section
set_option maxRecDepth 16384
noncomputable section

open Idealize.ShloMosaic Idealize.ShloMosaic.TcCoe Idealize.SL.Sem

namespace Cert.SswaRefIdeal.Stage
open Cert.SswaRefIdeal Cert.SswaRefIdeal.Gen

/-- A window moved on by the new token. -/
def window (C : FVec Ideal S1x128x4x64x128 .f32) (K : FVec Ideal S16x256x8 .f32) : FVec Ideal S128x4x64x128 .f32 :=
  concatenate S128x4x64x128 3 [⟨S128x4x64x127, (extractStridedSlice S128x4x64x127 ![0, 0, 0, 1] (shapeCast _ C shapeCasts_S1x128x4x64x128_S128x4x64x128) slices_S128x4x64x128_S128x4x64x127_0_0_0_1)⟩,
    ⟨S128x4x64x1, (shapeCast _ (transpose S16x8x256 [0, 2, 1] K transposes_S16x256x8_S16x8x256_0_2_1) shapeCasts_S16x8x256_S128x4x64x1)⟩]
    concatenates_S128x4x64x127_S128x4x64x1_S128x4x64x128_d3

/-- The scores of the queries against the window of keys. -/
def scores (Q : FVec Ideal S128x4x8x64 .f32) (W : FVec Ideal S128x4x64x128 .f32) : FVec Ideal S128x4x8x128 .f32 :=
  mulf (Host.dotGeneral (φ₁ := .f32) (φ₂ := .f32) dot_S128x4x8x64_S128x4x64x128_S128x4x8x128_3_2_2_3_01_01 none Q W : FVec Ideal S128x4x8x128 .f32)
    (broadcastInDim S128x4x8x128 ![] bcast_S_S128x4x8x128 (constant S_ .f32 0x3E000000#32))

/-- The sinks by group and head. -/
def sinks (k : FVec Ideal S32x1 .f32) : FVec Ideal S1x4x8x1 .f32 := shapeCast _ k shapeCasts_S32x1_S1x4x8x1

/-- Each row's greatest score. -/
def most (s : FVec Ideal S128x4x8x128 .f32) : FVec Ideal S128x4x8 .f32 :=
  Host.reduce FloatOps.maximumf s (constant S_ .f32 0xFF800000#32) reducesTo_S128x4x8x128_S128x4x8_d3 h_S_

/-- The greatest of each row and its sink. -/
def top (M : FVec Ideal S128x4x8 .f32) (k : FVec Ideal S1x4x8x1 .f32) : FVec Ideal S128x4x8x1 .f32 :=
  maximumf (broadcastInDim S128x4x8x1 ![0, 1, 2] bcast_S128x4x8_S128x4x8x1_0_1_2 M)
    (broadcastInDim S128x4x8x1 ![0, 1, 2, 3] bcast_S1x4x8x1_S128x4x8x1_0_1_2_3 k)

/-- The exponentials of the scores less the greatest. -/
def exps (s : FVec Ideal S128x4x8x128 .f32) (t : FVec Ideal S128x4x8x1 .f32) : FVec Ideal S128x4x8x128 .f32 :=
  Host.exp (subf s (broadcastInDim S128x4x8x128 ![0, 1, 2, 3] bcast_S128x4x8x1_S128x4x8x128_0_1_2_3 t))

/-- The exponentials over their sum and the sink's. -/
def weights (p : FVec Ideal S128x4x8x128 .f32) (k : FVec Ideal S1x4x8x1 .f32) (t : FVec Ideal S128x4x8x1 .f32) : FVec Ideal S128x4x8x128 .f32 :=
  Host.divf p (broadcastInDim S128x4x8x128 ![0, 1, 2, 3] bcast_S128x4x8x1_S128x4x8x128_0_1_2_3
    (addf (broadcastInDim S128x4x8x1 ![0, 1, 2] bcast_S128x4x8_S128x4x8x1_0_1_2
        (Host.reduceAdd p (constant S_ .f32 0x00000000#32) reducesTo_S128x4x8x128_S128x4x8_d3 h_S_))
      (Host.exp (subf (broadcastInDim S128x4x8x1 ![0, 1, 2, 3] bcast_S1x4x8x1_S128x4x8x1_0_1_2_3 k) t))))

/-- The attended rows. -/
def rows (w : FVec Ideal S128x4x8x128 .f32) (W : FVec Ideal S128x4x64x128 .f32) : FVec Ideal S128x4x8x64 .f32 :=
  Host.dotGeneral (φ₁ := .f32) (φ₂ := .f32) dot_S128x4x8x128_S128x4x64x128_S128x4x8x64_3_3_2_2_01_01 none w W

/-- The attended rows of scores. -/
def attended (s : FVec Ideal S128x4x8x128 .f32) (W : FVec Ideal S128x4x64x128 .f32) (k : FVec Ideal S1x4x8x1 .f32) : FVec Ideal S128x4x8x64 .f32 :=
  rows (weights (exps s (top (most s) k)) k (top (most s) k)) W

/-- What the reference computes: its results, and its arguments untouched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = attended (scores (m ((c.tc : Thread nD τ).loc main_arg0))
          (window (m ((c.tc : Thread nD τ).loc main_arg3)) (m ((c.tc : Thread nD τ).loc main_arg1))))
          (window (m ((c.tc : Thread nD τ).loc main_arg4)) (m ((c.tc : Thread nD τ).loc main_arg2))) (sinks (m ((c.tc : Thread nD τ).loc main_arg5)))
      ∧ r.2.mem ((c.tc : Thread nD τ).loc main_v4) = window (m ((c.tc : Thread nD τ).loc main_arg3)) (m ((c.tc : Thread nD τ).loc main_arg1))
      ∧ r.2.mem ((c.tc : Thread nD τ).loc main_v9) = window (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The reference terminates, its arguments unchanged and every counter at zero. -/
theorem frame : Cert.quiescent_SswaRefIdeal := fun m ρ _ =>
  (θ_run (defs (F := Ideal)) _ _).mono (fun r h => And.intro (fun c => (h c).2.2.2) (sem_eq_zero_of_no_sems (by decide) r.2))
    (run_staged m ρ)

/-- One entry of a moved window: the token at the last place, the next place of the cache at another. -/
theorem window_apply (C : FVec Ideal S1x128x4x64x128 .f32) (K : FVec Ideal S16x256x8 .f32) (n : Fin 128) (g : Fin 4) (d : Fin 64) (l : Fin 128) :
    window C K (ix4 n g d l) = if l.val = 127 then K (ix3 (⟨n.val / 8, by omega⟩ : Fin 16) (⟨g.val * 64 + d.val, by omega⟩ : Fin 256) (⟨n.val % 8, by omega⟩ : Fin 8))
      else C (ix5 (0 : Fin 1) n g d (⟨(l.val + 1) % 128, by omega⟩ : Fin 128)) := by
  pointwise [window]
  by_cases h : l.val = 127
  · rw [dif_neg (by omega), if_pos h]
  · rw [dif_pos (by omega), if_neg h]
    exact congrArg (fun q => C (ix5 (0 : Fin 1) n g d q)) (Fin.ext (by simp only []; omega))

/-- A row's weights: its scores' exponentials over their sum and the sink's. -/
def prob (s : Fin 128 → EReal) (k : EReal) (l : Fin 128) : EReal :=
  Ideal.div (Ideal.exp (s l - max (Finset.univ.fold max (Ideal.ofBits .f32 0xFF800000#32) s) k))
    (∑ x, Ideal.exp (s x - max (Finset.univ.fold max (Ideal.ofBits .f32 0xFF800000#32) s) k)
      + Ideal.exp (k - max (Finset.univ.fold max (Ideal.ofBits .f32 0xFF800000#32) s) k))

theorem scores_apply (Q : FVec Ideal S128x4x8x64 .f32) (W : FVec Ideal S128x4x64x128 .f32) (n : Fin 128) (g : Fin 4) (r : Fin 8) (l : Fin 128) :
    scores Q W (ix4 n g r l) = (∑ d : Fin 64, Q (ix4 n g r d) * W (ix4 n g d l)) * Ideal.ofBits .f32 0x3E000000#32 := by
  pointwise [scores]

theorem sinks_apply (k : FVec Ideal S32x1 .f32) (g : Fin 4) (r : Fin 8) :
    sinks k (ix4 0 g r 0) = k (ix2 (⟨g.val * 8 + r.val, by omega⟩ : Fin 32) 0) := by
  pointwise [sinks]

theorem most_apply (s : FVec Ideal S128x4x8x128 .f32) (n : Fin 128) (g : Fin 4) (r : Fin 8) :
    most s (ix3 n g r) = Finset.univ.fold max (Ideal.ofBits .f32 0xFF800000#32) (fun l => s (ix4 n g r l)) :=
  Cert.Reals.max_last s (constant S_ .f32 0xFF800000#32) h_S_ reducesTo_S128x4x8x128_S128x4x8_d3 (by decide) n g r

theorem weights_apply (s : FVec Ideal S128x4x8x128 .f32) (M : FVec Ideal S128x4x8 .f32) (k : FVec Ideal S1x4x8x1 .f32) (n : Fin 128) (g : Fin 4) (r : Fin 8) (l : Fin 128) :
    weights (exps s (top M k)) k (top M k) (ix4 n g r l)
      = Ideal.div (Ideal.exp (s (ix4 n g r l) - max (M (ix3 n g r)) (k (ix4 0 g r 0))))
        (∑ x, Ideal.exp (s (ix4 n g r x) - max (M (ix3 n g r)) (k (ix4 0 g r 0))) + Ideal.exp (k (ix4 0 g r 0) - max (M (ix3 n g r)) (k (ix4 0 g r 0)))) := by
  pointwise [weights, exps, top]

theorem rows_apply (w : FVec Ideal S128x4x8x128 .f32) (W : FVec Ideal S128x4x64x128 .f32) (n : Fin 128) (g : Fin 4) (r : Fin 8) (d : Fin 64) :
    rows w W (ix4 n g r d) = ∑ l : Fin 128, w (ix4 n g r l) * W (ix4 n g d l) := by
  pointwise [rows]

/-- One entry of the attended rows. -/
theorem attended_apply (s : FVec Ideal S128x4x8x128 .f32) (W : FVec Ideal S128x4x64x128 .f32) (k : FVec Ideal S1x4x8x1 .f32) (n : Fin 128) (g : Fin 4) (r : Fin 8) (d : Fin 64) :
    attended s W k (ix4 n g r d) = ∑ l, prob (fun x => s (ix4 n g r x)) (k (ix4 0 g r 0)) l * W (ix4 n g d l) := by
  unfold attended
  rw [rows_apply]
  refine Finset.sum_congr rfl fun l _ => ?_
  rw [weights_apply, most_apply]
  rfl

end Cert.SswaRefIdeal.Stage
-- ==== Proof.V.Sswa.lean ====
/- One token's window attention per sample: the new windows and the attended rows are the reference's, and the claim. -/
module

public import proofs.«01_k».proof.Proof.Gen.SswaIdeal.Value
public import proofs.«01_k».proof.Proof.V.SswaRef
public import proofs.«01_k».proof.Proof.V.Gmoe
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)

namespace Cert.SswaIdeal.Value
open Cert.SswaIdeal Cert.SswaIdeal.Gen
open Cert.SswaRefIdeal.Stage (window window_apply attended attended_apply scores scores_apply sinks sinks_apply prob)

/-- An entry of a point's new window: the token at the last place, the cache's next place at another. -/
def shifted (K : FVec Ideal S1x256x8 .f32) (C : FVec Ideal S1x8x4x64x128 .f32) (s : Fin 8) (g : Fin 4) (d : Fin 64) (l : Fin 128) : EReal :=
  if l.val = 127 then K (ix3 (0 : Fin 1) (⟨g.val * 64 + d.val, by omega⟩ : Fin 256) s)
  else C (ix5 (0 : Fin 1) s g d (⟨(l.val + 1) % 128, by omega⟩ : Fin 128))

/-- The kernel's entry, read at indices of the same values. -/
theorem shifted_eq (K : FVec Ideal S1x256x8 .f32) (C : FVec Ideal S1x8x4x64x128 .f32) (s s' s'' : Fin 8) (g g' : Fin 4) (d d' : Fin 64) (l l' l'' : Fin 128)
    (b : Fin 256) (hs' : s'.val = s.val) (hs'' : s''.val = s.val) (hg : g'.val = g.val) (hd : d'.val = d.val) (hl : l'.val = l.val)
    (hb : b.val = g.val * 64 + d.val) (hr : l''.val = (l.val + 1) % 128) :
    Scalar.select (IntOp.cmpi .eq (BitVec.ofNat 32 l'.val) 127#32) (K (ix3 (0 : Fin 1) b s')) (C (ix5 (0 : Fin 1) s'' g' d' l''))
      = shifted K C s g d l := by
  obtain rfl := Fin.ext hs'
  obtain rfl := Fin.ext hs''
  obtain rfl := Fin.ext hg
  obtain rfl := Fin.ext hd
  obtain rfl := Fin.ext hl
  have eb : b = (⟨g'.val * 64 + d'.val, by have := g'.isLt; have := d'.isLt; clear hb; omega⟩ : Fin 256) := Fin.ext hb
  have er : l'' = (⟨(l'.val + 1) % 128, by clear hr; omega⟩ : Fin 128) := Fin.ext hr
  have q : IntOp.cmpi .eq (BitVec.ofNat 32 l'.val) 127#32 = 1#1 ↔ l'.val = 127 := by
    rw [StableHlo.Predicate.cmpi_eq_iff]
    have := l'.isLt
    constructor
    · intro h
      have h' := congrArg BitVec.toNat h
      simp only [BitVec.toNat_ofNat] at h'
      omega
    · intro h
      rw [h]
  unfold shifted
  by_cases h : l'.val = 127
  · rw [if_pos h, eb]
    exact if_pos (q.2 h)
  · rw [if_neg h, er]
    exact if_neg fun k => h (q.1 k)

set_option maxHeartbeats 16000000 in
/-- Every piece of the two windows a point stores is its part of the shifted windows. -/
theorem stored (c : Dev nD) (i : grid0.Coords) (arg1 : Memref sig .tc .vmem S8x4x8x64 .f32) (harg1 : arg1.IsWhole) (arg2 : Memref sig .tc .vmem S1x256x8 .f32) (harg2 : arg2.IsWhole) (arg3 : Memref sig .tc .vmem S1x256x8 .f32) (harg3 : arg3.IsWhole)
    (arg4 : Memref sig .tc .vmem S1x8x4x64x128 .f32) (harg4 : arg4.IsWhole) (arg5 : Memref sig .tc .vmem S1x8x4x64x128 .f32) (harg5 : arg5.IsWhole) (arg6 : Memref sig .tc .vmem S32x1 .f32) (harg6 : arg6.IsWhole)
    (arg7 : Memref sig .tc .vmem S8x4x8x64 .f32) (harg7 : arg7.IsWhole) (arg8 : Memref sig .tc .vmem S8x4x64x128 .f32) (harg8 : arg8.IsWhole) (arg9 : Memref sig .tc .vmem S8x4x64x128 .f32) (harg9 : arg9.IsWhole)
    (scM : Memref sig .tc .vmem S256x128 .f32) (hscM : scM.IsWhole)
    (x0 : FVec Ideal S8x4x8x64 .f32) (x1 x2 : FVec Ideal S1x256x8 .f32) (x3 x4 : FVec Ideal S1x8x4x64x128 .f32) (x5 : FVec Ideal S32x1 .f32) (y : S8x4x64x128.Idx) :
    out0_A_7 (F := Ideal) c i arg1 harg1 arg2 harg2 arg3 harg3 arg4 harg4 arg5 harg5 arg6 harg6 arg7 harg7 arg8 harg8 arg9 harg9 scM hscM x0 x1 x2 x3 x4 x5 y
      = shifted x1 x3 (y 0) (y 1) (y 2) (y 3)
    ∧ out0_A_8 (F := Ideal) c i arg1 harg1 arg2 harg2 arg3 harg3 arg4 harg4 arg5 harg5 arg6 harg6 arg7 harg7 arg8 harg8 arg9 harg9 scM hscM x0 x1 x2 x3 x4 x5 y
      = shifted x2 x4 (y 0) (y 1) (y 2) (y 3) := by
  refine ⟨?_, ?_⟩
  all_goals
    frame_out
    canon_tiles x a
    all_goals
      open_payloads
      pointwise
      refine shifted_eq _ _ _ _ _ _ _ _ _ _ _ _ _ ?_ ?_ ?_ ?_ ?_ ?_ ?_
      all_goals first | rfl | omega | (simp only [Fin.val_mk]; omega) | (simp; omega)

/-- A score of a point: the query against the new window of keys, scaled. -/
def score (Q : FVec Ideal S8x4x8x64 .f32) (K : FVec Ideal S1x256x8 .f32) (C : FVec Ideal S1x8x4x64x128 .f32) (s : Fin 8) (g : Fin 4) (r : Fin 8)
    (l : Fin 128) : EReal :=
  (∑ d : Fin 64, Q (ix4 s g r d) * shifted K C s g d l) * Ideal.ofBits .f32 0x3E000000#32

/-- An entry read at indices of the same values. -/
theorem at4 {a b c d : ℕ} (Q : FVec Ideal ⟨4, ![a, b, c, d]⟩ .f32) (i i' : Fin a) (j j' : Fin b) (k k' : Fin c) (l l' : Fin d)
    (hi : i'.val = i.val) (hj : j'.val = j.val) (hk : k'.val = k.val) (hl : l'.val = l.val) :
    Q (ix4 i' j' k' l') = Q (ix4 i j k l) := by
  rw [Fin.ext hi, Fin.ext hj, Fin.ext hk, Fin.ext hl]

/-- The kernel's weights are those of its scores and sinks. -/
theorem prob_apply (Sc : FVec Ideal S256x128 .f32) (K : FVec Ideal S256x1 .f32) (R : Fin 256) (l : Fin 128) :
    k0_pay163 (F := Ideal) Sc K (ix2 R l) = prob (fun x => Sc (ix2 R x)) (K (ix2 R 0)) l := by
  pointwise [k0_pay163]
  rfl

/-- The kernel's sinks repeat by sample. -/
theorem sink_apply (x5 : FVec Ideal S32x1 .f32) (R : Fin 256) :
    k0_pay162 (F := Ideal) x5 (ix2 R 0) = x5 (ix2 (⟨R.val % 32, by omega⟩ : Fin 32) 0) := by
  pointwise [k0_pay162]
  split_ifs
  all_goals exact congrArg (fun q => x5 (ix2 q 0)) (Fin.ext (by simp only []; omega))

/-- A row's weighted values, read at indices of the same values. -/
theorem cell (Pn : FVec Ideal S256x128 .f32) (Vo : FVec Ideal S8x4x64x128 .f32) (S : Fin 8 → Fin 4 → Fin 8 → Fin 128 → EReal) (k : Fin 32 → EReal)
    (W : Fin 8 → Fin 4 → Fin 64 → Fin 128 → EReal)
    (hP : ∀ (R : Fin 256) (l : Fin 128), Pn (ix2 R l) = prob (S (⟨R.val / 32, by omega⟩) (⟨R.val / 8 % 4, by omega⟩) (⟨R.val % 8, by omega⟩))
      (k (⟨R.val % 32, by omega⟩)) l)
    (hV : ∀ s g d l, Vo (ix4 s g d l) = W s g d l)
    (s s' : Fin 8) (g g' : Fin 4) (r : Fin 8) (d d' : Fin 64) (R : Fin 256) (b : Fin 32)
    (hR : R.val = s.val * 32 + g.val * 8 + r.val) (hs : s'.val = s.val) (hg : g'.val = g.val) (hd : d'.val = d.val)
    (hb : b.val = g.val * 8 + r.val) :
    ∑ l, Pn (ix2 R l) * Vo (ix4 s' g' d' l) = ∑ l, prob (S s g r) (k b) l * W s g d l := by
  obtain rfl := Fin.ext hs
  obtain rfl := Fin.ext hg
  obtain rfl := Fin.ext hd
  refine Finset.sum_congr rfl fun l _ => ?_
  have h1 : (⟨R.val / 32, by omega⟩ : Fin 8) = s' := Fin.ext (by simp only []; omega)
  have h2 : (⟨R.val / 8 % 4, by omega⟩ : Fin 4) = g' := Fin.ext (by simp only []; omega)
  have h3 : (⟨R.val % 8, by omega⟩ : Fin 8) = r := Fin.ext (by simp only []; omega)
  have h4 : (⟨R.val % 32, by omega⟩ : Fin 32) = b := Fin.ext (by simp only []; omega)
  rw [hP, hV, h1, h2, h3, h4]

set_option maxHeartbeats 16000000 in
/-- Every piece of the attended rows a point stores is its part of the rows of weighted values. -/
theorem attended_rows (c : Dev nD) (i : grid0.Coords) (arg1 : Memref sig .tc .vmem S8x4x8x64 .f32) (harg1 : arg1.IsWhole) (arg2 : Memref sig .tc .vmem S1x256x8 .f32) (harg2 : arg2.IsWhole) (arg3 : Memref sig .tc .vmem S1x256x8 .f32) (harg3 : arg3.IsWhole)
    (arg4 : Memref sig .tc .vmem S1x8x4x64x128 .f32) (harg4 : arg4.IsWhole) (arg5 : Memref sig .tc .vmem S1x8x4x64x128 .f32) (harg5 : arg5.IsWhole) (arg6 : Memref sig .tc .vmem S32x1 .f32) (harg6 : arg6.IsWhole)
    (arg7 : Memref sig .tc .vmem S8x4x8x64 .f32) (harg7 : arg7.IsWhole) (arg8 : Memref sig .tc .vmem S8x4x64x128 .f32) (harg8 : arg8.IsWhole) (arg9 : Memref sig .tc .vmem S8x4x64x128 .f32) (harg9 : arg9.IsWhole)
    (scM : Memref sig .tc .vmem S256x128 .f32) (hscM : scM.IsWhole)
    (x0 : FVec Ideal S8x4x8x64 .f32) (x1 x2 : FVec Ideal S1x256x8 .f32) (x3 x4 : FVec Ideal S1x8x4x64x128 .f32) (x5 : FVec Ideal S32x1 .f32) (y : S8x4x8x64.Idx) (b : Fin 32)
    (hb : b.val = (y 1).val * 8 + (y 2).val) :
    out0_A_6 (F := Ideal) c i arg1 harg1 arg2 harg2 arg3 harg3 arg4 harg4 arg5 harg5 arg6 harg6 arg7 harg7 arg8 harg8 arg9 harg9 scM hscM x0 x1 x2 x3 x4 x5 y
      = ∑ l, prob (score x0 x1 x3 (y 0) (y 1) (y 2)) (x5 (ix2 b 0)) l * shifted x2 x4 (y 0) (y 1) (y 3) l := by
  frame_out
  simp only [View.readCov_eq_canon']
  generalize hS : View.canon (Val := Elt Ideal) (s := S256x128) _ = Sc
  generalize hV : View.canon (Val := Elt Ideal) (s := S8x4x64x128) _ = Vo
  have hs : ∀ (R : Fin 256) (l : Fin 128), Sc (ix2 R l) = score x0 x1 x3 (⟨R.val / 32, by omega⟩) (⟨R.val / 8 % 4, by omega⟩) (⟨R.val % 8, by omega⟩) l := by
    intro R l
    generalize hz : (ix2 R l : S256x128.Idx) = z
    have z0 : (z 0).val = R.val := by rw [← hz]; rfl
    have z1 : (z 1).val = l.val := by rw [← hz]; rfl
    rw [← hS]
    clear hS hV hz
    canon_tiles x a
    all_goals
      open_payloads
      pointwise
      refine congrArg (fun p : EReal => p * _) (Finset.sum_congr rfl fun d _ => congrArg₂ (fun p q : EReal => p * q)
        (at4 x0 _ _ _ _ _ _ _ _ ?_ ?_ ?_ ?_) (shifted_eq _ _ _ _ _ _ _ _ _ _ _ _ _ ?_ ?_ ?_ ?_ ?_ ?_ ?_))
      all_goals first | rfl | omega | (simp only [Fin.val_mk]; omega) | (simp; omega)
  have hv : ∀ (s : Fin 8) (g : Fin 4) (d : Fin 64) (l : Fin 128), Vo (ix4 s g d l) = shifted x2 x4 s g d l := by
    intro s g d l
    generalize hz : (ix4 s g d l : S8x4x64x128.Idx) = z
    have z0 : (z 0).val = s.val := by rw [← hz]; rfl
    have z1 : (z 1).val = g.val := by rw [← hz]; rfl
    have z2 : (z 2).val = d.val := by rw [← hz]; rfl
    have z3 : (z 3).val = l.val := by rw [← hz]; rfl
    rw [← hV]
    clear hS hV hz
    canon_tiles x a
    all_goals
      open_payloads
      pointwise
      refine shifted_eq _ _ _ _ _ _ _ _ _ _ _ _ _ ?_ ?_ ?_ ?_ ?_ ?_ ?_
      all_goals first | rfl | omega | (simp only [Fin.val_mk]; omega) | (simp; omega)
  clear hS hV
  simp only [k0_pay164, k0_pay165, k0_pay166]
  generalize hP : k0_pay163 (F := Ideal) _ _ = Pn
  have hp : ∀ (R : Fin 256) (l : Fin 128), Pn (ix2 R l) = prob (score x0 x1 x3 (⟨R.val / 32, by omega⟩) (⟨R.val / 8 % 4, by omega⟩) (⟨R.val % 8, by omega⟩))
      (x5 (ix2 (⟨R.val % 32, by omega⟩ : Fin 32) 0)) l := by
    as_aux_lemma =>
    intro R l
    rw [← hP, prob_apply, sink_apply]
    refine congrArg (fun f => prob f _ l) (funext fun k => ?_)
    rw [← hs]
    pointwise
  clear hP hs
  canon_tiles x a
  all_goals as_aux_lemma =>
    open_payloads
    pointwise
    refine cell Pn Vo (score x0 x1 x3) (fun b => x5 (ix2 b 0)) (shifted x2 x4) hp hv _ _ _ _ _ _ _ _ _ ?_ ?_ ?_ ?_ ?_
    all_goals first | rfl | omega | (simp only [Fin.val_mk]; omega) | (simp; omega)

/-- A point's new window against the whole one, where the point's blocks are its parts of the cache and of the tokens. -/
theorem moved (K : FVec Ideal S1x256x8 .f32) (C : FVec Ideal S1x8x4x64x128 .f32) (K' : FVec Ideal S16x256x8 .f32) (C' : FVec Ideal S1x128x4x64x128 .f32)
    (t : ℕ) (ht : t < 16)
    (hK : ∀ (b : Fin 256) (s : Fin 8) (u : Fin 16), u.val = t → K (ix3 (0 : Fin 1) b s) = K' (ix3 u b s))
    (hC : ∀ (s : Fin 8) (g : Fin 4) (d : Fin 64) (l n : Fin 128), n.val = t * 8 + s.val → C (ix5 (0 : Fin 1) s g d l) = C' (ix5 (0 : Fin 1) n g d l))
    (s : Fin 8) (g : Fin 4) (d : Fin 64) (l n : Fin 128) (hn : n.val = t * 8 + s.val) :
    shifted K C s g d l = window C' K' (ix4 n g d l) := by
  have h1 : (⟨n.val / 8, by omega⟩ : Fin 16) = ⟨t, ht⟩ := Fin.ext (by simp only []; omega)
  have h2 : (⟨n.val % 8, by omega⟩ : Fin 8) = s := Fin.ext (by simp only []; omega)
  rw [window_apply, h1, h2, ← hK _ _ _ rfl, ← hC s g d _ n hn]
  rfl

section
variable (m : (ℓ : Loc nD τ sig) → Buf (Elt Ideal) ℓ) (c : Dev nD)

theorem idx : ∀ t : Fin cfg0.N, win0_0.index t = ![t.val, 0, 0, 0] ∧ win0_1.index t = ![t.val, 0, 0] ∧ win0_2.index t = ![t.val, 0, 0]
    ∧ win0_3.index t = ![0, t.val, 0, 0, 0] ∧ win0_4.index t = ![0, t.val, 0, 0, 0] ∧ win0_5.index t = ![0, 0]
    ∧ win0_6.index t = ![t.val, 0, 0, 0] ∧ win0_7.index t = ![t.val, 0, 0, 0] ∧ win0_8.index t = ![t.val, 0, 0, 0] :=
  (by decide +kernel : ∀ t : Fin grid0.N, _)

/-- What each window's block holds, of the arrays at launch. -/
theorem read0 (t : Fin cfg0.N) (s : Fin 8) (g : Fin 4) (r : Fin 8) (d : Fin 64) (n : Fin 128) (hn : n.val = t.val * 8 + s.val) :
    iblk m c 0 t (ix4 s g r d) = m ((c.tc : Thread nD τ).loc main_arg0) (ix4 n g r d) := by
  blk_point [iblk, V, idx t]

theorem read1 (t : Fin cfg0.N) (b : Fin 256) (s : Fin 8) (u : Fin 16) (hu : u.val = t.val) :
    iblk m c 1 t (ix3 (0 : Fin 1) b s) = m ((c.tc : Thread nD τ).loc main_arg1) (ix3 u b s) := by
  blk_point [iblk, V, idx t]

theorem read2 (t : Fin cfg0.N) (b : Fin 256) (s : Fin 8) (u : Fin 16) (hu : u.val = t.val) :
    iblk m c 2 t (ix3 (0 : Fin 1) b s) = m ((c.tc : Thread nD τ).loc main_arg2) (ix3 u b s) := by
  blk_point [iblk, V, idx t]

theorem read3 (t : Fin cfg0.N) (s : Fin 8) (g : Fin 4) (d : Fin 64) (l n : Fin 128) (hn : n.val = t.val * 8 + s.val) :
    iblk m c 3 t (ix5 (0 : Fin 1) s g d l) = m ((c.tc : Thread nD τ).loc main_arg3) (ix5 (0 : Fin 1) n g d l) := by
  blk_point [iblk, V, idx t]

theorem read4 (t : Fin cfg0.N) (s : Fin 8) (g : Fin 4) (d : Fin 64) (l n : Fin 128) (hn : n.val = t.val * 8 + s.val) :
    iblk m c 4 t (ix5 (0 : Fin 1) s g d l) = m ((c.tc : Thread nD τ).loc main_arg4) (ix5 (0 : Fin 1) n g d l) := by
  blk_point [iblk, V, idx t]

theorem read5 (t : Fin cfg0.N) (b : Fin 32) :
    iblk m c 5 t (ix2 b 0) = m ((c.tc : Thread nD τ).loc main_arg5) (ix2 b 0) := by
  blk_point [iblk, V, idx t]

/-- A point's new window is the reference's at the block's place. -/
theorem point7 (t : Fin cfg0.N) (y : S8x4x64x128.Idx) :
    (outsAt0 m c t).2.1 y = window (m ((c.tc : Thread nD τ).loc main_arg3)) (m ((c.tc : Thread nD τ).loc main_arg1)) (((cfg0.win 7).blk t).view.emb y) := by
  have ht : t.val < 16 := t.isLt.trans_eq N_0
  obtain ⟨s, g, d, l, n, rfl, e, hn⟩ : ∃ (s : Fin 8) (g : Fin 4) (d : Fin 64) (l : Fin 128) (n : Fin 128), y = ix4 s g d l
      ∧ ((cfg0.win 7).blk t).view.emb y = ix4 n g d l ∧ n.val = t.val * 8 + s.val := by
    idx_vars y
    exact ⟨y0, y1, y2, y3, ⟨t.val * 8 + y0.val, by omega⟩, rfl, by blk_ext [idx t], rfl⟩
  have k : (outsAt0 m c t).2.1 (ix4 s g d l) = shifted (iblk m c 1 t) (iblk m c 3 t) s g d l := by
    unfold outsAt0
    dsimp only
    exact (stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (ix4 s g d l)).1
  rw [k, e]
  exact moved _ _ _ _ t.val ht (fun b s u hu => read1 m c t b s u hu) (fun s g d l n hn => read3 m c t s g d l n hn) s g d l n hn

theorem final7 : (dats m 0 c).arrAt 7 cfg0.N = window (m ((c.tc : Thread nD τ).loc main_arg3)) (m ((c.tc : Thread nD τ).loc main_arg1)) := by
  refine (dats m 0 c).arrAt_eq_of_covers 7 _ (by decide +kernel) fun t _ y => ?_
  blk_simp
  rw [after0_7]
  exact point7 m c t y

/-- A point's new window is the reference's at the block's place. -/
theorem point8 (t : Fin cfg0.N) (y : S8x4x64x128.Idx) :
    (outsAt0 m c t).2.2 y = window (m ((c.tc : Thread nD τ).loc main_arg4)) (m ((c.tc : Thread nD τ).loc main_arg2)) (((cfg0.win 8).blk t).view.emb y) := by
  have ht : t.val < 16 := t.isLt.trans_eq N_0
  obtain ⟨s, g, d, l, n, rfl, e, hn⟩ : ∃ (s : Fin 8) (g : Fin 4) (d : Fin 64) (l : Fin 128) (n : Fin 128), y = ix4 s g d l
      ∧ ((cfg0.win 8).blk t).view.emb y = ix4 n g d l ∧ n.val = t.val * 8 + s.val := by
    idx_vars y
    exact ⟨y0, y1, y2, y3, ⟨t.val * 8 + y0.val, by omega⟩, rfl, by blk_ext [idx t], rfl⟩
  have k : (outsAt0 m c t).2.2 (ix4 s g d l) = shifted (iblk m c 2 t) (iblk m c 4 t) s g d l := by
    unfold outsAt0
    dsimp only
    exact (stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (ix4 s g d l)).2
  rw [k, e]
  exact moved _ _ _ _ t.val ht (fun b s u hu => read2 m c t b s u hu) (fun s g d l n hn => read4 m c t s g d l n hn) s g d l n hn

theorem final8 : (dats m 0 c).arrAt 8 cfg0.N = window (m ((c.tc : Thread nD τ).loc main_arg4)) (m ((c.tc : Thread nD τ).loc main_arg2)) := by
  refine (dats m 0 c).arrAt_eq_of_covers 8 _ (by decide +kernel) fun t _ y => ?_
  blk_simp
  rw [after0_8]
  exact point8 m c t y

/-- A point's attended rows are the reference's at the block's place. -/
theorem point6 (t : Fin cfg0.N) (y : S8x4x8x64.Idx) :
    (outsAt0 m c t).1 y = attended (scores (m ((c.tc : Thread nD τ).loc main_arg0)) (window (m ((c.tc : Thread nD τ).loc main_arg3)) (m ((c.tc : Thread nD τ).loc main_arg1))))
      (window (m ((c.tc : Thread nD τ).loc main_arg4)) (m ((c.tc : Thread nD τ).loc main_arg2))) (sinks (m ((c.tc : Thread nD τ).loc main_arg5))) (((cfg0.win 6).blk t).view.emb y) := by
  have ht : t.val < 16 := t.isLt.trans_eq N_0
  obtain ⟨s, g, r, d, n, rfl, e, hn⟩ : ∃ (s : Fin 8) (g : Fin 4) (r : Fin 8) (d : Fin 64) (n : Fin 128), y = ix4 s g r d
      ∧ ((cfg0.win 6).blk t).view.emb y = ix4 n g r d ∧ n.val = t.val * 8 + s.val := by
    idx_vars y
    exact ⟨y0, y1, y2, y3, ⟨t.val * 8 + y0.val, by omega⟩, rfl, by blk_ext [idx t], rfl⟩
  have k : (outsAt0 m c t).1 (ix4 s g r d) = ∑ l, prob (score (iblk m c 0 t) (iblk m c 1 t) (iblk m c 3 t) s g r)
      (iblk m c 5 t (ix2 (⟨g.val * 8 + r.val, by omega⟩ : Fin 32) 0)) l * shifted (iblk m c 2 t) (iblk m c 4 t) s g d l := by
    unfold outsAt0
    dsimp only
    exact attended_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (ix4 s g r d) (⟨g.val * 8 + r.val, by omega⟩ : Fin 32) rfl
  have v1 (d : Fin 64) (l : Fin 128) := moved _ _ _ _ t.val ht (fun b s u hu => read1 m c t b s u hu) (fun s g d l n hn => read3 m c t s g d l n hn) s g d l n hn
  have v2 (l : Fin 128) := moved _ _ _ _ t.val ht (fun b s u hu => read2 m c t b s u hu) (fun s g d l n hn => read4 m c t s g d l n hn) s g d l n hn
  have q : score (iblk m c 0 t) (iblk m c 1 t) (iblk m c 3 t) s g r
      = fun x => scores (m ((c.tc : Thread nD τ).loc main_arg0)) (window (m ((c.tc : Thread nD τ).loc main_arg3)) (m ((c.tc : Thread nD τ).loc main_arg1))) (ix4 n g r x) := by
    funext x
    rw [scores_apply]
    unfold score
    refine congrArg (fun p : EReal => p * _) (Finset.sum_congr rfl fun d _ => ?_)
    rw [read0 m c t s g r d n hn, v1 d x]
  rw [k, e, attended_apply, q, sinks_apply, read5]
  exact Finset.sum_congr rfl fun l _ => by rw [v2 l]

theorem final6 : (dats m 0 c).arrAt 6 cfg0.N = attended (scores (m ((c.tc : Thread nD τ).loc main_arg0)) (window (m ((c.tc : Thread nD τ).loc main_arg3)) (m ((c.tc : Thread nD τ).loc main_arg1))))
      (window (m ((c.tc : Thread nD τ).loc main_arg4)) (m ((c.tc : Thread nD τ).loc main_arg2))) (sinks (m ((c.tc : Thread nD τ).loc main_arg5))) := by
  refine (dats m 0 c).arrAt_eq_of_covers 6 _ (by decide +kernel) fun t _ y => ?_
  blk_simp
  rw [after0_6]
  exact point6 m c t y

end

/-- From memories that hold the same arguments, kernel and reference end with the same rows and windows. -/
theorem algebraic : Cert.algebraic_SswaIdeal_SswaRefIdeal := by
  intro m g m' g' _ h
  refine ⟨fun c => (dats m 0 c).arrAt 6 cfg0.N, fun c => (dats m 0 c).arrAt 7 cfg0.N, fun c => (dats m 0 c).arrAt 8 cfg0.N, run_blocks m g, ?_⟩
  refine (θ_run _ _ _).mono (fun r hr c => ?_) (Cert.SswaRefIdeal.Stage.run_staged m' g')
  obtain ⟨a0, a1, a2, a3, a4, a5⟩ := h c
  obtain ⟨r0, r1, r2, k⟩ := hr c
  rw [a0, a1, a2, a3, a4, a5] at r0
  rw [a1, a3] at r1
  rw [a2, a4] at r2
  exact ⟨r0.trans (final6 m c).symm, r1.trans (final7 m c).symm, r2.trans (final8 m c).symm, k⟩

end Cert.SswaIdeal.Value
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Gmoe
public import proofs.«01_k».proof.Proof.Gen.Gmoe.Skeleton
public import proofs.«01_k».proof.Proof.Gen.Gmoe.Launch
public import proofs.«01_k».proof.Proof.Gen.Gmoe.Flash
public import proofs.«01_k».proof.Proof.Gen.GmoeIdeal
public import proofs.«01_k».proof.Proof.Gen.GmoeIdeal.Skeleton
public import proofs.«01_k».proof.Proof.Gen.GmoeIdeal.Launch
public import proofs.«01_k».proof.Proof.Gen.GmoeIdeal.Flash
public import proofs.«01_k».proof.Proof.Gen.GmoeRefIdeal
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontRefIdeal
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Sswa
public import proofs.«01_k».proof.Proof.Gen.Sswa.Skeleton
public import proofs.«01_k».proof.Proof.Gen.Sswa.Launch
public import proofs.«01_k».proof.Proof.Gen.Sswa.Points
public import proofs.«01_k».proof.Proof.Gen.Sswa.Frame
public import proofs.«01_k».proof.Proof.Gen.SswaIdeal
public import proofs.«01_k».proof.Proof.Gen.SswaIdeal.Skeleton
public import proofs.«01_k».proof.Proof.Gen.SswaIdeal.Launch
public import proofs.«01_k».proof.Proof.Gen.SswaIdeal.Points
public import proofs.«01_k».proof.Proof.Gen.SswaIdeal.Frame
public import proofs.«01_k».proof.Proof.Gen.SswaRefIdeal
public import proofs.«01_k».proof.Proof.Gen.Sssm
public import proofs.«01_k».proof.Proof.Gen.Sssm.Skeleton
public import proofs.«01_k».proof.Proof.Gen.Sssm.Launch
public import proofs.«01_k».proof.Proof.Gen.Sssm.Points
public import proofs.«01_k».proof.Proof.Gen.Sssm.Frame
public import proofs.«01_k».proof.Proof.Gen.SssmIdeal
public import proofs.«01_k».proof.Proof.Gen.SssmIdeal.Skeleton
public import proofs.«01_k».proof.Proof.Gen.SssmIdeal.Launch
public import proofs.«01_k».proof.Proof.Gen.SssmIdeal.Points
public import proofs.«01_k».proof.Proof.Gen.SssmIdeal.Frame
public import proofs.«01_k».proof.Proof.Gen.SssmRefIdeal
public import proofs.«01_k».proof.Proof.Gen.Pre_finite_scores
public import proofs.«01_k».proof.Proof.Gen.Pre_tables
public import proofs.«01_k».proof.Proof.Gen.Pre_routed
public import proofs.«01_k».proof.Proof.Gen.Pre_finite_experts
public import proofs.«01_k».proof.Proof.Gen.AttnIdeal.Value
public import proofs.«01_k».proof.Proof.Gen.AttnRefIdeal.Run
public import proofs.«01_k».proof.Proof.Gen.MemKvIdeal.Value
public import proofs.«01_k».proof.Proof.Gen.MemKvRefIdeal.Run
public import proofs.«01_k».proof.Proof.Gen.GmoeRefIdeal.Run
public import proofs.«01_k».proof.Proof.Gen.BackIdeal.Value
public import proofs.«01_k».proof.Proof.Gen.BackRefIdeal.Run
public import proofs.«01_k».proof.Proof.Gen.FrontRefIdeal.Run
public import proofs.«01_k».proof.Proof.Gen.MoeIdeal.Value
public import proofs.«01_k».proof.Proof.Gen.MoeRefIdeal.Run
public import proofs.«01_k».proof.Proof.Gen.SswaIdeal.Value
public import proofs.«01_k».proof.Proof.Gen.SswaRefIdeal.Run
public import proofs.«01_k».proof.Proof.Gen.SssmIdeal.Value
public import proofs.«01_k».proof.Proof.Gen.SssmRefIdeal.Run
public import proofs.«01_k».proof.Proof.V.MemKv
public import proofs.«01_k».proof.Proof.V.Attn
public import proofs.«01_k».proof.Proof.V.Gmoe
public import proofs.«01_k».proof.Proof.V.GmoeFrame
public import proofs.«01_k».proof.Proof.V.GmoeRef
public import proofs.«01_k».proof.Proof.V.Back
public import proofs.«01_k».proof.Proof.V.FrontFrame
public import proofs.«01_k».proof.Proof.V.FrontRef
public import proofs.«01_k».proof.Proof.V.Front
public import proofs.«01_k».proof.Proof.V.MoeRef
public import proofs.«01_k».proof.Proof.V.Moe
public import proofs.«01_k».proof.Proof.V.SssmRef
public import proofs.«01_k».proof.Proof.V.Sssm
public import proofs.«01_k».proof.Proof.V.SswaRef
public import proofs.«01_k».proof.Proof.V.Sswa
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.MemKv.Gen.facts, Cert.MemKvIdeal.Gen.facts, Cert.MemKvRefIdeal.Gen.facts, Cert.Gmoe.Gen.facts, Cert.GmoeIdeal.Gen.facts, Cert.GmoeRefIdeal.Gen.facts, Cert.Front.Gen.facts, Cert.FrontIdeal.Gen.facts, Cert.FrontRefIdeal.Gen.facts, Cert.Back.Gen.facts, Cert.BackIdeal.Gen.facts, Cert.BackRefIdeal.Gen.facts, Cert.Moe.Gen.facts, Cert.MoeIdeal.Gen.facts, Cert.MoeRefIdeal.Gen.facts, Cert.Sswa.Gen.facts, Cert.SswaIdeal.Gen.facts, Cert.SswaRefIdeal.Gen.facts, Cert.Sssm.Gen.facts, Cert.SssmIdeal.Gen.facts, Cert.SssmRefIdeal.Gen.facts, Cert.Pre_finite_scores.Gen.facts, Cert.Pre_tables.Gen.facts, Cert.Pre_routed.Gen.facts, Cert.Pre_finite_experts.Gen.facts, by
  exact ⟨fun m ρ _ => Cert.Attn.Gen.frame m ρ,
    fun m ρ _ => Cert.AttnIdeal.Gen.frame m ρ,
    fun m ρ _ => Cert.AttnIdeal.Gen.frame m ρ,
    fun m ρ _ => Cert.AttnRefIdeal.Stage.frame m ρ trivial,
    fun m ρ _ => Cert.AttnRefIdeal.Stage.frame m ρ trivial,
    fun m ρ _ => Cert.MemKv.Gen.frame m ρ,
    fun m ρ _ => Cert.MemKvIdeal.Gen.frame m ρ,
    fun m ρ _ => Cert.MemKvRefIdeal.Stage.frame m ρ trivial,
    Cert.GmoeIdeal.Body.quiescent_bits,
    Cert.GmoeIdeal.Body.quiescent_ideal,
    Cert.GmoeIdeal.Body.quiescent_routed,
    Cert.GmoeRefIdeal.Stage.frame,
    Cert.GmoeRefIdeal.Stage.frame_routed,
    Cert.FrontIdeal.Body.quiescent_bits,
    Cert.FrontIdeal.Body.quiescent_ideal,
    Cert.FrontRefIdeal.Stage.frame,
    fun m ρ _ => Cert.Back.Gen.frame m ρ,
    fun m ρ _ => Cert.BackIdeal.Gen.frame m ρ,
    fun m ρ _ => Cert.BackRefIdeal.Stage.frame m ρ trivial,
    fun m ρ _ => Cert.Moe.Gen.frame m ρ,
    fun m ρ _ => Cert.MoeIdeal.Gen.frame m ρ,
    fun m ρ _ => Cert.MoeIdeal.Gen.frame m ρ,
    fun m ρ _ => Cert.MoeRefIdeal.Stage.frame m ρ trivial,
    fun m ρ _ => Cert.MoeRefIdeal.Stage.frame m ρ trivial,
    fun m ρ _ => Cert.Sswa.Gen.frame m ρ,
    fun m ρ _ => Cert.SswaIdeal.Gen.frame m ρ,
    fun m ρ _ => Cert.SswaRefIdeal.Stage.frame m ρ trivial,
    fun m ρ _ => Cert.Sssm.Gen.frame m ρ,
    fun m ρ _ => Cert.SssmIdeal.Gen.frame m ρ,
    fun m ρ _ => Cert.SssmRefIdeal.Stage.frame m ρ trivial,
    trivial,
    Cert.AttnIdeal.Value.algebraic,
    trivial,
    Cert.MemKvIdeal.Value.algebraic,
    trivial,
    Cert.GmoeIdeal.Body.algebraic,
    trivial,
    Cert.FrontIdeal.Value.algebraic,
    trivial,
    Cert.BackIdeal.Value.algebraic,
    trivial,
    Cert.MoeIdeal.Value.algebraic,
    trivial,
    Cert.SswaIdeal.Value.algebraic,
    trivial,
    Cert.SssmIdeal.Value.algebraic⟩⟩

end Cert.Proof

end
